-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_XattnSample (m : (ℓ : Loc Cert.XattnSample.nD Cert.XattnSample.τ Cert.XattnSample.sig) → Buf (Elt Bits) ℓ) : Prop :=
  True

def Pre_XattnSampleIdeal (m : (ℓ : Loc Cert.XattnSampleIdeal.nD Cert.XattnSampleIdeal.τ Cert.XattnSampleIdeal.sig) → Buf (Elt Ideal) ℓ) : Prop :=
  True

def Pre_XattnSampleIdeal_finite_keys [hPre_finite_keys : Cert.Pre_finite_keys.Facts] (m : (ℓ : Loc Cert.XattnSampleIdeal.nD Cert.XattnSampleIdeal.τ Cert.XattnSampleIdeal.sig) → Buf (Elt Ideal) ℓ) : Prop :=
  ∀ c : Dev Cert.XattnSampleIdeal.nD,
    (Cert.Pre_finite_keys.fn (F := Ideal) (m ((c.tc : Thread Cert.XattnSampleIdeal.nD Cert.XattnSampleIdeal.τ).loc Cert.XattnSampleIdeal.main_arg0)) (m ((c.tc : Thread Cert.XattnSampleIdeal.nD Cert.XattnSampleIdeal.τ).loc Cert.XattnSampleIdeal.main_arg1))) = (fun _ => 1#1)

def Pre_XattnSampleRefIdeal (m : (ℓ : Loc Cert.XattnSampleRefIdeal.nD Cert.XattnSampleRefIdeal.τ Cert.XattnSampleRefIdeal.sig) → Buf (Elt Ideal) ℓ) : Prop :=
  True

def Pre_XattnSampleRefIdeal_finite_keys [hPre_finite_keys : Cert.Pre_finite_keys.Facts] (m : (ℓ : Loc Cert.XattnSampleRefIdeal.nD Cert.XattnSampleRefIdeal.τ Cert.XattnSampleRefIdeal.sig) → Buf (Elt Ideal) ℓ) : Prop :=
  ∀ c : Dev Cert.XattnSampleRefIdeal.nD,
    (Cert.Pre_finite_keys.fn (F := Ideal) (m ((c.tc : Thread Cert.XattnSampleRefIdeal.nD Cert.XattnSampleRefIdeal.τ).loc Cert.XattnSampleRefIdeal.main_arg0)) (m ((c.tc : Thread Cert.XattnSampleRefIdeal.nD Cert.XattnSampleRefIdeal.τ).loc Cert.XattnSampleRefIdeal.main_arg1))) = (fun _ => 1#1)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6)
      ∧ r.2.mem ((c.tc : Thread Cert.FfnSampleRefIdeal.nD Cert.FfnSampleRefIdeal.τ).loc Cert.FfnSampleRefIdeal.main_arg7) = m ((c.tc : Thread Cert.FfnSampleRefIdeal.nD Cert.FfnSampleRefIdeal.τ).loc Cert.FfnSampleRefIdeal.main_arg7))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4)
      ∧ r.2.mem ((c.tc : Thread Cert.OutSample.nD Cert.OutSample.τ).loc Cert.OutSample.main_arg5) = m ((c.tc : Thread Cert.OutSample.nD Cert.OutSample.τ).loc Cert.OutSample.main_arg5))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
      ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4)
      ∧ r.2.mem ((c.tc : Thread Cert.OutSampleRefIdeal.nD Cert.OutSampleRefIdeal.τ).loc Cert.OutSampleRefIdeal.main_arg5) = m ((c.tc : Thread Cert.OutSampleRefIdeal.nD Cert.OutSampleRefIdeal.τ).loc Cert.OutSampleRefIdeal.main_arg5))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2))
      ∧ r.2.sem = fun _ => 0)

def quiescent_XattnSample [hXattnSample : Cert.XattnSample.Facts] : Prop :=
  ∀ (m : (ℓ : Loc Cert.XattnSample.nD Cert.XattnSample.τ Cert.XattnSample.sig) → Buf (Elt Bits) ℓ) (g : Dev Cert.XattnSample.nD → PrngReg), Pre_XattnSample m →
    θ_run (Cert.XattnSample.defs (F := Bits)) (onTc (τ := Cert.XattnSample.τ) (Cert.XattnSample.main (F := Bits))) ⟨m, fun _ => 0, g⟩ (fun r => (∀ c : Dev Cert.XattnSample.nD,
      r.2.mem ((c.tc : Thread Cert.XattnSample.nD Cert.XattnSample.τ).loc Cert.XattnSample.main_arg0) = m ((c.tc : Thread Cert.XattnSample.nD Cert.XattnSample.τ).loc Cert.XattnSample.main_arg0)
      ∧ r.2.mem ((c.tc : Thread Cert.XattnSample.nD Cert.XattnSample.τ).loc Cert.XattnSample.main_arg1) = m ((c.tc : Thread Cert.XattnSample.nD Cert.XattnSample.τ).loc Cert.XattnSample.main_arg1))
      ∧ r.2.sem = fun _ => 0)

def quiescent_XattnSampleIdeal [hXattnSampleIdeal : Cert.XattnSampleIdeal.Facts] : Prop :=
  ∀ (m : (ℓ : Loc Cert.XattnSampleIdeal.nD Cert.XattnSampleIdeal.τ Cert.XattnSampleIdeal.sig) → Buf (Elt Ideal) ℓ) (g : Dev Cert.XattnSampleIdeal.nD → PrngReg), Pre_XattnSampleIdeal m →
    θ_run (Cert.XattnSampleIdeal.defs (F := Ideal)) (onTc (τ := Cert.XattnSampleIdeal.τ) (Cert.XattnSampleIdeal.main (F := Ideal))) ⟨m, fun _ => 0, g⟩ (fun r => (∀ c : Dev Cert.XattnSampleIdeal.nD,
      r.2.mem ((c.tc : Thread Cert.XattnSampleIdeal.nD Cert.XattnSampleIdeal.τ).loc Cert.XattnSampleIdeal.main_arg0) = m ((c.tc : Thread Cert.XattnSampleIdeal.nD Cert.XattnSampleIdeal.τ).loc Cert.XattnSampleIdeal.main_arg0)
      ∧ r.2.mem ((c.tc : Thread Cert.XattnSampleIdeal.nD Cert.XattnSampleIdeal.τ).loc Cert.XattnSampleIdeal.main_arg1) = m ((c.tc : Thread Cert.XattnSampleIdeal.nD Cert.XattnSampleIdeal.τ).loc Cert.XattnSampleIdeal.main_arg1))
      ∧ r.2.sem = fun _ => 0)

def quiescent_XattnSampleIdeal_pre_finite_keys [hXattnSampleIdeal : Cert.XattnSampleIdeal.Facts] [hPre_finite_keys : Cert.Pre_finite_keys.Facts] : Prop :=
  ∀ (m : (ℓ : Loc Cert.XattnSampleIdeal.nD Cert.XattnSampleIdeal.τ Cert.XattnSampleIdeal.sig) → Buf (Elt Ideal) ℓ) (g : Dev Cert.XattnSampleIdeal.nD → PrngReg), Pre_XattnSampleIdeal_finite_keys m →
    θ_run (Cert.XattnSampleIdeal.defs (F := Ideal)) (onTc (τ := Cert.XattnSampleIdeal.τ) (Cert.XattnSampleIdeal.main (F := Ideal))) ⟨m, fun _ => 0, g⟩ (fun r => (∀ c : Dev Cert.XattnSampleIdeal.nD,
      r.2.mem ((c.tc : Thread Cert.XattnSampleIdeal.nD Cert.XattnSampleIdeal.τ).loc Cert.XattnSampleIdeal.main_arg0) = m ((c.tc : Thread Cert.XattnSampleIdeal.nD Cert.XattnSampleIdeal.τ).loc Cert.XattnSampleIdeal.main_arg0)
      ∧ r.2.mem ((c.tc : Thread Cert.XattnSampleIdeal.nD Cert.XattnSampleIdeal.τ).loc Cert.XattnSampleIdeal.main_arg1) = m ((c.tc : Thread Cert.XattnSampleIdeal.nD Cert.XattnSampleIdeal.τ).loc Cert.XattnSampleIdeal.main_arg1))
      ∧ r.2.sem = fun _ => 0)

def quiescent_XattnSampleRefIdeal [hXattnSampleRefIdeal : Cert.XattnSampleRefIdeal.Facts] : Prop :=
  ∀ (m : (ℓ : Loc Cert.XattnSampleRefIdeal.nD Cert.XattnSampleRefIdeal.τ Cert.XattnSampleRefIdeal.sig) → Buf (Elt Ideal) ℓ) (g : Dev Cert.XattnSampleRefIdeal.nD → PrngReg), Pre_XattnSampleRefIdeal m →
    θ_run (Cert.XattnSampleRefIdeal.defs (F := Ideal)) (onTc (τ := Cert.XattnSampleRefIdeal.τ) (Cert.XattnSampleRefIdeal.main (F := Ideal))) ⟨m, fun _ => 0, g⟩ (fun r => (∀ c : Dev Cert.XattnSampleRefIdeal.nD,
      r.2.mem ((c.tc : Thread Cert.XattnSampleRefIdeal.nD Cert.XattnSampleRefIdeal.τ).loc Cert.XattnSampleRefIdeal.main_arg0) = m ((c.tc : Thread Cert.XattnSampleRefIdeal.nD Cert.XattnSampleRefIdeal.τ).loc Cert.XattnSampleRefIdeal.main_arg0)
      ∧ r.2.mem ((c.tc : Thread Cert.XattnSampleRefIdeal.nD Cert.XattnSampleRefIdeal.τ).loc Cert.XattnSampleRefIdeal.main_arg1) = m ((c.tc : Thread Cert.XattnSampleRefIdeal.nD Cert.XattnSampleRefIdeal.τ).loc Cert.XattnSampleRefIdeal.main_arg1))
      ∧ r.2.sem = fun _ => 0)

def quiescent_XattnSampleRefIdeal_pre_finite_keys [hXattnSampleRefIdeal : Cert.XattnSampleRefIdeal.Facts] [hPre_finite_keys : Cert.Pre_finite_keys.Facts] : Prop :=
  ∀ (m : (ℓ : Loc Cert.XattnSampleRefIdeal.nD Cert.XattnSampleRefIdeal.τ Cert.XattnSampleRefIdeal.sig) → Buf (Elt Ideal) ℓ) (g : Dev Cert.XattnSampleRefIdeal.nD → PrngReg), Pre_XattnSampleRefIdeal_finite_keys m →
    θ_run (Cert.XattnSampleRefIdeal.defs (F := Ideal)) (onTc (τ := Cert.XattnSampleRefIdeal.τ) (Cert.XattnSampleRefIdeal.main (F := Ideal))) ⟨m, fun _ => 0, g⟩ (fun r => (∀ c : Dev Cert.XattnSampleRefIdeal.nD,
      r.2.mem ((c.tc : Thread Cert.XattnSampleRefIdeal.nD Cert.XattnSampleRefIdeal.τ).loc Cert.XattnSampleRefIdeal.main_arg0) = m ((c.tc : Thread Cert.XattnSampleRefIdeal.nD Cert.XattnSampleRefIdeal.τ).loc Cert.XattnSampleRefIdeal.main_arg0)
      ∧ r.2.mem ((c.tc : Thread Cert.XattnSampleRefIdeal.nD Cert.XattnSampleRefIdeal.τ).loc Cert.XattnSampleRefIdeal.main_arg1) = m ((c.tc : Thread Cert.XattnSampleRefIdeal.nD Cert.XattnSampleRefIdeal.τ).loc Cert.XattnSampleRefIdeal.main_arg1))
      ∧ r.2.sem = fun _ => 0)

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)
      ∧ m' ((c.tc : Thread Cert.XattnRefIdeal.nD Cert.XattnRefIdeal.τ).loc Cert.XattnRefIdeal.main_arg7) = m ((c.tc : Thread Cert.XattnIdeal.nD Cert.XattnIdeal.τ).loc Cert.XattnIdeal.main_arg7)) →
    ∃ (v0 : (c : Dev Cert.XattnIdeal.nD) → Buf (Elt Ideal) ((c.tc : Thread Cert.XattnIdeal.nD Cert.XattnIdeal.τ).loc Cert.XattnIdeal.main_v5)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v5) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v40) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6)
          ∧ r.2.mem ((c.tc : Thread Cert.XattnRefIdeal.nD Cert.XattnRefIdeal.τ).loc Cert.XattnRefIdeal.main_arg7) = m' ((c.tc : Thread Cert.XattnRefIdeal.nD Cert.XattnRefIdeal.τ).loc Cert.XattnRefIdeal.main_arg7))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v10_0)) (v1 : (c : Dev Cert.MixInIdeal.nD) → Buf (Elt Ideal) ((c.tc : Thread Cert.MixInIdeal.nD Cert.MixInIdeal.τ).loc Cert.MixInIdeal.main_v10_1)) (v2 : (c : Dev Cert.MixInIdeal.nD) → Buf (Elt Ideal) ((c.tc : Thread Cert.MixInIdeal.nD Cert.MixInIdeal.τ).loc Cert.MixInIdeal.main_v10_2)) (v3 : (c : Dev Cert.MixInIdeal.nD) → Buf (Elt Ideal) ((c.tc : Thread Cert.MixInIdeal.nD Cert.MixInIdeal.τ).loc Cert.MixInIdeal.main_v10_3)) (v4 : (c : Dev Cert.MixInIdeal.nD) → Buf (Elt Ideal) ((c.tc : Thread Cert.MixInIdeal.nD Cert.MixInIdeal.τ).loc Cert.MixInIdeal.main_v10_4)) (v5 : (c : Dev Cert.MixInIdeal.nD) → Buf (Elt Ideal) ((c.tc : Thread Cert.MixInIdeal.nD Cert.MixInIdeal.τ).loc Cert.MixInIdeal.main_v10_5)) (v6 : (c : Dev Cert.MixInIdeal.nD) → Buf (Elt Ideal) ((c.tc : Thread Cert.MixInIdeal.nD Cert.MixInIdeal.τ).loc Cert.MixInIdeal.main_v10_6)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v10_0) = v0 c
          ∧ r.2.mem ((c.tc : Thread Cert.MixInIdeal.nD Cert.MixInIdeal.τ).loc Cert.MixInIdeal.main_v10_1) = v1 c
          ∧ r.2.mem ((c.tc : Thread Cert.MixInIdeal.nD Cert.MixInIdeal.τ).loc Cert.MixInIdeal.main_v10_2) = v2 c
          ∧ r.2.mem ((c.tc : Thread Cert.MixInIdeal.nD Cert.MixInIdeal.τ).loc Cert.MixInIdeal.main_v10_3) = v3 c
          ∧ r.2.mem ((c.tc : Thread Cert.MixInIdeal.nD Cert.MixInIdeal.τ).loc Cert.MixInIdeal.main_v10_4) = v4 c
          ∧ r.2.mem ((c.tc : Thread Cert.MixInIdeal.nD Cert.MixInIdeal.τ).loc Cert.MixInIdeal.main_v10_5) = v5 c
          ∧ r.2.mem ((c.tc : Thread Cert.MixInIdeal.nD Cert.MixInIdeal.τ).loc Cert.MixInIdeal.main_v10_6) = v6 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v15) = v0 c
          ∧ r.2.mem ((c.tc : Thread Cert.MixInRefIdeal.nD Cert.MixInRefIdeal.τ).loc Cert.MixInRefIdeal.main_v17) = v1 c
          ∧ r.2.mem ((c.tc : Thread Cert.MixInRefIdeal.nD Cert.MixInRefIdeal.τ).loc Cert.MixInRefIdeal.main_v19) = v2 c
          ∧ r.2.mem ((c.tc : Thread Cert.MixInRefIdeal.nD Cert.MixInRefIdeal.τ).loc Cert.MixInRefIdeal.main_v21) = v3 c
          ∧ r.2.mem ((c.tc : Thread Cert.MixInRefIdeal.nD Cert.MixInRefIdeal.τ).loc Cert.MixInRefIdeal.main_v30) = v4 c
          ∧ r.2.mem ((c.tc : Thread Cert.MixInRefIdeal.nD Cert.MixInRefIdeal.τ).loc Cert.MixInRefIdeal.main_v32) = v5 c
          ∧ r.2.mem ((c.tc : Thread Cert.MixInRefIdeal.nD Cert.MixInRefIdeal.τ).loc Cert.MixInRefIdeal.main_v34) = v6 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)) →
    ∃ (v0 : (c : Dev Cert.MemProjIdeal.nD) → Buf (Elt Ideal) ((c.tc : Thread Cert.MemProjIdeal.nD Cert.MemProjIdeal.τ).loc Cert.MemProjIdeal.main_v3)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v3) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v14) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_v61) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)) →
    ∃ (v0 : (c : Dev Cert.MixSampleIdeal.nD) → Buf (Elt Ideal) ((c.tc : Thread Cert.MixSampleIdeal.nD Cert.MixSampleIdeal.τ).loc Cert.MixSampleIdeal.main_v11_0)) (v1 : (c : Dev Cert.MixSampleIdeal.nD) → Buf (Elt Ideal) ((c.tc : Thread Cert.MixSampleIdeal.nD Cert.MixSampleIdeal.τ).loc Cert.MixSampleIdeal.main_v11_1)) (v2 : (c : Dev Cert.MixSampleIdeal.nD) → Buf (Elt Ideal) ((c.tc : Thread Cert.MixSampleIdeal.nD Cert.MixSampleIdeal.τ).loc Cert.MixSampleIdeal.main_v11_2)) (v3 : (c : Dev Cert.MixSampleIdeal.nD) → Buf (Elt Ideal) ((c.tc : Thread Cert.MixSampleIdeal.nD Cert.MixSampleIdeal.τ).loc Cert.MixSampleIdeal.main_v11_3)) (v4 : (c : Dev Cert.MixSampleIdeal.nD) → Buf (Elt Ideal) ((c.tc : Thread Cert.MixSampleIdeal.nD Cert.MixSampleIdeal.τ).loc Cert.MixSampleIdeal.main_v11_4)) (v5 : (c : Dev Cert.MixSampleIdeal.nD) → Buf (Elt Ideal) ((c.tc : Thread Cert.MixSampleIdeal.nD Cert.MixSampleIdeal.τ).loc Cert.MixSampleIdeal.main_v11_5)) (v6 : (c : Dev Cert.MixSampleIdeal.nD) → Buf (Elt Ideal) ((c.tc : Thread Cert.MixSampleIdeal.nD Cert.MixSampleIdeal.τ).loc Cert.MixSampleIdeal.main_v11_6)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v11_0) = v0 c
          ∧ r.2.mem ((c.tc : Thread Cert.MixSampleIdeal.nD Cert.MixSampleIdeal.τ).loc Cert.MixSampleIdeal.main_v11_1) = v1 c
          ∧ r.2.mem ((c.tc : Thread Cert.MixSampleIdeal.nD Cert.MixSampleIdeal.τ).loc Cert.MixSampleIdeal.main_v11_2) = v2 c
          ∧ r.2.mem ((c.tc : Thread Cert.MixSampleIdeal.nD Cert.MixSampleIdeal.τ).loc Cert.MixSampleIdeal.main_v11_3) = v3 c
          ∧ r.2.mem ((c.tc : Thread Cert.MixSampleIdeal.nD Cert.MixSampleIdeal.τ).loc Cert.MixSampleIdeal.main_v11_4) = v4 c
          ∧ r.2.mem ((c.tc : Thread Cert.MixSampleIdeal.nD Cert.MixSampleIdeal.τ).loc Cert.MixSampleIdeal.main_v11_5) = v5 c
          ∧ r.2.mem ((c.tc : Thread Cert.MixSampleIdeal.nD Cert.MixSampleIdeal.τ).loc Cert.MixSampleIdeal.main_v11_6) = v6 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v23) = v0 c
          ∧ r.2.mem ((c.tc : Thread Cert.MixSampleRefIdeal.nD Cert.MixSampleRefIdeal.τ).loc Cert.MixSampleRefIdeal.main_v24) = v1 c
          ∧ r.2.mem ((c.tc : Thread Cert.MixSampleRefIdeal.nD Cert.MixSampleRefIdeal.τ).loc Cert.MixSampleRefIdeal.main_v25) = v2 c
          ∧ r.2.mem ((c.tc : Thread Cert.MixSampleRefIdeal.nD Cert.MixSampleRefIdeal.τ).loc Cert.MixSampleRefIdeal.main_v26) = v3 c
          ∧ r.2.mem ((c.tc : Thread Cert.MixSampleRefIdeal.nD Cert.MixSampleRefIdeal.τ).loc Cert.MixSampleRefIdeal.main_v22) = v4 c
          ∧ r.2.mem ((c.tc : Thread Cert.MixSampleRefIdeal.nD Cert.MixSampleRefIdeal.τ).loc Cert.MixSampleRefIdeal.main_v29) = v5 c
          ∧ r.2.mem ((c.tc : Thread Cert.MixSampleRefIdeal.nD Cert.MixSampleRefIdeal.τ).loc Cert.MixSampleRefIdeal.main_v32) = v6 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)
      ∧ m' ((c.tc : Thread Cert.FfnSampleRefIdeal.nD Cert.FfnSampleRefIdeal.τ).loc Cert.FfnSampleRefIdeal.main_arg7) = m ((c.tc : Thread Cert.FfnSampleIdeal.nD Cert.FfnSampleIdeal.τ).loc Cert.FfnSampleIdeal.main_arg7)) →
    ∃ (v0 : (c : Dev Cert.FfnSampleIdeal.nD) → Buf (Elt Ideal) ((c.tc : Thread Cert.FfnSampleIdeal.nD Cert.FfnSampleIdeal.τ).loc Cert.FfnSampleIdeal.main_v8_0)) (v1 : (c : Dev Cert.FfnSampleIdeal.nD) → Buf (Elt Ideal) ((c.tc : Thread Cert.FfnSampleIdeal.nD Cert.FfnSampleIdeal.τ).loc Cert.FfnSampleIdeal.main_v8_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v8_0) = v0 c
          ∧ r.2.mem ((c.tc : Thread Cert.FfnSampleIdeal.nD Cert.FfnSampleIdeal.τ).loc Cert.FfnSampleIdeal.main_v8_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v57) = v0 c
          ∧ r.2.mem ((c.tc : Thread Cert.FfnSampleRefIdeal.nD Cert.FfnSampleRefIdeal.τ).loc Cert.FfnSampleRefIdeal.main_v61) = v1 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6)
          ∧ r.2.mem ((c.tc : Thread Cert.FfnSampleRefIdeal.nD Cert.FfnSampleRefIdeal.τ).loc Cert.FfnSampleRefIdeal.main_arg7) = m' ((c.tc : Thread Cert.FfnSampleRefIdeal.nD Cert.FfnSampleRefIdeal.τ).loc Cert.FfnSampleRefIdeal.main_arg7))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)
      ∧ m' ((c.tc : Thread Cert.OutSampleRefIdeal.nD Cert.OutSampleRefIdeal.τ).loc Cert.OutSampleRefIdeal.main_arg5) = m ((c.tc : Thread Cert.OutSampleIdeal.nD Cert.OutSampleIdeal.τ).loc Cert.OutSampleIdeal.main_arg5)) →
    ∃ (v0 : (c : Dev Cert.OutSampleIdeal.nD) → Buf (Elt Ideal) ((c.tc : Thread Cert.OutSampleIdeal.nD Cert.OutSampleIdeal.τ).loc Cert.OutSampleIdeal.main_v6_0)) (v1 : (c : Dev Cert.OutSampleIdeal.nD) → Buf (Elt Ideal) ((c.tc : Thread Cert.OutSampleIdeal.nD Cert.OutSampleIdeal.τ).loc Cert.OutSampleIdeal.main_v6_1)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v6_0) = v0 c
          ∧ r.2.mem ((c.tc : Thread Cert.OutSampleIdeal.nD Cert.OutSampleIdeal.τ).loc Cert.OutSampleIdeal.main_v6_1) = v1 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
          ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v3) = v0 c
          ∧ r.2.mem ((c.tc : Thread Cert.OutSampleRefIdeal.nD Cert.OutSampleRefIdeal.τ).loc Cert.OutSampleRefIdeal.main_v20) = v1 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4)
          ∧ r.2.mem ((c.tc : Thread Cert.OutSampleRefIdeal.nD Cert.OutSampleRefIdeal.τ).loc Cert.OutSampleRefIdeal.main_arg5) = m' ((c.tc : Thread Cert.OutSampleRefIdeal.nD Cert.OutSampleRefIdeal.τ).loc Cert.OutSampleRefIdeal.main_arg5))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v3)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v3) = v0 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v2) = v0 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2))

def preserves_XattnSample_XattnSampleIdeal : Prop :=
  True

def algebraic_XattnSampleIdeal_XattnSampleRefIdeal_pre_finite_keys [hXattnSampleIdeal : Cert.XattnSampleIdeal.Facts] [hXattnSampleRefIdeal : Cert.XattnSampleRefIdeal.Facts] [hPre_finite_keys : Cert.Pre_finite_keys.Facts] : Prop :=
  ∀ (m : (ℓ : Loc Cert.XattnSampleIdeal.nD Cert.XattnSampleIdeal.τ Cert.XattnSampleIdeal.sig) → Buf (Elt Ideal) ℓ) (g : Dev Cert.XattnSampleIdeal.nD → PrngReg)
    (m' : (ℓ : Loc Cert.XattnSampleRefIdeal.nD Cert.XattnSampleRefIdeal.τ Cert.XattnSampleRefIdeal.sig) → Buf (Elt Ideal) ℓ) (g' : Dev Cert.XattnSampleRefIdeal.nD → PrngReg), Pre_XattnSampleIdeal_finite_keys m →
    (∀ c : Dev Cert.XattnSampleIdeal.nD,
      m' ((c.tc : Thread Cert.XattnSampleRefIdeal.nD Cert.XattnSampleRefIdeal.τ).loc Cert.XattnSampleRefIdeal.main_arg0) = m ((c.tc : Thread Cert.XattnSampleIdeal.nD Cert.XattnSampleIdeal.τ).loc Cert.XattnSampleIdeal.main_arg0)
      ∧ m' ((c.tc : Thread Cert.XattnSampleRefIdeal.nD Cert.XattnSampleRefIdeal.τ).loc Cert.XattnSampleRefIdeal.main_arg1) = m ((c.tc : Thread Cert.XattnSampleIdeal.nD Cert.XattnSampleIdeal.τ).loc Cert.XattnSampleIdeal.main_arg1)) →
    ∃ (v0 : (c : Dev Cert.XattnSampleIdeal.nD) → Buf (Elt Ideal) ((c.tc : Thread Cert.XattnSampleIdeal.nD Cert.XattnSampleIdeal.τ).loc Cert.XattnSampleIdeal.main_v3)),
      θ_run (Cert.XattnSampleIdeal.defs (F := Ideal)) (onTc (τ := Cert.XattnSampleIdeal.τ) (Cert.XattnSampleIdeal.main (F := Ideal))) ⟨m, fun _ => 0, g⟩ (fun r => ∀ c : Dev Cert.XattnSampleIdeal.nD,
          r.2.mem ((c.tc : Thread Cert.XattnSampleIdeal.nD Cert.XattnSampleIdeal.τ).loc Cert.XattnSampleIdeal.main_v3) = v0 c
          ∧ r.2.mem ((c.tc : Thread Cert.XattnSampleIdeal.nD Cert.XattnSampleIdeal.τ).loc Cert.XattnSampleIdeal.main_arg0) = m ((c.tc : Thread Cert.XattnSampleIdeal.nD Cert.XattnSampleIdeal.τ).loc Cert.XattnSampleIdeal.main_arg0)
          ∧ r.2.mem ((c.tc : Thread Cert.XattnSampleIdeal.nD Cert.XattnSampleIdeal.τ).loc Cert.XattnSampleIdeal.main_arg1) = m ((c.tc : Thread Cert.XattnSampleIdeal.nD Cert.XattnSampleIdeal.τ).loc Cert.XattnSampleIdeal.main_arg1))
      ∧ θ_run (Cert.XattnSampleRefIdeal.defs (F := Ideal)) (onTc (τ := Cert.XattnSampleRefIdeal.τ) (Cert.XattnSampleRefIdeal.main (F := Ideal))) ⟨m', fun _ => 0, g'⟩ (fun r => ∀ c : Dev Cert.XattnSampleRefIdeal.nD,
          r.2.mem ((c.tc : Thread Cert.XattnSampleRefIdeal.nD Cert.XattnSampleRefIdeal.τ).loc Cert.XattnSampleRefIdeal.main_v19) = v0 c
          ∧ r.2.mem ((c.tc : Thread Cert.XattnSampleRefIdeal.nD Cert.XattnSampleRefIdeal.τ).loc Cert.XattnSampleRefIdeal.main_arg0) = m' ((c.tc : Thread Cert.XattnSampleRefIdeal.nD Cert.XattnSampleRefIdeal.τ).loc Cert.XattnSampleRefIdeal.main_arg0)
          ∧ r.2.mem ((c.tc : Thread Cert.XattnSampleRefIdeal.nD Cert.XattnSampleRefIdeal.τ).loc Cert.XattnSampleRefIdeal.main_arg1) = m' ((c.tc : Thread Cert.XattnSampleRefIdeal.nD Cert.XattnSampleRefIdeal.τ).loc Cert.XattnSampleRefIdeal.main_arg1))

def Claim : Prop :=
  ∃ (hXattn : Cert.Xattn.Facts) (hXattnIdeal : Cert.XattnIdeal.Facts) (hXattnRefIdeal : Cert.XattnRefIdeal.Facts) (hMixIn : Cert.MixIn.Facts) (hMixInIdeal : Cert.MixInIdeal.Facts) (hMixInRefIdeal : Cert.MixInRefIdeal.Facts) (hMemProj : Cert.MemProj.Facts) (hMemProjIdeal : Cert.MemProjIdeal.Facts) (hMemProjRefIdeal : Cert.MemProjRefIdeal.Facts) (hFfn : Cert.Ffn.Facts) (hFfnIdeal : Cert.FfnIdeal.Facts) (hFfnRefIdeal : Cert.FfnRefIdeal.Facts) (hMixSample : Cert.MixSample.Facts) (hMixSampleIdeal : Cert.MixSampleIdeal.Facts) (hMixSampleRefIdeal : Cert.MixSampleRefIdeal.Facts) (hFfnSample : Cert.FfnSample.Facts) (hFfnSampleIdeal : Cert.FfnSampleIdeal.Facts) (hFfnSampleRefIdeal : Cert.FfnSampleRefIdeal.Facts) (hOutSample : Cert.OutSample.Facts) (hOutSampleIdeal : Cert.OutSampleIdeal.Facts) (hOutSampleRefIdeal : Cert.OutSampleRefIdeal.Facts) (hProjSample : Cert.ProjSample.Facts) (hProjSampleIdeal : Cert.ProjSampleIdeal.Facts) (hProjSampleRefIdeal : Cert.ProjSampleRefIdeal.Facts) (hXattnSample : Cert.XattnSample.Facts) (hXattnSampleIdeal : Cert.XattnSampleIdeal.Facts) (hXattnSampleRefIdeal : Cert.XattnSampleRefIdeal.Facts) (hPre_finite_keys : Cert.Pre_finite_keys.Facts),
    quiescent_Xattn (hXattn := hXattn)
    ∧ quiescent_XattnIdeal (hXattnIdeal := hXattnIdeal)
    ∧ quiescent_XattnRefIdeal (hXattnRefIdeal := hXattnRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_XattnSample (hXattnSample := hXattnSample)
    ∧ quiescent_XattnSampleIdeal (hXattnSampleIdeal := hXattnSampleIdeal)
    ∧ quiescent_XattnSampleIdeal_pre_finite_keys (hXattnSampleIdeal := hXattnSampleIdeal) (hPre_finite_keys := hPre_finite_keys)
    ∧ quiescent_XattnSampleRefIdeal (hXattnSampleRefIdeal := hXattnSampleRefIdeal)
    ∧ quiescent_XattnSampleRefIdeal_pre_finite_keys (hXattnSampleRefIdeal := hXattnSampleRefIdeal) (hPre_finite_keys := hPre_finite_keys)
    ∧ preserves_Xattn_XattnIdeal
    ∧ algebraic_XattnIdeal_XattnRefIdeal (hXattnIdeal := hXattnIdeal) (hXattnRefIdeal := hXattnRefIdeal)
    ∧ preserves_MixIn_MixInIdeal
    ∧ algebraic_MixInIdeal_MixInRefIdeal (hMixInIdeal := hMixInIdeal) (hMixInRefIdeal := hMixInRefIdeal)
    ∧ preserves_MemProj_MemProjIdeal
    ∧ algebraic_MemProjIdeal_MemProjRefIdeal (hMemProjIdeal := hMemProjIdeal) (hMemProjRefIdeal := hMemProjRefIdeal)
    ∧ preserves_Ffn_FfnIdeal
    ∧ algebraic_FfnIdeal_FfnRefIdeal (hFfnIdeal := hFfnIdeal) (hFfnRefIdeal := hFfnRefIdeal)
    ∧ preserves_MixSample_MixSampleIdeal
    ∧ algebraic_MixSampleIdeal_MixSampleRefIdeal (hMixSampleIdeal := hMixSampleIdeal) (hMixSampleRefIdeal := hMixSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_OutSample_OutSampleIdeal
    ∧ algebraic_OutSampleIdeal_OutSampleRefIdeal (hOutSampleIdeal := hOutSampleIdeal) (hOutSampleRefIdeal := hOutSampleRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_XattnSample_XattnSampleIdeal
    ∧ algebraic_XattnSampleIdeal_XattnSampleRefIdeal_pre_finite_keys (hXattnSampleIdeal := hXattnSampleIdeal) (hXattnSampleRefIdeal := hXattnSampleRefIdeal) (hPre_finite_keys := hPre_finite_keys)
-- ==== Pre_finite_keys.lean ====
abbrev S128x1x1024 : Shape := ⟨3, ![128, 1, 1024]⟩
abbrev S128x256x2x4x256 : Shape := ⟨5, ![128, 256, 2, 4, 256]⟩
abbrev S128x1x4x256 : Shape := ⟨4, ![128, 1, 4, 256]⟩
abbrev S_ : Shape := ⟨0, ![]⟩
abbrev S128x256x1x4x256 : Shape := ⟨5, ![128, 256, 1, 4, 256]⟩
abbrev S128x256x4x256 : Shape := ⟨4, ![128, 256, 4, 256]⟩

class Facts : Prop where
  shapeCasts_S128x1x1024_S128x1x4x256 : S128x1x1024.ShapeCasts S128x1x4x256
  bcast_S_S128x1x4x256 : S_.BroadcastsInDim S128x1x4x256 (![] : Fin 0 → Fin S128x1x4x256.rank)
  slices_S128x256x2x4x256_S128x256x1x4x256_0_0_0_0_0 : S128x256x2x4x256.Slices ![0, 0, 0, 0, 0] S128x256x1x4x256
  shapeCasts_S128x256x1x4x256_S128x256x4x256 : S128x256x1x4x256.ShapeCasts S128x256x4x256
  bcast_S_S128x256x4x256 : S_.BroadcastsInDim S128x256x4x256 (![] : Fin 0 → Fin S128x256x4x256.rank)
  bcast_S128x1x4x256_S128x256x4x256_0_1_2_3 : S128x1x4x256.BroadcastsInDim S128x256x4x256 (![0, 1, 2, 3] : Fin 4 → Fin S128x256x4x256.rank)

variable [Facts]

def fn {F : FTy → Type} [FloatOps F] (main_arg0 : FVec F S128x1x1024 .f32) (main_arg1 : FVec F S128x256x2x4x256 .f32) : IVec S128x256x4x256 1 :=
  let main_v0 : FVec F S128x1x4x256 .f32 := shapeCast S128x1x4x256 main_arg0 shapeCasts_S128x1x1024_S128x1x4x256
  let main_v1 : FVec F S128x1x4x256 .f32 := Host.absf main_v0
  let main_cst : FVec F S_ .f32 := constant S_ .f32 0x7F800000#32
  let main_v2 : FVec F S128x1x4x256 .f32 := broadcastInDim S128x1x4x256 ![] bcast_S_S128x1x4x256 main_cst
  let main_v3 : IVec S128x1x4x256 1 := cmpf .olt main_v1 main_v2
  let main_v4 : FVec F S128x256x1x4x256 .f32 := (extractStridedSlice S128x256x1x4x256 ![0, 0, 0, 0, 0] · slices_S128x256x2x4x256_S128x256x1x4x256_0_0_0_0_0) main_arg1
  let main_v5 : FVec F S128x256x4x256 .f32 := shapeCast S128x256x4x256 main_v4 shapeCasts_S128x256x1x4x256_S128x256x4x256
  let main_v6 : FVec F S128x256x4x256 .f32 := Host.absf main_v5
  let main_cst_0 : FVec F S_ .f32 := constant S_ .f32 0x7F800000#32
  let main_v7 : FVec F S128x256x4x256 .f32 := broadcastInDim S128x256x4x256 ![] bcast_S_S128x256x4x256 main_cst_0
  let main_v8 : IVec S128x256x4x256 1 := cmpf .olt main_v6 main_v7
  let main_v9 : IVec S128x256x4x256 1 := broadcastInDim S128x256x4x256 ![0, 1, 2, 3] bcast_S128x1x4x256_S128x256x4x256_0_1_2_3 main_v3
  let main_v10 : IVec S128x256x4x256 1 := andi main_v9 main_v8
  main_v10
-- ==== Xattn.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S8x256x2x4x256 : Shape := ⟨5, ![8, 256, 2, 4, 256]⟩
abbrev S1x1024 : Shape := ⟨2, ![1, 1024]⟩
abbrev S8x256x2048 : Shape := ⟨3, ![8, 256, 2048]⟩
abbrev S1x1024x1024 : Shape := ⟨3, ![1, 1024, 1024]⟩
abbrev S1x1024x512 : Shape := ⟨3, ![1, 1024, 512]⟩
abbrev S1x256x2048 : Shape := ⟨3, ![1, 256, 2048]⟩
abbrev S1024x512 : Shape := ⟨2, ![1024, 512]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8x256x2x4x256, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S8x256x2048, .f32⟩
  | .hbm, ⟨12, _⟩ => ⟨S1024x1024, .bf16⟩
  | .hbm, ⟨13, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x256x2048, .f32⟩
  | .local _ .vmem, ⟨10, _⟩ => ⟨S1x256x2048, .f32⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== XattnRefIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S8x256x2x4x256 : Shape := ⟨5, ![8, 256, 2, 4, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x1x4x256 : Shape := ⟨5, ![8, 256, 1, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8x256x2x4x256, .f32⟩
  | .hbm, ⟨7, _⟩ => ⟨S1024x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x4x256, .f32⟩
  | .hbm, ⟨29, _⟩ => ⟨S8x256x1x4x256, .f32⟩
  | .hbm, ⟨30, _⟩ => ⟨S8x256x4x256, .f32⟩
  | .hbm, ⟨31, _⟩ => ⟨S8x4x4096x256, .f32⟩
  | .hbm, ⟨32, _⟩ => ⟨S_, .f32⟩
  | .hbm, ⟨33, _⟩ => ⟨S8x4x4096x256, .f32⟩
  | .hbm, ⟨34, _⟩ => ⟨S8x4x4096x256, .f32⟩
  | .hbm, ⟨35, _⟩ => ⟨S_, .f32⟩
  | .hbm, ⟨36, _⟩ => ⟨S8x4x4096, .f32⟩
  | .hbm, ⟨37, _⟩ => ⟨S_, .f32⟩
  | .hbm, ⟨38, _⟩ => ⟨S8x4x4096, .f32⟩
  | .hbm, ⟨39, _⟩ => ⟨S8x4x4096, .f32⟩
  | .hbm, ⟨40, _⟩ => ⟨S8x4x4096x1, .f32⟩
  | .hbm, ⟨41, _⟩ => ⟨S8x4x4096x256, .f32⟩
  | .hbm, ⟨42, _⟩ => ⟨S8x4x4096x256, .f32⟩
  | .hbm, ⟨43, _⟩ => ⟨S8x4x4096x256, .f32⟩
  | .hbm, ⟨44, _⟩ => ⟨S_, .f32⟩
  | .hbm, ⟨45, _⟩ => ⟨S8x4x4096, .f32⟩
  | .hbm, ⟨46, _⟩ => ⟨S8x4x4096x1, .f32⟩
  | .hbm, ⟨47, _⟩ => ⟨S8x4x4096x256, .f32⟩
  | .hbm, ⟨48, _⟩ => ⟨S8x4x4096x256, .f32⟩
  | .hbm, ⟨49, _⟩ => ⟨S8x256x1x4x256, .f32⟩
  | .hbm, ⟨50, _⟩ => ⟨S8x256x4x256, .f32⟩
  | .hbm, ⟨51, _⟩ => ⟨S8x4x256x4096, .f32⟩
  | .hbm, ⟨52, _⟩ => ⟨S8x4096x4x256, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== MixIn.lean ====
abbrev S8x4096x1024 : Shape := ⟨3, ![8, 4096, 1024]⟩
abbrev S1024 : Shape := ⟨1, ![1024]⟩
abbrev S1024x1816 : Shape := ⟨2, ![1024, 1816]⟩
abbrev S1024x1408 : Shape := ⟨2, ![1024, 1408]⟩
abbrev S1024x24 : Shape := ⟨2, ![1024, 24]⟩
abbrev S_ : Shape := ⟨0, ![]⟩
abbrev S1024x128 : Shape := ⟨2, ![1024, 128]⟩
abbrev S1024x1536 : Shape := ⟨2, ![1024, 1536]⟩
abbrev S1x1024 : Shape := ⟨2, ![1, 1024]⟩
abbrev S1024x768 : Shape := ⟨2, ![1024, 768]⟩
abbrev S768x1024 : Shape := ⟨2, ![768, 1024]⟩
abbrev S32768x1024 : Shape := ⟨2, ![32768, 1024]⟩
abbrev S32768x512 : Shape := ⟨2, ![32768, 512]⟩
abbrev S32768x256 : Shape := ⟨2, ![32768, 256]⟩
abbrev S32768x128 : Shape := ⟨2, ![32768, 128]⟩
abbrev S8x512x4096 : Shape := ⟨3, ![8, 512, 4096]⟩
abbrev S8x256x4096 : Shape := ⟨3, ![8, 256, 4096]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1x512x512 : Shape := ⟨3, ![1, 512, 512]⟩
abbrev S1x256x512 : Shape := ⟨3, ![1, 256, 512]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S768x512 : Shape := ⟨2, ![768, 512]⟩
abbrev S256x512 : Shape := ⟨2, ![256, 512]⟩

abbrev nBuf : Space → Nat
  | .hbm => 22
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1816, .f32⟩
  | .hbm, ⟨3, _⟩ => ⟨S1024x1408, .f32⟩
  | .hbm, ⟨4, _⟩ => ⟨S1024x24, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x1536, .f32⟩
  | .hbm, ⟨9, _⟩ => ⟨S1x1024, .f32⟩
  | .hbm, ⟨10, _⟩ => ⟨S1024x1536, .bf16⟩
  | .hbm, ⟨11, _⟩ => ⟨S1024x768, .f32⟩
  | .hbm, ⟨12, _⟩ => ⟨S768x1024, .f32⟩
  | .hbm, ⟨13, _⟩ => ⟨S768x1024, .bf16⟩
  | .hbm, ⟨14, _⟩ => ⟨S32768x1024, .f32⟩
  | .hbm, ⟨15, _⟩ => ⟨S32768x512, .f32⟩
  | .hbm, ⟨16, _⟩ => ⟨S32768x512, .f32⟩
  | .hbm, ⟨17, _⟩ => ⟨S32768x256, .f32⟩
  | .hbm, ⟨18, _⟩ => ⟨S32768x128, .f32⟩
  | .hbm, ⟨19, _⟩ => ⟨S32768x128, .f32⟩
  | .hbm, ⟨20, _⟩ => ⟨S8x512x4096, .f32⟩
  | .hbm, ⟨21, _⟩ => ⟨S8x256x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S768x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x256, .f32⟩
  | .local _ .vmem, ⟨10, _⟩ => ⟨S512x256, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x512, .f32⟩
  | .local _ .vmem, ⟨16, _⟩ => ⟨S1x512x512, .f32⟩
  | .local _ .vmem, ⟨17, _⟩ => ⟨S1x256x512, .f32⟩
  | .local _ .vmem, ⟨18, _⟩ => ⟨S1x256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixInRefIdeal.lean ====
abbrev S8x4096x1024 : Shape := ⟨3, ![8, 4096, 1024]⟩
abbrev S1024 : Shape := ⟨1, ![1024]⟩
abbrev S1024x1816 : Shape := ⟨2, ![1024, 1816]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1816 : Shape := ⟨3, ![8, 4096, 1816]⟩
abbrev S8x4096x512 : Shape := ⟨3, ![8, 4096, 512]⟩
abbrev S32768x512 : Shape := ⟨2, ![32768, 512]⟩
abbrev S8x4096x256 : Shape := ⟨3, ![8, 4096, 256]⟩
abbrev S32768x256 : Shape := ⟨2, ![32768, 256]⟩
abbrev S8x4096x128 : Shape := ⟨3, ![8, 4096, 128]⟩
abbrev S32768x128 : Shape := ⟨2, ![32768, 128]⟩
abbrev S8x4096x24 : Shape := ⟨3, ![8, 4096, 24]⟩
abbrev S8x512x4096 : Shape := ⟨3, ![8, 512, 4096]⟩
abbrev S8x256x4096 : Shape := ⟨3, ![8, 256, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1816, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x1816, .f32⟩
  | .hbm, ⟨20, _⟩ => ⟨S8x4096x512, .f32⟩
  | .hbm, ⟨21, _⟩ => ⟨S32768x512, .f32⟩
  | .hbm, ⟨22, _⟩ => ⟨S8x4096x512, .f32⟩
  | .hbm, ⟨23, _⟩ => ⟨S32768x512, .f32⟩
  | .hbm, ⟨24, _⟩ => ⟨S8x4096x256, .f32⟩
  | .hbm, ⟨25, _⟩ => ⟨S32768x256, .f32⟩
  | .hbm, ⟨26, _⟩ => ⟨S8x4096x128, .f32⟩
  | .hbm, ⟨27, _⟩ => ⟨S32768x128, .f32⟩
  | .hbm, ⟨28, _⟩ => ⟨S8x4096x24, .f32⟩
  | .hbm, ⟨29, _⟩ => ⟨S_, .i32⟩
  | .hbm, ⟨30, _⟩ => ⟨S_, .f32⟩
  | .hbm, ⟨31, _⟩ => ⟨S8x4096x128, .f32⟩
  | .hbm, ⟨32, _⟩ => ⟨S8x4096x128, .f32⟩
  | .hbm, ⟨33, _⟩ => ⟨S8x4096x128, .f32⟩
  | .hbm, ⟨34, _⟩ => ⟨S_, .f32⟩
  | .hbm, ⟨35, _⟩ => ⟨S8x4096x128, .f32⟩
  | .hbm, ⟨36, _⟩ => ⟨S8x4096x128, .f32⟩
  | .hbm, ⟨37, _⟩ => ⟨S_, .f32⟩
  | .hbm, ⟨38, _⟩ => ⟨S8x4096x128, .f32⟩
  | .hbm, ⟨39, _⟩ => ⟨S8x4096x128, .f32⟩
  | .hbm, ⟨40, _⟩ => ⟨S32768x128, .f32⟩
  | .hbm, ⟨41, _⟩ => ⟨S8x4096x512, .f32⟩
  | .hbm, ⟨42, _⟩ => ⟨S8x512x4096, .f32⟩
  | .hbm, ⟨43, _⟩ => ⟨S8x4096x256, .f32⟩
  | .hbm, ⟨44, _⟩ => ⟨S8x256x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MemProj.lean ====
abbrev S8x256x1024 : Shape := ⟨3, ![8, 256, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S1x1024, .f32⟩
  | .hbm, ⟨5, _⟩ => ⟨S1024x2048, .bf16⟩
  | .hbm, ⟨6, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemProjRefIdeal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S2048x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ffn.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x1024 : Shape := ⟨2, ![1, 1024]⟩
abbrev S3x2x2816 : Shape := ⟨3, ![3, 2, 2816]⟩
abbrev S2x2816 : Shape := ⟨2, ![2, 2816]⟩
abbrev S64x2x8x2816 : Shape := ⟨4, ![64, 2, 8, 2816]⟩
abbrev S512x1024 : Shape := ⟨2, ![512, 1024]⟩
abbrev S1024x2816 : Shape := ⟨2, ![1024, 2816]⟩
abbrev S1x2x8x2816 : Shape := ⟨4, ![1, 2, 8, 2816]⟩
abbrev S512x1 : Shape := ⟨2, ![512, 1]⟩
abbrev S2x8x2816 : Shape := ⟨3, ![2, 8, 2816]⟩
abbrev S512 : Shape := ⟨1, ![512]⟩
abbrev S512x2816 : Shape := ⟨2, ![512, 2816]⟩
abbrev S1x1x8x2816 : Shape := ⟨4, ![1, 1, 8, 2816]⟩
abbrev S8x2816 : Shape := ⟨2, ![8, 2816]⟩
abbrev S1x2816 : Shape := ⟨2, ![1, 2816]⟩
abbrev S1x1x2816 : Shape := ⟨3, ![1, 1, 2816]⟩

abbrev nBuf : Space → Nat
  | .hbm => 16
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024x5632, .bf16⟩
  | .hbm, ⟨10, _⟩ => ⟨S3x2x2816, .f32⟩
  | .hbm, ⟨11, _⟩ => ⟨S2x2816, .f32⟩
  | .hbm, ⟨12, _⟩ => ⟨S2816x1024, .bf16⟩
  | .hbm, ⟨13, _⟩ => ⟨S1x1024, .f32⟩
  | .hbm, ⟨14, _⟩ => ⟨S32768x1024, .f32⟩
  | .hbm, ⟨15, _⟩ => ⟨S64x2x8x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2x2816, .f32⟩
  | .local _ .vmem, ⟨6, _⟩ => ⟨S2x2816, .f32⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x2x8x2816, .f32⟩
  | .local _ .vmem, ⟨12, _⟩ => ⟨S1x2x8x2816, .f32⟩
  | .local _ .vmem, ⟨13, _⟩ => ⟨S512x1024, .bf16⟩
  | .local _ .vmem, ⟨14, _⟩ => ⟨S512x1024, .f32⟩
  | .local _ .vmem, ⟨15, _⟩ => ⟨S1x2x8x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![64, 1], ![false, false]⟩

def k0_cond1 (i : grid0.Coords) : BitVec 1 :=
  let arg0 : BitVec 32 := BitVec.ofNat 32 (i 0).val
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let v12 : BitVec 32 := Scalar.extui v11
  let c0_i32_4 : BitVec 32 := 0#32
  let v13 : BitVec 1 := Scalar.cmpi .ne v12 c0_i32_4
  v13

def k0_off1 (i : grid0.Coords) : Fin 4 → Nat :=
  let arg1 : BitVec 32 := BitVec.ofNat 32 (i 1).val
  let v156 : Index := Scalar.indexCast arg1
  let c0_74 : Index := 0#32
  let c0_75 : Index := 0#32
  let c0_76 : Index := 0#32
  ![v156.toNat, 0, 0, 0]
def k0_off2 (i : grid0.Coords) : Fin 4 → Nat :=
  let arg1 : BitVec 32 := BitVec.ofNat 32 (i 1).val
  let v24 : Index := Scalar.indexCast arg1
  let c0_13 : Index := 0#32
  let c0_14 : Index := 0#32
  let c0_15 : Index := 0#32
  ![v24.toNat, 0, 0, 0]
def k0_off3 (i : grid0.Coords) : Fin 4 → Nat :=
  let arg1 : BitVec 32 := BitVec.ofNat 32 (i 1).val
  let v53 : Index := Scalar.indexCast arg1
  let c1 : Index := 1#32
  let c0_20 : Index := 0#32
  let c0_21 : Index := 0#32
  ![v53.toNat, 1, 0, 0]
def k0_cond3 (i : grid0.Coords) : BitVec 1 :=
  let arg1 : BitVec 32 := BitVec.ofNat 32 (i 1).val
  let c0_i32_57 : BitVec 32 := 0#32
  let v134 : BitVec 1 := Scalar.cmpi .eq arg1 c0_i32_57
  let v135 : BitVec 32 := Scalar.extui v134
  let c0_i32_58 : BitVec 32 := 0#32
  let v136 : BitVec 1 := Scalar.cmpi .ne v135 c0_i32_58
  v136

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S3x2x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x8x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x2x5632 : Shape := ⟨3, ![8, 2, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S64x512x2x2816 : Shape := ⟨4, ![64, 512, 2, 2816]⟩
abbrev S64x8x2x2816 : Shape := ⟨4, ![64, 8, 2, 2816]⟩
abbrev S32768x1024 : Shape := ⟨2, ![32768, 1024]⟩
abbrev S64x2x8x2816 : Shape := ⟨4, ![64, 2, 8, 2816]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S_, .f32⟩
  | .hbm, ⟨25, _⟩ => ⟨S8x2x5632, .f32⟩
  | .hbm, ⟨26, _⟩ => ⟨S8x4098x5632, .f32⟩
  | .hbm, ⟨27, _⟩ => ⟨S1x5632, .f32⟩
  | .hbm, ⟨28, _⟩ => ⟨S5632, .f32⟩
  | .hbm, ⟨29, _⟩ => ⟨S8x4096x5632, .f32⟩
  | .hbm, ⟨30, _⟩ => ⟨S1x1x5632, .f32⟩
  | .hbm, ⟨31, _⟩ => ⟨S8x4096x5632, .f32⟩
  | .hbm, ⟨32, _⟩ => ⟨S8x4096x5632, .f32⟩
  | .hbm, ⟨33, _⟩ => ⟨S1x1x5632, .f32⟩
  | .hbm, ⟨34, _⟩ => ⟨S8x4096x5632, .f32⟩
  | .hbm, ⟨35, _⟩ => ⟨S8x4096x5632, .f32⟩
  | .hbm, ⟨36, _⟩ => ⟨S1x5632, .f32⟩
  | .hbm, ⟨37, _⟩ => ⟨S5632, .f32⟩
  | .hbm, ⟨38, _⟩ => ⟨S8x4096x5632, .f32⟩
  | .hbm, ⟨39, _⟩ => ⟨S1x1x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S5632, .f32⟩
  | .hbm, ⟨45, _⟩ => ⟨S8x4096x5632, .f32⟩
  | .hbm, ⟨46, _⟩ => ⟨S1x1x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S_, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S64x512x2x2816, .f32⟩
  | .hbm, ⟨81, _⟩ => ⟨S64x8x2x2816, .f32⟩
  | .hbm, ⟨82, _⟩ => ⟨S32768x1024, .f32⟩
  | .hbm, ⟨83, _⟩ => ⟨S64x2x8x2816, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== MixSample.lean ====
abbrev S128x1x1024 : Shape := ⟨3, ![128, 1, 1024]⟩
abbrev S1024 : Shape := ⟨1, ![1024]⟩
abbrev S1024x1816 : Shape := ⟨2, ![1024, 1816]⟩
abbrev S1024x1408 : Shape := ⟨2, ![1024, 1408]⟩
abbrev S1024x24 : Shape := ⟨2, ![1024, 24]⟩
abbrev S_ : Shape := ⟨0, ![]⟩
abbrev S1024x128 : Shape := ⟨2, ![1024, 128]⟩
abbrev S1024x1536 : Shape := ⟨2, ![1024, 1536]⟩
abbrev S1x128x1024 : Shape := ⟨3, ![1, 128, 1024]⟩
abbrev S1x1024 : Shape := ⟨2, ![1, 1024]⟩
abbrev S1024x768 : Shape := ⟨2, ![1024, 768]⟩
abbrev S768x1024 : Shape := ⟨2, ![768, 1024]⟩
abbrev S128x1024 : Shape := ⟨2, ![128, 1024]⟩
abbrev S128x512 : Shape := ⟨2, ![128, 512]⟩
abbrev S128x256 : Shape := ⟨2, ![128, 256]⟩
abbrev S128x128 : Shape := ⟨2, ![128, 128]⟩
abbrev S1x512x128 : Shape := ⟨3, ![1, 512, 128]⟩
abbrev S1x256x128 : Shape := ⟨3, ![1, 256, 128]⟩
abbrev S128 : Shape := ⟨1, ![128]⟩
abbrev S128x1 : Shape := ⟨2, ![128, 1]⟩
abbrev S1024x512 : Shape := ⟨2, ![1024, 512]⟩
abbrev S1024x256 : Shape := ⟨2, ![1024, 256]⟩
abbrev S768x128 : Shape := ⟨2, ![768, 128]⟩
abbrev S512x128 : Shape := ⟨2, ![512, 128]⟩
abbrev S256x128 : Shape := ⟨2, ![256, 128]⟩

abbrev nBuf : Space → Nat
  | .hbm => 23
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x1816, .f32⟩
  | .hbm, ⟨3, _⟩ => ⟨S1024x1408, .f32⟩
  | .hbm, ⟨4, _⟩ => ⟨S1024x24, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x1536, .f32⟩
  | .hbm, ⟨9, _⟩ => ⟨S1x128x1024, .f32⟩
  | .hbm, ⟨10, _⟩ => ⟨S1x1024, .f32⟩
  | .hbm, ⟨11, _⟩ => ⟨S1024x1536, .bf16⟩
  | .hbm, ⟨12, _⟩ => ⟨S1024x768, .f32⟩
  | .hbm, ⟨13, _⟩ => ⟨S768x1024, .f32⟩
  | .hbm, ⟨14, _⟩ => ⟨S768x1024, .bf16⟩
  | .hbm, ⟨15, _⟩ => ⟨S128x1024, .f32⟩
  | .hbm, ⟨16, _⟩ => ⟨S128x512, .f32⟩
  | .hbm, ⟨17, _⟩ => ⟨S128x512, .f32⟩
  | .hbm, ⟨18, _⟩ => ⟨S128x256, .f32⟩
  | .hbm, ⟨19, _⟩ => ⟨S128x128, .f32⟩
  | .hbm, ⟨20, _⟩ => ⟨S128x128, .f32⟩
  | .hbm, ⟨21, _⟩ => ⟨S1x512x128, .f32⟩
  | .hbm, ⟨22, _⟩ => ⟨S1x256x128, .f32⟩
  | .local _ .vmem, ⟨0, _⟩ => ⟨S128x1024, .f32⟩
  | .local _ .vmem, ⟨1, _⟩ => ⟨S1x1024, .f32⟩
  | .local _ .vmem, ⟨2, _⟩ => ⟨S1024x1536, .bf16⟩
  | .local _ .vmem, ⟨3, _⟩ => ⟨S768x1024, .bf16⟩
  | .local _ .vmem, ⟨4, _⟩ => ⟨S128x512, .f32⟩
  | .local _ .vmem, ⟨5, _⟩ => ⟨S128x512, .f32⟩
  | .local _ .vmem, ⟨6, _⟩ => ⟨S128x256, .f32⟩
  | .local _ .vmem, ⟨7, _⟩ => ⟨S128x128, .f32⟩
  | .local _ .vmem, ⟨8, _⟩ => ⟨S128x128, .f32⟩
  | .local _ .vmem, ⟨9, _⟩ => ⟨S1x512x128, .f32⟩
  | .local _ .vmem, ⟨10, _⟩ => ⟨S1x256x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== MixSampleRefIdeal.lean ====
abbrev S128x1x1024 : Shape := ⟨3, ![128, 1, 1024]⟩
abbrev S1024 : Shape := ⟨1, ![1024]⟩
abbrev S1024x1816 : Shape := ⟨2, ![1024, 1816]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x1816 : Shape := ⟨3, ![128, 1, 1816]⟩
abbrev S128x1816 : Shape := ⟨2, ![128, 1816]⟩
abbrev S128x24 : Shape := ⟨2, ![128, 24]⟩
abbrev S128x128 : Shape := ⟨2, ![128, 128]⟩
abbrev S128x512 : Shape := ⟨2, ![128, 512]⟩
abbrev S128x256 : Shape := ⟨2, ![128, 256]⟩
abbrev S512x128 : Shape := ⟨2, ![512, 128]⟩
abbrev S1x512x128 : Shape := ⟨3, ![1, 512, 128]⟩
abbrev S256x128 : Shape := ⟨2, ![256, 128]⟩
abbrev S1x256x128 : Shape := ⟨3, ![1, 256, 128]⟩

abbrev nBuf : Space → Nat
  | .hbm => 43
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x1816, .f32⟩
  | .hbm, ⟨3, _⟩ => ⟨S128x1x1024, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S128x1x1, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S128x1x1816, .f32⟩
  | .hbm, ⟨20, _⟩ => ⟨S128x1816, .f32⟩
  | .hbm, ⟨21, _⟩ => ⟨S128x24, .f32⟩
  | .hbm, ⟨22, _⟩ => ⟨S_, .i32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x512, .f32⟩
  | .hbm, ⟨34, _⟩ => ⟨S128x512, .f32⟩
  | .hbm, ⟨35, _⟩ => ⟨S128x256, .f32⟩
  | .hbm, ⟨36, _⟩ => ⟨S128x128, .f32⟩
  | .hbm, ⟨37, _⟩ => ⟨S128x512, .f32⟩
  | .hbm, ⟨38, _⟩ => ⟨S512x128, .f32⟩
  | .hbm, ⟨39, _⟩ => ⟨S1x512x128, .f32⟩
  | .hbm, ⟨40, _⟩ => ⟨S128x256, .f32⟩
  | .hbm, ⟨41, _⟩ => ⟨S256x128, .f32⟩
  | .hbm, ⟨42, _⟩ => ⟨S1x256x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== FfnSample.lean ====
abbrev S128x1x1024 : Shape := ⟨3, ![128, 1, 1024]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S128x1024 : Shape := ⟨2, ![128, 1024]⟩
abbrev S1x1024 : Shape := ⟨2, ![1, 1024]⟩
abbrev S3x2x2816 : Shape := ⟨3, ![3, 2, 2816]⟩
abbrev S2x2816 : Shape := ⟨2, ![2, 2816]⟩
abbrev S2x128x5632 : Shape := ⟨3, ![2, 128, 5632]⟩
abbrev S2x128x2816 : Shape := ⟨3, ![2, 128, 2816]⟩
abbrev S1024x1408 : Shape := ⟨2, ![1024, 1408]⟩
abbrev S3x2x1408 : Shape := ⟨3, ![3, 2, 1408]⟩
abbrev S2x1408 : Shape := ⟨2, ![2, 1408]⟩
abbrev S1408x1024 : Shape := ⟨2, ![1408, 1024]⟩
abbrev S2x128x1408 : Shape := ⟨3, ![2, 128, 1408]⟩
abbrev S128 : Shape := ⟨1, ![128]⟩
abbrev S128x1 : Shape := ⟨2, ![128, 1]⟩
abbrev S128x1408 : Shape := ⟨2, ![128, 1408]⟩
abbrev S1x128x1408 : Shape := ⟨3, ![1, 128, 1408]⟩
abbrev S1x1408 : Shape := ⟨2, ![1, 1408]⟩
abbrev S1x1x1408 : Shape := ⟨3, ![1, 1, 1408]⟩

abbrev nBuf : Space → Nat
  | .hbm => 18
  | .vmem => 22
  | .smem => 0
  | _ => 0

abbrev bufTy : (tb : Table) → Fin (tcTables nBuf tb) → BufTy
  | .hbm, ⟨0, _⟩ => ⟨S128x1x1024, .f32⟩
  | .hbm, ⟨1, _⟩ => ⟨S128x2x5632, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S128x1024, .f32⟩
  | .hbm, ⟨9, _⟩ => ⟨S1x1024, .f32⟩
  | .hbm, ⟨10, _⟩ => ⟨S1024x5632, .bf16⟩
  | .hbm, ⟨11, _⟩ => ⟨S3x2x2816, .f32⟩
  | .hbm, ⟨12, _⟩ => ⟨S2x2816, .f32⟩
  | .hbm, ⟨13, _⟩ => ⟨S2816x1024, .bf16⟩
  | .hbm, ⟨14, _⟩ => ⟨S1x1024, .f32⟩
  | .hbm, ⟨15, _⟩ => ⟨S2x128x5632, .f32⟩
  | .hbm, ⟨16, _⟩ => ⟨S128x1024, .f32⟩
  | .hbm, ⟨17, _⟩ => ⟨S2x128x2816, .f32⟩
  | .local _ .vmem, ⟨0, _⟩ => ⟨S128x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S3x2x1408, .f32⟩
  | .local _ .vmem, ⟨7, _⟩ => ⟨S3x2x1408, .f32⟩
  | .local _ .vmem, ⟨8, _⟩ => ⟨S2x1408, .f32⟩
  | .local _ .vmem, ⟨9, _⟩ => ⟨S2x1408, .f32⟩
  | .local _ .vmem, ⟨10, _⟩ => ⟨S1408x1024, .bf16⟩
  | .local _ .vmem, ⟨11, _⟩ => ⟨S1408x1024, .bf16⟩
  | .local _ .vmem, ⟨12, _⟩ => ⟨S1x1024, .f32⟩
  | .local _ .vmem, ⟨13, _⟩ => ⟨S2x128x1408, .f32⟩
  | .local _ .vmem, ⟨14, _⟩ => ⟨S2x128x1408, .f32⟩
  | .local _ .vmem, ⟨15, _⟩ => ⟨S2x128x1408, .f32⟩
  | .local _ .vmem, ⟨16, _⟩ => ⟨S2x128x1408, .f32⟩
  | .local _ .vmem, ⟨17, _⟩ => ⟨S128x1024, .f32⟩
  | .local _ .vmem, ⟨18, _⟩ => ⟨S2x128x1408, .f32⟩
  | .local _ .vmem, ⟨19, _⟩ => ⟨S2x128x1408, .f32⟩
  | .local _ .vmem, ⟨20, _⟩ => ⟨S128x1024, .bf16⟩
  | .local _ .vmem, ⟨21, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v70 : BitVec 1 := Scalar.cmpi .eq arg1 c1_i32
  let v71 : BitVec 32 := Scalar.extui v70
  let c0_i32_48 : BitVec 32 := 0#32
  let v72 : BitVec 1 := Scalar.cmpi .ne v71 c0_i32_48
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x2x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x128x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== FfnSampleRefIdeal.lean ====
abbrev S128x1x1024 : Shape := ⟨3, ![128, 1, 1024]⟩
abbrev S128x2x5632 : Shape := ⟨3, ![128, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x3x5632 : Shape := ⟨3, ![128, 3, 5632]⟩
abbrev S1x5632 : Shape := ⟨2, ![1, 5632]⟩
abbrev S1x1x5632 : Shape := ⟨3, ![1, 1, 5632]⟩
abbrev S128x1x2816 : Shape := ⟨3, ![128, 1, 2816]⟩
abbrev S128x1024 : Shape := ⟨2, ![128, 1024]⟩
abbrev S128x5632 : Shape := ⟨2, ![128, 5632]⟩
abbrev S128x2x2816 : Shape := ⟨3, ![128, 2, 2816]⟩
abbrev S2x128x2816 : Shape := ⟨3, ![2, 128, 2816]⟩

abbrev nBuf : Space → Nat
  | .hbm => 84
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x2x5632, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S128x1x5632, .f32⟩
  | .hbm, ⟨25, _⟩ => ⟨S128x3x5632, .f32⟩
  | .hbm, ⟨26, _⟩ => ⟨S1x5632, .f32⟩
  | .hbm, ⟨27, _⟩ => ⟨S5632, .f32⟩
  | .hbm, ⟨28, _⟩ => ⟨S128x1x5632, .f32⟩
  | .hbm, ⟨29, _⟩ => ⟨S1x1x5632, .f32⟩
  | .hbm, ⟨30, _⟩ => ⟨S128x1x5632, .f32⟩
  | .hbm, ⟨31, _⟩ => ⟨S128x1x5632, .f32⟩
  | .hbm, ⟨32, _⟩ => ⟨S1x1x5632, .f32⟩
  | .hbm, ⟨33, _⟩ => ⟨S128x1x5632, .f32⟩
  | .hbm, ⟨34, _⟩ => ⟨S128x1x5632, .f32⟩
  | .hbm, ⟨35, _⟩ => ⟨S1x5632, .f32⟩
  | .hbm, ⟨36, _⟩ => ⟨S5632, .f32⟩
  | .hbm, ⟨37, _⟩ => ⟨S128x1x5632, .f32⟩
  | .hbm, ⟨38, _⟩ => ⟨S1x1x5632, .f32⟩
  | .hbm, ⟨39, _⟩ => ⟨S128x1x5632, .f32⟩
  | .hbm, ⟨40, _⟩ => ⟨S128x1x5632, .f32⟩
  | .hbm, ⟨41, _⟩ => ⟨S128x1x5632, .f32⟩
  | .hbm, ⟨42, _⟩ => ⟨S1x5632, .f32⟩
  | .hbm, ⟨43, _⟩ => ⟨S5632, .f32⟩
  | .hbm, ⟨44, _⟩ => ⟨S128x1x5632, .f32⟩
  | .hbm, ⟨45, _⟩ => ⟨S1x1x5632, .f32⟩
  | .hbm, ⟨46, _⟩ => ⟨S128x1x5632, .f32⟩
  | .hbm, ⟨47, _⟩ => ⟨S128x1x5632, .f32⟩
  | .hbm, ⟨48, _⟩ => ⟨S128x1x5632, .f32⟩
  | .hbm, ⟨49, _⟩ => ⟨S128x1x2816, .f32⟩
  | .hbm, ⟨50, _⟩ => ⟨S128x1x2816, .f32⟩
  | .hbm, ⟨51, _⟩ => ⟨S128x1x2816, .f32⟩
  | .hbm, ⟨52, _⟩ => ⟨S128x1x2816, .f32⟩
  | .hbm, ⟨53, _⟩ => ⟨S_, .f32⟩
  | .hbm, ⟨54, _⟩ => ⟨S128x1x2816, .f32⟩
  | .hbm, ⟨55, _⟩ => ⟨S128x1x2816, .f32⟩
  | .hbm, ⟨56, _⟩ => ⟨S_, .f32⟩
  | .hbm, ⟨57, _⟩ => ⟨S128x1x2816, .f32⟩
  | .hbm, ⟨58, _⟩ => ⟨S128x1x2816, .f32⟩
  | .hbm, ⟨59, _⟩ => ⟨S128x1x2816, .f32⟩
  | .hbm, ⟨60, _⟩ => ⟨S128x1x2816, .f32⟩
  | .hbm, ⟨61, _⟩ => ⟨S128x1x1024, .f32⟩
  | .hbm, ⟨62, _⟩ => ⟨S128x1x1024, .f32⟩
  | .hbm, ⟨63, _⟩ => ⟨S128x1x1024, .f32⟩
  | .hbm, ⟨64, _⟩ => ⟨S_, .f32⟩
  | .hbm, ⟨65, _⟩ => ⟨S128x1, .f32⟩
  | .hbm, ⟨66, _⟩ => ⟨S128x1x1, .f32⟩
  | .hbm, ⟨67, _⟩ => ⟨S_, .f32⟩
  | .hbm, ⟨68, _⟩ => ⟨S128x1x1, .f32⟩
  | .hbm, ⟨69, _⟩ => ⟨S128x1x1, .f32⟩
  | .hbm, ⟨70, _⟩ => ⟨S_, .f32⟩
  | .hbm, ⟨71, _⟩ => ⟨S128x1x1, .f32⟩
  | .hbm, ⟨72, _⟩ => ⟨S128x1x1, .f32⟩
  | .hbm, ⟨73, _⟩ => ⟨S128x1x1, .f32⟩
  | .hbm, ⟨74, _⟩ => ⟨S128x1x1024, .f32⟩
  | .hbm, ⟨75, _⟩ => ⟨S128x1x1024, .f32⟩
  | .hbm, ⟨76, _⟩ => ⟨S1x1x1024, .f32⟩
  | .hbm, ⟨77, _⟩ => ⟨S128x1x1024, .f32⟩
  | .hbm, ⟨78, _⟩ => ⟨S128x1x1024, .f32⟩
  | .hbm, ⟨79, _⟩ => ⟨S128x1024, .f32⟩
  | .hbm, ⟨80, _⟩ => ⟨S128x1x5632, .f32⟩
  | .hbm, ⟨81, _⟩ => ⟨S128x5632, .f32⟩
  | .hbm, ⟨82, _⟩ => ⟨S128x2x2816, .f32⟩
  | .hbm, ⟨83, _⟩ => ⟨S2x128x2816, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== OutSample.lean ====
abbrev S128x1x1024 : Shape := ⟨3, ![128, 1, 1024]⟩
abbrev S128x1x512 : Shape := ⟨3, ![128, 1, 512]⟩
abbrev S1024x1024 : Shape := ⟨2, ![1024, 1024]⟩
abbrev S1024 : Shape := ⟨1, ![1024]⟩
abbrev S128x1024 : Shape := ⟨2, ![128, 1024]⟩
abbrev S128x512 : Shape := ⟨2, ![128, 512]⟩
abbrev S1x1024 : Shape := ⟨2, ![1, 1024]⟩
abbrev S128 : Shape := ⟨1, ![128]⟩
abbrev S128x1 : Shape := ⟨2, ![128, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S128x1024, .f32⟩
  | .hbm, ⟨7, _⟩ => ⟨S128x512, .f32⟩
  | .hbm, ⟨8, _⟩ => ⟨S128x512, .f32⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S128x1024, .f32⟩
  | .hbm, ⟨13, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutSampleRefIdeal.lean ====
abbrev S128x1x1024 : Shape := ⟨3, ![128, 1, 1024]⟩
abbrev S128x1x512 : Shape := ⟨3, ![128, 1, 512]⟩
abbrev S1024x1024 : Shape := ⟨2, ![1024, 1024]⟩
abbrev S1024 : Shape := ⟨1, ![1024]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1024, .f32⟩
  | .hbm, ⟨10, _⟩ => ⟨S128x1x1024, .f32⟩
  | .hbm, ⟨11, _⟩ => ⟨S_, .f32⟩
  | .hbm, ⟨12, _⟩ => ⟨S128x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== ProjSample.lean ====
abbrev S128x1x1024 : Shape := ⟨3, ![128, 1, 1024]⟩
abbrev S1024x1024 : Shape := ⟨2, ![1024, 1024]⟩
abbrev S128x1024 : Shape := ⟨2, ![128, 1024]⟩

abbrev nBuf : Space → Nat
  | .hbm => 7
  | .vmem => 4
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S1024x1024, .f32⟩
  | .hbm, ⟨3, _⟩ => ⟨S128x1024, .f32⟩
  | .hbm, ⟨4, _⟩ => ⟨S128x1024, .f32⟩
  | .hbm, ⟨5, _⟩ => ⟨S1024x1024, .bf16⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ProjSampleRefIdeal.lean ====
abbrev S128x1x1024 : Shape := ⟨3, ![128, 1, 1024]⟩
abbrev S1024x1024 : Shape := ⟨2, ![1024, 1024]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S1024x1024, .f32⟩
  | .hbm, ⟨3, _⟩ => ⟨S128x1x1024, .f32⟩
  | .hbm, ⟨4, _⟩ => ⟨S128x1x1024, .f32⟩
  | .hbm, ⟨5, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== XattnSample.lean ====
abbrev S128x1x1024 : Shape := ⟨3, ![128, 1, 1024]⟩
abbrev S128x256x2x4x256 : Shape := ⟨5, ![128, 256, 2, 4, 256]⟩
abbrev S128x256x2x4x2x128 : Shape := ⟨6, ![128, 256, 2, 4, 2, 128]⟩
abbrev S128x256x2x2x4x128 : Shape := ⟨6, ![128, 256, 2, 2, 4, 128]⟩
abbrev S128x256x2x8x128 : Shape := ⟨5, ![128, 256, 2, 8, 128]⟩
abbrev S1x1x1024 : Shape := ⟨3, ![1, 1, 1024]⟩
abbrev S1x256x2x8x128 : Shape := ⟨5, ![1, 256, 2, 8, 128]⟩
abbrev S1x1024 : Shape := ⟨2, ![1, 1024]⟩
abbrev S1x128 : Shape := ⟨2, ![1, 128]⟩
abbrev S8x128 : Shape := ⟨2, ![8, 128]⟩
abbrev S256x2x8x128 : Shape := ⟨4, ![256, 2, 8, 128]⟩
abbrev S256x1x8x128 : Shape := ⟨4, ![256, 1, 8, 128]⟩
abbrev S256x8x128 : Shape := ⟨3, ![256, 8, 128]⟩
abbrev S2048x128 : Shape := ⟨2, ![2048, 128]⟩
abbrev S8x2048 : Shape := ⟨2, ![8, 2048]⟩
abbrev S8 : Shape := ⟨1, ![8]⟩
abbrev S8x1 : Shape := ⟨2, ![8, 1]⟩

abbrev nBuf : Space → Nat
  | .hbm => 6
  | .vmem => 6
  | .smem => 0
  | _ => 0

abbrev bufTy : (tb : Table) → Fin (tcTables nBuf tb) → BufTy
  | .hbm, ⟨0, _⟩ => ⟨S128x1x1024, .f32⟩
  | .hbm, ⟨1, _⟩ => ⟨S128x256x2x4x256, .f32⟩
  | .hbm, ⟨2, _⟩ => ⟨S128x256x2x4x2x128, .f32⟩
  | .hbm, ⟨3, _⟩ => ⟨S128x256x2x2x4x128, .f32⟩
  | .hbm, ⟨4, _⟩ => ⟨S128x256x2x8x128, .f32⟩
  | .hbm, ⟨5, _⟩ => ⟨S128x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x256x2x8x128, .f32⟩
  | .local _ .vmem, ⟨3, _⟩ => ⟨S1x256x2x8x128, .f32⟩
  | .local _ .vmem, ⟨4, _⟩ => ⟨S1x1x1024, .f32⟩
  | .local _ .vmem, ⟨5, _⟩ => ⟨S1x1x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnSampleRefIdeal.lean ====
abbrev S128x1x1024 : Shape := ⟨3, ![128, 1, 1024]⟩
abbrev S128x256x2x4x256 : Shape := ⟨5, ![128, 256, 2, 4, 256]⟩
abbrev S128x1x4x256 : Shape := ⟨4, ![128, 1, 4, 256]⟩
abbrev S128x256x1x4x256 : Shape := ⟨5, ![128, 256, 1, 4, 256]⟩
abbrev S128x256x4x256 : Shape := ⟨4, ![128, 256, 4, 256]⟩
abbrev S128x4x1x256 : Shape := ⟨4, ![128, 4, 1, 256]⟩
abbrev S_ : Shape := ⟨0, ![]⟩
abbrev S128x4x1 : Shape := ⟨3, ![128, 4, 1]⟩
abbrev S128x4x1x1 : Shape := ⟨4, ![128, 4, 1, 1]⟩
abbrev S128x4x256x1 : Shape := ⟨4, ![128, 4, 256, 1]⟩

abbrev nBuf : Space → Nat
  | .hbm => 25
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x256x2x4x256, .f32⟩
  | .hbm, ⟨2, _⟩ => ⟨S128x1x4x256, .f32⟩
  | .hbm, ⟨3, _⟩ => ⟨S128x256x1x4x256, .f32⟩
  | .hbm, ⟨4, _⟩ => ⟨S128x256x4x256, .f32⟩
  | .hbm, ⟨5, _⟩ => ⟨S128x4x1x256, .f32⟩
  | .hbm, ⟨6, _⟩ => ⟨S_, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S128x4x1x1, .f32⟩
  | .hbm, ⟨12, _⟩ => ⟨S128x4x1x256, .f32⟩
  | .hbm, ⟨13, _⟩ => ⟨S128x4x1x256, .f32⟩
  | .hbm, ⟨14, _⟩ => ⟨S128x4x1x256, .f32⟩
  | .hbm, ⟨15, _⟩ => ⟨S_, .f32⟩
  | .hbm, ⟨16, _⟩ => ⟨S128x4x1, .f32⟩
  | .hbm, ⟨17, _⟩ => ⟨S128x4x1x1, .f32⟩
  | .hbm, ⟨18, _⟩ => ⟨S128x4x1x256, .f32⟩
  | .hbm, ⟨19, _⟩ => ⟨S128x4x1x256, .f32⟩
  | .hbm, ⟨20, _⟩ => ⟨S128x256x1x4x256, .f32⟩
  | .hbm, ⟨21, _⟩ => ⟨S128x256x4x256, .f32⟩
  | .hbm, ⟨22, _⟩ => ⟨S128x4x256x1, .f32⟩
  | .hbm, ⟨23, _⟩ => ⟨S128x1x4x256, .f32⟩
  | .hbm, ⟨24, _⟩ => ⟨S128x1x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.XattnTerm.lean ====
/- The attention over memory, row by row: what one row of the plain reference's result is, and what one row of each value
   that the kernel computes is. -/
module

public import proofs.«01_k».proof.Proof.Gen.XattnIdeal.Frame
public import proofs.«01_k».proof.Proof.Gen.XattnRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnRefIdeal.Term

open Cert.XattnRefIdeal Cert.XattnRefIdeal.Gen

/-- One row of the residual stream after the token mixer: `x` plus the two branches against the output weights. -/
def hrow (x : Fin 1024 → EReal) (p n : Fin 512 → EReal) (w : Fin 1024 → Fin 1024 → EReal) (l : Fin 1024) : EReal :=
  x l + (∑ k : Fin 512, p k * w ⟨k.val, by omega⟩ l + ∑ k : Fin 512, n k * w ⟨512 + k.val, by omega⟩ l)

/-- One row normed by its root mean square, times the gains. -/
def nrm (h g : Fin 1024 → EReal) (k : Fin 1024) : EReal :=
  h k * Ideal.rsqrt (Ideal.div (∑ l, h l * h l) (Ideal.ofBits .f32 0x44800000#32) + Ideal.ofBits .f32 0x358637BD#32) * g k

/-- One row of the queries. -/
def qrow (h g : Fin 1024 → EReal) (w : Fin 1024 → Fin 1024 → EReal) (l : Fin 1024) : EReal := ∑ k, nrm h g k * w k l

/-- The largest score. -/
def top (s : Fin 256 → EReal) : EReal := Finset.univ.fold max (Ideal.ofBits .f32 0xFF800000#32) s

/-- One softmax weight. -/
def soft (s : Fin 256 → EReal) (j : Fin 256) : EReal :=
  Ideal.div (Ideal.exp (s j - top s)) (∑ i, Ideal.exp (s i - top s))

/-- One head's mixture of the values, from its scores. -/
def mixed (s : Fin 256 → EReal) (v : Fin 256 → EReal) : EReal := ∑ j, soft s j * v j

variable (X : FVec Ideal S8x4096x1024 .f32) (YP YN : FVec Ideal S8x4096x512 .f32) (WO : FVec Ideal S1024x1024 .f32)
  (G : FVec Ideal S1024 .f32) (WQ : FVec Ideal S1024x1024 .f32) (KV : FVec Ideal S8x256x2x4x256 .f32) (WX : FVec Ideal S1024x1024 .f32)
  (H Q : FVec Ideal S8x4096x1024 .f32) (S E P : FVec Ideal S8x4x4096x256 .f32)

/-- The residual stream after the token mixer. -/
def refH : FVec Ideal S8x4096x1024 .f32 :=
  addf X (Host.dotGeneral (F := Ideal) dot_S8x4096x1024_S1024x1024_S8x4096x1024_2_0_01_1_n_n none (concatenate S8x4096x1024 2 [⟨S8x4096x512, YP⟩, ⟨S8x4096x512, YN⟩] concatenates_S8x4096x512_S8x4096x512_S8x4096x1024_d2) WO)

/-- The queries. -/
def refQ : FVec Ideal S8x4096x1024 .f32 :=
  Host.dotGeneral (F := Ideal) dot_S8x4096x1024_S1024x1024_S8x4096x1024_2_0_01_1_n_n none (mulf (mulf H (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf H H) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))) WQ

/-- The scaled scores. -/
def refS : FVec Ideal S8x4x4096x256 .f32 :=
  mulf (Host.dotGeneral (F := Ideal) (φ₁ := .f32) (φ₂ := .f32) dot_S8x4096x4x256_S8x256x4x256_S8x4x4096x256_3_3_1_1_02_02 none (shapeCast _ Q shapeCasts_S8x4096x1024_S8x4096x4x256) (shapeCast _ (extractStridedSlice S8x256x1x4x256 ![0, 0, 0, 0, 0] KV slices_S8x256x2x4x256_S8x256x1x4x256_0_0_0_0_0) shapeCasts_S8x256x1x4x256_S8x256x4x256)) (broadcastInDim S8x4x4096x256 ![] bcast_S_S8x4x4096x256 (constant S_ .f32 0x3D800000#32))

/-- Every row's largest score. -/
def refM : FVec Ideal S8x4x4096 .f32 :=
  Host.reduce FloatOps.maximumf S (constant S_ .f32 0xFF800000#32) reducesTo_S8x4x4096x256_S8x4x4096_d3 h_S_

/-- The exponentials of the scores below their largest. -/
def refE (M : FVec Ideal S8x4x4096 .f32) : FVec Ideal S8x4x4096x256 .f32 :=
  Host.exp (subf S (broadcastInDim S8x4x4096x256 ![0, 1, 2, 3] bcast_S8x4x4096x1_S8x4x4096x256_0_1_2_3 (broadcastInDim S8x4x4096x1 ![0, 1, 2] bcast_S8x4x4096_S8x4x4096x1_0_1_2 (maximumf (broadcastInDim S8x4x4096 ![] bcast_S_S8x4x4096 (constant S_ .f32 0xFF800000#32)) M))))

/-- The softmax weights. -/
def refP : FVec Ideal S8x4x4096x256 .f32 :=
  Host.divf E (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd E (constant S_ .f32 0x00000000#32) reducesTo_S8x4x4096x256_S8x4x4096_d3 h_S_)))

/-- The heads side by side. -/
def refO : FVec Ideal S8x4096x1024 .f32 :=
  shapeCast _ (transpose S8x4096x4x256 [0, 3, 1, 2] (Host.dotGeneral (F := Ideal) (φ₁ := .f32) (φ₂ := .f32) dot_S8x256x4x256_S8x4x4096x256_S8x4x256x4096_1_3_3_2_02_01 none (shapeCast _ (extractStridedSlice S8x256x1x4x256 ![0, 0, 1, 0, 0] KV slices_S8x256x2x4x256_S8x256x1x4x256_0_0_1_0_0) shapeCasts_S8x256x1x4x256_S8x256x4x256) P) transposes_S8x4x256x4096_S8x4096x4x256_0_3_1_2) shapeCasts_S8x4096x4x256_S8x4096x1024

/-- The last step: the residual stream plus the heads against the output weights. -/
def refY (O : FVec Ideal S8x4096x1024 .f32) : FVec Ideal S8x4096x1024 .f32 :=
  addf H (Host.dotGeneral (F := Ideal) dot_S8x4096x1024_S1024x1024_S8x4096x1024_2_0_01_1_n_n none O WX)

/-- The reference's whole term. -/
def REF : FVec Ideal S8x4096x1024 .f32 :=
  refY WX (refH X YP YN WO) (refO KV (refP (refE (refS KV (refQ G WQ (refH X YP YN WO))) (refM (refS KV (refQ G WQ (refH X YP YN WO)))))))

theorem refH_at (b : Fin 8) (t : Fin 4096) (l : Fin 1024) :
    refH X YP YN WO (ix3 b t l) = hrow (fun k => X (ix3 b t k)) (fun k => YP (ix3 b t k)) (fun k => YN (ix3 b t k)) (fun k l => WO (ix2 k l)) l := by
  pointwise [refH, hrow]

theorem refQ_at (b : Fin 8) (t : Fin 4096) (l : Fin 1024) :
    refQ G WQ H (ix3 b t l) = qrow (fun k => H (ix3 b t k)) (fun k => G (ix1 k)) (fun k l => WQ (ix2 k l)) l := by
  pointwise [refQ, qrow, nrm]

theorem refS_at (b : Fin 8) (n : Fin 4) (t : Fin 4096) (j : Fin 256) :
    refS KV Q (ix4 b n t j) = (∑ e : Fin 256, Q (ix3 b t ⟨n.val * 256 + e.val, by omega⟩) * KV (ix5 b j 0 n e)) * Ideal.ofBits .f32 0x3D800000#32 := by
  pointwise [refS]

theorem refM_at (b : Fin 8) (n : Fin 4) (t : Fin 4096) : refM S (ix3 b n t) = top fun i => S (ix4 b n t i) := by
  unfold refM top
  simp only [pointwise]

theorem refE_at (M : FVec Ideal S8x4x4096 .f32) (b : Fin 8) (n : Fin 4) (t : Fin 4096) (j : Fin 256) :
    refE S M (ix4 b n t j) = Ideal.exp (S (ix4 b n t j) - max (Ideal.ofBits .f32 0xFF800000#32) (M (ix3 b n t))) := by
  pointwise [refE]

theorem top_max (s : Fin 256 → EReal) : max (Ideal.ofBits .f32 0xFF800000#32) (top s) = top s := by
  have h : Ideal.ofBits .f32 0xFF800000#32 = ⊥ := by simp [Ideal.ofBits, Ideal.ieee]
  rw [h]; exact max_eq_right bot_le

theorem refP_at (b : Fin 8) (n : Fin 4) (t : Fin 4096) (j : Fin 256) :
    refP E (ix4 b n t j) = Ideal.div (E (ix4 b n t j)) (∑ i, E (ix4 b n t i)) := by
  pointwise [refP]

theorem refO_at (b : Fin 8) (n : Fin 4) (t : Fin 4096) (d : Fin 256) :
    refO KV P (ix3 b t ⟨n.val * 256 + d.val, by omega⟩) = ∑ j : Fin 256, KV (ix5 b j 1 n d) * P (ix4 b n t j) := by
  pointwise [refO]

theorem refY_at (O : FVec Ideal S8x4096x1024 .f32) (b : Fin 8) (t : Fin 4096) (l : Fin 1024) :
    refY WX H O (ix3 b t l) = H (ix3 b t l) + ∑ k, O (ix3 b t k) * WX (ix2 k l) := by
  pointwise [refY]

theorem res_eq (m : (ℓ : Loc nD τ sig) → Buf (Elt Ideal) ℓ) (c : Dev nD) : Value.res_main_v40 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-- The scores' factor taken out of the sum: it is a positive real. -/
theorem scale (q k : Fin 256 → EReal) :
    ∑ e, q e * Ideal.ofBits .f32 0x3D800000#32 * k e = (∑ e, q e * k e) * Ideal.ofBits .f32 0x3D800000#32 := by
  have h : Ideal.ofBits .f32 0x3D800000#32 = ((1 / 16 : ℝ) : EReal) := by simp [Ideal.ofBits, Ideal.ieee, -EReal.coe_mul]; norm_num
  have h0 : (0 : EReal) ≤ Ideal.ofBits .f32 0x3D800000#32 := by rw [h]; exact EReal.coe_nonneg.2 (by norm_num)
  have h1 : Ideal.ofBits .f32 0x3D800000#32 ≠ ⊤ := by rw [h]; exact EReal.coe_ne_top _
  generalize Ideal.ofBits .f32 0x3D800000#32 = c at h0 h1
  have key : ∀ s : Finset (Fin 256), ∑ e ∈ s, q e * c * k e = (∑ e ∈ s, q e * k e) * c := fun s => by
    classical
    induction s using Finset.induction_on with
    | empty => simp
    | insert a s ha ih =>
      rw [Finset.sum_insert ha, Finset.sum_insert ha, EReal.right_distrib_of_nonneg_of_ne_top h0 h1, ih, mul_right_comm]
  exact key _

/-- One entry of the reference's heads, from the row of the residual stream. -/
theorem heads_at (b : Fin 8) (n : Fin 4) (t : Fin 4096) (d : Fin 256) :
    refO KV (refP (refE (refS KV Q) (refM (refS KV Q)))) (ix3 b t ⟨n.val * 256 + d.val, by omega⟩)
    = mixed (fun j => ∑ e : Fin 256, Q (ix3 b t ⟨n.val * 256 + e.val, by omega⟩) * Ideal.ofBits .f32 0x3D800000#32 * KV (ix5 b j 0 n e)) (fun j => KV (ix5 b j 1 n d)) := by
  rw [refO_at]
  refine Finset.sum_congr rfl fun j _ => ?_
  simp only [refP_at, refE_at, refM_at, top_max, refS_at, scale, soft]
  exact mul_comm _ _

end Cert.XattnRefIdeal.Term

end
-- ==== Proof.XattnRows.lean ====
/- The attention over memory, row by row: what one row of each value that the kernel computes is. -/
module

public import proofs.«01_k».proof.Proof.XattnTerm

@[expose] public section

set_option maxRecDepth 16384

noncomputable section

open Idealize.ShloMosaic Idealize.ShloMosaic.TcCoe Idealize.SL.Sem
open Idealize.ShloMosaic.Pipeline (Dat)

namespace Cert.XattnIdeal.Result

open Cert.XattnIdeal Cert.XattnIdeal.Gen
open Cert.XattnRefIdeal.Term (hrow nrm qrow top soft mixed)

theorem pay1_at (h o : FVec Ideal S1024x1024 .f32) (w : FVec Ideal S1024x1024 .bf16) (r l : Fin 1024) :
    k0_pay1 (F := Ideal) h o w (ix3 0 r l) = h (ix2 r l) + ∑ k, o (ix2 r k) * w (ix2 k l) := by
  pointwise [k0_pay1]

theorem pay2_at (p n : FVec Ideal S1x1024x512 .f32) (x : FVec Ideal S1x1024x1024 .f32) (w : FVec Ideal S1024x1024 .bf16) (r l : Fin 1024) :
    k0_pay2 (F := Ideal) p n x w (ix2 r l)
    = hrow (fun k => x (ix3 0 r k)) (fun k => p (ix3 0 r k)) (fun k => n (ix3 0 r k)) (fun k l => w (ix2 k l)) l := by
  pointwise [k0_pay2, hrow]

/-- The scaled queries. -/
theorem pay3_at (p n : FVec Ideal S1x1024x512 .f32) (x : FVec Ideal S1x1024x1024 .f32) (w : FVec Ideal S1024x1024 .bf16)
    (g : FVec Ideal S1x1024 .f32) (wq : FVec Ideal S1024x1024 .bf16) (r l : Fin 1024) :
    k0_pay3 (F := Ideal) p n x w g wq (ix2 r l)
    = qrow (fun k => k0_pay2 (F := Ideal) p n x w (ix2 r k))
        (fun k => g (ix2 0 k)) (fun k l => wq (ix2 k l)) l * Ideal.ofBits .f32 0x3D800000#32 := by
  pointwise [k0_pay3, qrow, nrm]

theorem pay4_at (p n : FVec Ideal S1x1024x512 .f32) (x : FVec Ideal S1x1024x1024 .f32) (w : FVec Ideal S1024x1024 .bf16)
    (g : FVec Ideal S1x1024 .f32) (wq : FVec Ideal S1024x1024 .bf16) (r : Fin 1024) (l : Fin 256) :
    k0_pay4 (F := Ideal) p n x w g wq (ix2 r l) = k0_pay3 (F := Ideal) p n x w g wq (ix2 r ⟨l.val, by omega⟩) := by
  pointwise [k0_pay4]

theorem pay7_at (q : FVec Ideal S1024x1024 .f32) (r : Fin 1024) (l : Fin 256) :
    k0_pay7 (F := Ideal) q (ix2 r l) = q (ix2 r ⟨512 + l.val, by omega⟩) := by
  pointwise [k0_pay7]

theorem pay9_at (w : FVec Ideal S1024x1024 .bf16) (r l : Fin 1024) : k0_pay9 (F := Ideal) w (ix2 r l) = w (ix2 r l) := by
  pointwise [k0_pay9]

/-- The first head. -/
theorem pay5_at (q : FVec Ideal S1024x256 .f32) (k v : FVec Ideal S1x256x256 .f32) (r : Fin 1024) (d : Fin 256) :
    k0_pay5 (F := Ideal) q k v (ix2 r d) = mixed (fun j => ∑ e : Fin 256, q (ix2 r e) * k (ix3 0 j e)) (fun j => v (ix3 0 j d)) := by
  pointwise [k0_pay5, mixed, soft, top]

/-- The second head. -/
theorem pay6_at (q : FVec Ideal S1024x1024 .f32) (k v : FVec Ideal S1x256x256 .f32) (r : Fin 1024) (d : Fin 256) :
    k0_pay6 (F := Ideal) q k v (ix2 r d)
    = mixed (fun j => ∑ e : Fin 256, q (ix2 r ⟨256 + e.val, by omega⟩) * k (ix3 0 j e)) (fun j => v (ix3 0 j d)) := by
  pointwise [k0_pay6, mixed, soft, top]

section Heads

variable (q : FVec Ideal S1024x1024 .f32) (a b c : FVec Ideal S1024x256 .f32) (k v k' v' : FVec Ideal S1x256x256 .f32) (r : Fin 1024) (d : Fin 256)

theorem pay8_at0 : k0_pay8 (F := Ideal) q a b c k v k' v' (ix2 r ⟨d.val, by omega⟩) = a (ix2 r d) := by
  pointwise [k0_pay8]

theorem pay8_at1 : k0_pay8 (F := Ideal) q a b c k v k' v' (ix2 r ⟨256 + d.val, by omega⟩) = b (ix2 r d) := by
  pointwise [k0_pay8]

theorem pay8_at2 : k0_pay8 (F := Ideal) q a b c k v k' v' (ix2 r ⟨512 + d.val, by omega⟩)
    = mixed (fun j => ∑ e : Fin 256, c (ix2 r e) * k (ix3 0 j e)) (fun j => v (ix3 0 j d)) := by
  pointwise [k0_pay8, mixed, soft, top]
  rw [dif_neg (by omega), dif_neg (by omega), dif_pos (by omega)]
  simp only [show 512 + d.val - 256 - 256 = d.val by omega]

theorem pay8_at3 : k0_pay8 (F := Ideal) q a b c k v k' v' (ix2 r ⟨768 + d.val, by omega⟩)
    = mixed (fun j => ∑ e : Fin 256, q (ix2 r ⟨768 + e.val, by omega⟩) * k' (ix3 0 j e)) (fun j => v' (ix3 0 j d)) := by
  pointwise [k0_pay8, mixed, soft, top]
  rw [dif_neg (by omega), dif_neg (by omega), dif_neg (by omega)]
  simp only [show 768 + d.val - 256 - 256 - 256 = d.val by omega]

end Heads

end Cert.XattnIdeal.Result

end
-- ==== Proof.XattnRow.lean ====
/- The attention over memory: one row of what a grid point stores is the row of the reference's term. -/
module

public import proofs.«01_k».proof.Proof.XattnRows

@[expose] public section

set_option maxRecDepth 16384

noncomputable section

open Idealize.ShloMosaic Idealize.ShloMosaic.TcCoe Idealize.SL.Sem
open Idealize.ShloMosaic.Pipeline (Dat)

namespace Cert.XattnIdeal.Result

open Cert.XattnIdeal Cert.XattnIdeal.Gen
open Cert.XattnRefIdeal.Term

theorem mixed_congr {s s' v v' : Fin 256 → EReal} (hs : ∀ j, s j = s' j) (hv : ∀ j, v j = v' j) : mixed s v = mixed s' v' := by
  rw [funext hs, funext hv]

theorem kvlt (i : Fin 2) (a : Fin 4) (e : Fin 256) : i.val * 1024 + a.val * 256 + e.val < 2048 := by omega

section Loads

variable (kv : FVec Ideal S1x256x2048 .f32) (j e : Fin 256)

theorem ld4 : View.ld (Val := Elt Ideal) (e' := .f32) kv r0_4 (ix3 0 j e) = kv (ix3 0 j ⟨0 * 1024 + 0 * 256 + e.val, by omega⟩) := by pointwise [r0_4]
theorem ld5 : View.ld (Val := Elt Ideal) (e' := .f32) kv r0_5 (ix3 0 j e) = kv (ix3 0 j ⟨1 * 1024 + 0 * 256 + e.val, by omega⟩) := by pointwise [r0_5]
theorem ld6 : View.ld (Val := Elt Ideal) (e' := .f32) kv r0_6 (ix3 0 j e) = kv (ix3 0 j ⟨0 * 1024 + 1 * 256 + e.val, by omega⟩) := by pointwise [r0_6]
theorem ld7 : View.ld (Val := Elt Ideal) (e' := .f32) kv r0_7 (ix3 0 j e) = kv (ix3 0 j ⟨1 * 1024 + 1 * 256 + e.val, by omega⟩) := by pointwise [r0_7]
theorem ld8 : View.ld (Val := Elt Ideal) (e' := .f32) kv r0_8 (ix3 0 j e) = kv (ix3 0 j ⟨0 * 1024 + 2 * 256 + e.val, by omega⟩) := by pointwise [r0_8]
theorem ld9 : View.ld (Val := Elt Ideal) (e' := .f32) kv r0_9 (ix3 0 j e) = kv (ix3 0 j ⟨1 * 1024 + 2 * 256 + e.val, by omega⟩) := by pointwise [r0_9]
theorem ld10 : View.ld (Val := Elt Ideal) (e' := .f32) kv r0_10 (ix3 0 j e) = kv (ix3 0 j ⟨0 * 1024 + 3 * 256 + e.val, by omega⟩) := by pointwise [r0_10]
theorem ld11 : View.ld (Val := Elt Ideal) (e' := .f32) kv r0_11 (ix3 0 j e) = kv (ix3 0 j ⟨1 * 1024 + 3 * 256 + e.val, by omega⟩) := by pointwise [r0_11]

end Loads

variable (p n : FVec Ideal S1x1024x512 .f32) (x : FVec Ideal S1x1024x1024 .f32) (w : FVec Ideal S1024x1024 .bf16)
    (g : FVec Ideal S1x1024 .f32) (wq : FVec Ideal S1024x1024 .bf16) (kv : FVec Ideal S1x256x2048 .f32) (wx : FVec Ideal S1024x1024 .bf16)
    (X : FVec Ideal S8x4096x1024 .f32) (YP YN : FVec Ideal S8x4096x512 .f32) (WO : FVec Ideal S1024x1024 .f32)
    (G : FVec Ideal S1024 .f32) (WQ : FVec Ideal S1024x1024 .f32) (KV : FVec Ideal S8x256x2x4x256 .f32) (WX : FVec Ideal S1024x1024 .f32)
    (b : Fin 8) (t : Fin 4096) (r : Fin 1024)
    (hx : ∀ k, x (ix3 0 r k) = X (ix3 b t k)) (hp : ∀ k, p (ix3 0 r k) = YP (ix3 b t k)) (hn : ∀ k, n (ix3 0 r k) = YN (ix3 b t k))
    (hw : ∀ k l, w (ix2 k l) = WO (ix2 k l)) (hg : ∀ k, g (ix2 0 k) = G (ix1 k)) (hq : ∀ k l, wq (ix2 k l) = WQ (ix2 k l))
    (hkv : ∀ (j : Fin 256) (i : Fin 2) (a : Fin 4) (e : Fin 256), kv (ix3 0 j ⟨i.val * 1024 + a.val * 256 + e.val, kvlt i a e⟩) = KV (ix5 b j i a e))
    (hwx : ∀ k l, wx (ix2 k l) = WX (ix2 k l))

include hx hp hn hw in
theorem h_eq (l : Fin 1024) : k0_pay2 (F := Ideal) p n x w (ix2 r l) = refH X YP YN WO (ix3 b t l) := by
  rw [pay2_at, refH_at]
  simp only [hx, hp, hn, hw]

include hx hp hn hw hg hq in
theorem q_eq (l : Fin 1024) : k0_pay3 (F := Ideal) p n x w g wq (ix2 r l) = refQ G WQ (refH X YP YN WO) (ix3 b t l) * Ideal.ofBits .f32 0x3D800000#32 := by
  rw [pay3_at, refQ_at]
  simp only [h_eq p n x w X YP YN WO b t r hx hp hn hw, hg, hq]

/-- The heads of one row, side by side. -/
abbrev heads : FVec Ideal S1024x1024 .f32 :=
  k0_pay8 (F := Ideal) (k0_pay3 p n x w g wq) (k0_pay5 (k0_pay4 p n x w g wq) (View.ld (Val := Elt Ideal) (e' := .f32) kv r0_4) (View.ld (Val := Elt Ideal) (e' := .f32) kv r0_5))
    (k0_pay6 (k0_pay3 p n x w g wq) (View.ld (Val := Elt Ideal) (e' := .f32) kv r0_6) (View.ld (Val := Elt Ideal) (e' := .f32) kv r0_7)) (k0_pay7 (k0_pay3 p n x w g wq))
    (View.ld (Val := Elt Ideal) (e' := .f32) kv r0_8) (View.ld (Val := Elt Ideal) (e' := .f32) kv r0_9) (View.ld (Val := Elt Ideal) (e' := .f32) kv r0_10) (View.ld (Val := Elt Ideal) (e' := .f32) kv r0_11)

include hx hp hn hw hg hq hkv in
theorem heads_eq (a : Fin 4) (d : Fin 256) : heads p n x w g wq kv (ix2 r ⟨a.val * 256 + d.val, by omega⟩)
    = refO KV (refP (refE (refS KV (refQ G WQ (refH X YP YN WO))) (refM (refS KV (refQ G WQ (refH X YP YN WO)))))) (ix3 b t ⟨a.val * 256 + d.val, by omega⟩) := by
  rw [heads_at]
  have hQ := q_eq p n x w g wq X YP YN WO G WQ b t r hx hp hn hw hg hq
  have hK : ∀ (i : Fin 2) (a : Fin 4) (j e : Fin 256), KV (ix5 b j i a e) = kv (ix3 0 j ⟨i.val * 1024 + a.val * 256 + e.val, kvlt i a e⟩) := fun i a j e => (hkv j i a e).symm
  simp only [hK, ← hQ]
  match a with
  | 0 =>
    have e0 : ∀ e : Fin 256, (⟨(0 : Fin 4).val * 256 + e.val, by show 0 * 256 + e.val < 1024; omega⟩ : Fin 1024) = ⟨e.val, by omega⟩ := fun e => Fin.ext (show 0 * 256 + e.val = e.val by omega)
    simp only [e0, heads]
    rw [pay8_at0, pay5_at]
    simp only [pay4_at]
    exact mixed_congr (fun j => Finset.sum_congr rfl fun e _ => congrArg _ (ld4 kv j e)) (fun j => ld5 kv j d)
  | 1 =>
    have e0 : ∀ e : Fin 256, (⟨(1 : Fin 4).val * 256 + e.val, by show 1 * 256 + e.val < 1024; omega⟩ : Fin 1024) = ⟨256 + e.val, by omega⟩ := fun e => Fin.ext (show 1 * 256 + e.val = 256 + e.val by omega)
    simp only [e0, heads]
    rw [pay8_at1, pay6_at]
    exact mixed_congr (fun j => Finset.sum_congr rfl fun e _ => congrArg _ (ld6 kv j e)) (fun j => ld7 kv j d)
  | 2 =>
    have e0 : ∀ e : Fin 256, (⟨(2 : Fin 4).val * 256 + e.val, by show 2 * 256 + e.val < 1024; omega⟩ : Fin 1024) = ⟨512 + e.val, by omega⟩ := fun e => Fin.ext (show 2 * 256 + e.val = 512 + e.val by omega)
    simp only [e0, heads]
    rw [pay8_at2]
    simp only [pay7_at]
    exact mixed_congr (fun j => Finset.sum_congr rfl fun e _ => congrArg _ (ld8 kv j e)) (fun j => ld9 kv j d)
  | 3 =>
    have e0 : ∀ e : Fin 256, (⟨(3 : Fin 4).val * 256 + e.val, by show 3 * 256 + e.val < 1024; omega⟩ : Fin 1024) = ⟨768 + e.val, by omega⟩ := fun e => Fin.ext (show 3 * 256 + e.val = 768 + e.val by omega)
    simp only [e0, heads]
    rw [pay8_at3]
    exact mixed_congr (fun j => Finset.sum_congr rfl fun e _ => congrArg _ (ld10 kv j e)) (fun j => ld11 kv j d)

include hx hp hn hw hg hq hkv hwx in
theorem row_eq (l : Fin 1024) : k0_pay1 (F := Ideal) (k0_pay2 p n x w) (heads p n x w g wq kv) (k0_pay9 wx) (ix3 0 r l) = REF X YP YN WO G WQ KV WX (ix3 b t l) := by
  rw [pay1_at, REF, refY_at, h_eq p n x w X YP YN WO b t r hx hp hn hw]
  refine congrArg _ (Finset.sum_congr rfl fun k _ => ?_)
  rw [pay9_at, hwx]
  have hk : k = ⟨(⟨k.val / 256, by omega⟩ : Fin 4).val * 256 + (⟨k.val % 256, by omega⟩ : Fin 256).val, by simp only; omega⟩ := Fin.ext (by simp only; omega)
  rw [hk, heads_eq p n x w g wq kv X YP YN WO G WQ KV b t r hx hp hn hw hg hq hkv, ← hk]

end Cert.XattnIdeal.Result

end
-- ==== Proof.XattnValue.lean ====
/- The attention over memory: what its result array ends with is the plain reference's own term. -/
module

public import proofs.«01_k».proof.Proof.XattnRow

@[expose] public section

set_option maxRecDepth 16384

noncomputable section

open Idealize.ShloMosaic Idealize.ShloMosaic.TcCoe Idealize.SL.Sem
open Idealize.ShloMosaic.Pipeline (Dat)

namespace Cert.XattnIdeal.Result

open Cert.XattnIdeal Cert.XattnIdeal.Gen
open Cert.XattnRefIdeal.Term

variable (m : (ℓ : Loc nD τ sig) → Buf (Elt Ideal) ℓ)

abbrev aX (c : Dev nD) : FVec Ideal S8x4096x1024 .f32 := m ((c : Thread nD τ).loc main_arg0)
abbrev aP (c : Dev nD) : FVec Ideal S8x4096x512 .f32 := m ((c : Thread nD τ).loc main_arg1)
abbrev aN (c : Dev nD) : FVec Ideal S8x4096x512 .f32 := m ((c : Thread nD τ).loc main_arg2)
abbrev aO (c : Dev nD) : FVec Ideal S1024x1024 .f32 := m ((c : Thread nD τ).loc main_arg3)
abbrev aG (c : Dev nD) : FVec Ideal S1024 .f32 := m ((c : Thread nD τ).loc main_arg4)
abbrev aQ (c : Dev nD) : FVec Ideal S1024x1024 .f32 := m ((c : Thread nD τ).loc main_arg5)
abbrev aKV (c : Dev nD) : FVec Ideal S8x256x2x4x256 .f32 := m ((c : Thread nD τ).loc main_arg6)
abbrev aW (c : Dev nD) : FVec Ideal S1024x1024 .f32 := m ((c : Thread nD τ).loc main_arg7)

theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![0, 0] ∧ win0_4.index t = ![0, 0] ∧ win0_5.index t = ![0, 0] ∧ win0_6.index t = ![t.val / 4, 0, 0] ∧ win0_7.index t = ![0, 0]
    ∧ win0_8.index t = ![t.val / 4, t.val % 4, 0] :=
  (by decide +kernel : ∀ t : Fin grid0.N, _)

section Reads

variable (c : Dev nD) (t : Fin cfg0.N) (ht : t.val < 32)

theorem read0 (r k : Fin 1024) (hr : t.val % 4 * 1024 + r.val < 4096) : (show FVec Ideal S1x1024x1024 .f32 from iblk m c 0 t) (ix3 0 r k)
    = aX m c (ix3 ⟨t.val / 4, by omega⟩ ⟨t.val % 4 * 1024 + r.val, hr⟩ k) := by
  blk_ext! [iblk, V, idx t]

theorem read1 (r : Fin 1024) (k : Fin 512) (hr : t.val % 4 * 1024 + r.val < 4096) : (show FVec Ideal S1x1024x512 .f32 from iblk m c 1 t) (ix3 0 r k)
    = aP m c (ix3 ⟨t.val / 4, by omega⟩ ⟨t.val % 4 * 1024 + r.val, hr⟩ k) := by
  blk_ext! [iblk, V, idx t]

theorem read2 (r : Fin 1024) (k : Fin 512) (hr : t.val % 4 * 1024 + r.val < 4096) : (show FVec Ideal S1x1024x512 .f32 from iblk m c 2 t) (ix3 0 r k)
    = aN m c (ix3 ⟨t.val / 4, by omega⟩ ⟨t.val % 4 * 1024 + r.val, hr⟩ k) := by
  blk_ext! [iblk, V, idx t]

theorem read3 (k l : Fin 1024) : (show FVec Ideal S1024x1024 .bf16 from iblk m c 3 t) (ix2 k l) = aO m c (ix2 k l) := by
  blk_ext! [iblk, V, idx t]

theorem read4 (k : Fin 1024) : (show FVec Ideal S1x1024 .f32 from iblk m c 4 t) (ix2 0 k) = aG m c (ix1 k) := by
  blk_ext! [iblk, V, idx t]

theorem read5 (k l : Fin 1024) : (show FVec Ideal S1024x1024 .bf16 from iblk m c 5 t) (ix2 k l) = aQ m c (ix2 k l) := by
  blk_ext! [iblk, V, idx t]

theorem read7 (k l : Fin 1024) : (show FVec Ideal S1024x1024 .bf16 from iblk m c 7 t) (ix2 k l) = aW m c (ix2 k l) := by
  blk_ext! [iblk, V, idx t]

theorem read6 (j : Fin 256) (p : Fin 2) (n : Fin 4) (e : Fin 256) : (show FVec Ideal S1x256x2048 .f32 from iblk m c 6 t) (ix3 0 j ⟨p.val * 1024 + n.val * 256 + e.val, kvlt p n e⟩)
    = aKV m c (ix5 ⟨t.val / 4, by omega⟩ j p n e) := by
  blk_ext! [iblk, V, idx t]

end Reads

theorem final8 (c : Dev nD) : (dats m 0 c).arrAt 8 (cfgs 0).N = REF (aX m c) (aP m c) (aN m c) (aO m c) (aG m c) (aQ m c) (aKV m c) (aW m c) := by
  refine (dats m 0 c).arrAt_eq_of_covers 8 _ (by decide +kernel) fun t _ y => ?_
  blk_simp
  rw [after0_8]; unfold_out out0_8; frame_out
  have ht : t.val < 32 := lt_of_lt_of_eq t.isLt N_0
  have h1 : (y 1).val < 1024 := (y 1).isLt
  have h2 : (y 2).val < 1024 := (y 2).isLt
  have hb : t.val / 4 < 8 := by omega
  have hr : t.val % 4 * 1024 + (y 1).val < 4096 := by omega
  have hy : y = (ix3 0 (y 1) (y 2) : S1x1024x1024.Idx) := by blk_ext []
  have he : (((cfg0.win 8).blk t).view.emb y) = (ix3 ⟨t.val / 4, hb⟩ ⟨t.val % 4 * 1024 + (y 1).val, hr⟩ (y 2) : S8x4096x1024.Idx) := by
    blk_ext [idx t]
  refine (congrArg _ hy).trans (Eq.trans ?_ (congrArg _ he.symm))
  generalize (y 1 : Fin 1024) = r at *
  generalize (y 2 : Fin 1024) = l at *
  exact row_eq (iblk m c 1 t) (iblk m c 2 t) (iblk m c 0 t) (iblk m c 3 t) (iblk m c 4 t) (iblk m c 5 t) (iblk m c 6 t) (iblk m c 7 t)
    (aX m c) (aP m c) (aN m c) (aO m c) (aG m c) (aQ m c) (aKV m c) (aW m c) ⟨t.val / 4, hb⟩ ⟨t.val % 4 * 1024 + r.val, hr⟩ r
    (fun k => read0 m c t ht r k hr) (fun k => read1 m c t ht r k hr) (fun k => read2 m c t ht r k hr) (read3 m c t) (read4 m c t) (read5 m c t)
    (read6 m c t ht) (read7 m c t) l

end Cert.XattnIdeal.Result

end
-- ==== Proof.XattnClaims.lean ====
/- The claims on the attention over memory. -/
module

public import proofs.«01_k».proof.Defs
public import proofs.«01_k».proof.Proof.Gen.Xattn.Frame
public import proofs.«01_k».proof.Proof.XattnValue
public import Idealize.ShloMosaic.Adequacy
public import Idealize.ShloMosaic.Init

@[expose] public section

noncomputable section

namespace Cert.XattnClaims

open Idealize.ShloMosaic Idealize.SL.Sem

theorem frame : Cert.quiescent_Xattn := fun m g _ => Cert.Xattn.Gen.frame m g

theorem frame_ideal : Cert.quiescent_XattnIdeal := fun m g _ => Cert.XattnIdeal.Gen.frame m g

theorem frame_ref : Cert.quiescent_XattnRefIdeal := fun m g _ =>
  (θ_run Cert.XattnRefIdeal.defs _ _).mono (fun r h => ⟨fun c => (h c).2, sem_eq_zero_of_no_sems (by decide) r.2⟩) (Cert.XattnRefIdeal.Value.run (F := Ideal) m g)

theorem algebraic : Cert.algebraic_XattnIdeal_XattnRefIdeal := by
  pair_intro
  · run_from Cert.XattnIdeal.Gen.run_main m g
  · run_from Cert.XattnRefIdeal.Value.run m' g'
    refine (Cert.XattnRefIdeal.Term.res_eq m' c).trans (Eq.trans ?_ (Cert.XattnIdeal.Result.final8 m c).symm)
    obtain ⟨h0, h1, h2, h3, h4, h5, h6, h7⟩ := hagree c
    rw [h0, h1, h2, h3, h4, h5, h6, h7]

end Cert.XattnClaims

end
-- ==== Proof.MixInTerm.lean ====
/- The token mixer's input projection: the normed rows of the residual stream against the input weights, and the seven pieces
   that the kernel writes of them. What each result array ends with is the plain reference's own term. -/
module

public import proofs.«01_k».proof.Proof.Gen.MixInIdeal.Frame
public import proofs.«01_k».proof.Proof.Gen.MixInRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixInRefIdeal.Term

open Cert.MixInRefIdeal Cert.MixInRefIdeal.Gen

/-- One entry of the projection: the row `x` normed by its root mean square, times the gains `g`, against the column `w`. -/
def entry (x g w : Fin 1024 → EReal) : EReal :=
  ∑ k, x k * Ideal.rsqrt (Ideal.div (∑ l, x l * x l) (Ideal.ofBits .f32 0x44800000#32) + Ideal.ofBits .f32 0x358637BD#32) * g k * w k

theorem entry_congr {x x' g g' w w' : Fin 1024 → EReal} (hx : x = x') (hg : g = g') (hw : w = w') :
    entry x g w = entry x' g' w' := by rw [hx, hg, hw]

variable (X : FVec Ideal S8x4096x1024 .f32) (g : FVec Ideal S1024 .f32) (W : FVec Ideal S1024x1816 .f32)

/-- The whole projection, before it is cut into pieces. -/
def refZ : FVec Ideal S8x4096x1816 .f32 :=
  Host.dotGeneral dot_S8x4096x1024_S1024x1816_S8x4096x1816_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) W

theorem refZ_at (b : Fin 8) (t : Fin 4096) (n : Fin 1816) :
    refZ X g W (ix3 b t n) = entry (fun k => X (ix3 b t k)) (fun k => g (ix1 k)) (fun k => W (ix2 k n)) := by
  pointwise [refZ, entry]

/-- The pooled mixer's input. -/
def refU : FVec Ideal S32768x512 .f32 :=
  shapeCast _ (extractStridedSlice S8x4096x512 ![0, 0, 0] (refZ X g W) slices_S8x4096x1816_S8x4096x512_0_0_0) shapeCasts_S8x4096x512_S32768x512

/-- The queries. -/
def refQ : FVec Ideal S32768x512 .f32 :=
  shapeCast _ (extractStridedSlice S8x4096x512 ![0, 0, 512] (refZ X g W) slices_S8x4096x1816_S8x4096x512_0_0_512) shapeCasts_S8x4096x512_S32768x512

/-- The keys and values to be compressed. -/
def refC : FVec Ideal S32768x256 .f32 :=
  shapeCast _ (extractStridedSlice S8x4096x256 ![0, 0, 1024] (refZ X g W) slices_S8x4096x1816_S8x4096x256_0_0_1024) shapeCasts_S8x4096x256_S32768x256

/-- The keys of the selected branch. -/
def refS : FVec Ideal S32768x128 .f32 :=
  shapeCast _ (extractStridedSlice S8x4096x128 ![0, 0, 1280] (refZ X g W) slices_S8x4096x1816_S8x4096x128_0_0_1280) shapeCasts_S8x4096x128_S32768x128

/-- The gates. -/
def refG : FVec Ideal S32768x128 .f32 :=
  shapeCast _ (Host.divf (broadcastInDim S8x4096x128 ![] bcast_S_S8x4096x128 (constant S_ .f32 0x3F800000#32)) (addf (broadcastInDim S8x4096x128 ![] bcast_S_S8x4096x128 (constant S_ .f32 0x3F800000#32)) (Host.exp (Host.negf (pad S8x4096x128 ![0, 0, 0] ![0, 0, 104] ![0, 0, 0] (extractStridedSlice S8x4096x24 ![0, 0, 1792] (refZ X g W) slices_S8x4096x1816_S8x4096x24_0_0_1792) (sitofp .f32 (constantI S_ 32 0#32)) pads_S8x4096x24_S8x4096x128_000_000_01040 h_S_))))) shapeCasts_S8x4096x128_S32768x128

/-- The key-value rows, channels first. -/
def refKV : FVec Ideal S8x512x4096 .f32 :=
  transpose S8x512x4096 [0, 2, 1] (extractStridedSlice S8x4096x512 ![0, 0, 1024] (refZ X g W) slices_S8x4096x1816_S8x4096x512_0_0_1024) transposes_S8x4096x512_S8x512x4096_0_2_1

/-- The window's key-value rows, channels first. -/
def refWin : FVec Ideal S8x256x4096 .f32 :=
  transpose S8x256x4096 [0, 2, 1] (extractStridedSlice S8x4096x256 ![0, 0, 1536] (refZ X g W) slices_S8x4096x1816_S8x4096x256_0_0_1536) transposes_S8x4096x256_S8x256x4096_0_2_1

theorem refU_at (i : Fin 32768) (n : Fin 512) :
    refU X g W (ix2 i n) = refZ X g W (ix3 ⟨i.val / 4096, by omega⟩ ⟨i.val % 4096, by omega⟩ ⟨n.val, by omega⟩) := by
  pointwise [refU]

theorem refQ_at (i : Fin 32768) (n : Fin 512) :
    refQ X g W (ix2 i n) = refZ X g W (ix3 ⟨i.val / 4096, by omega⟩ ⟨i.val % 4096, by omega⟩ ⟨512 + n.val, by omega⟩) := by
  pointwise [refQ]

theorem refC_at (i : Fin 32768) (n : Fin 256) :
    refC X g W (ix2 i n) = refZ X g W (ix3 ⟨i.val / 4096, by omega⟩ ⟨i.val % 4096, by omega⟩ ⟨1024 + n.val, by omega⟩) := by
  pointwise [refC]

theorem refS_at (i : Fin 32768) (n : Fin 128) :
    refS X g W (ix2 i n) = refZ X g W (ix3 ⟨i.val / 4096, by omega⟩ ⟨i.val % 4096, by omega⟩ ⟨1280 + n.val, by omega⟩) := by
  pointwise [refS]

theorem refG_at (i : Fin 32768) (n : Fin 128) :
    refG X g W (ix2 i n) = Ideal.div 1 (1 + Ideal.exp (-(if h : n.val < 24 then
      refZ X g W (ix3 ⟨i.val / 4096, by omega⟩ ⟨i.val % 4096, by omega⟩ ⟨1792 + n.val, by omega⟩) else 0))) := by
  pointwise [refG]
  have h0 : (FloatOps.sitofp FTy.f32 0#32 : Ideal .f32) = (0 : EReal) := by
    show (((0#32 : BitVec 32).toInt : ℝ) : EReal) = 0
    simp
  have h8 : i.val / 4096 < 8 := by omega
  have h4 : i.val % 4096 < 4096 := by omega
  simp only [h0, h8, h4, true_and]

theorem refKV_at (b : Fin 8) (n : Fin 512) (t : Fin 4096) :
    refKV X g W (ix3 b n t) = refZ X g W (ix3 b t ⟨1024 + n.val, by omega⟩) := by
  pointwise [refKV]

theorem refWin_at (b : Fin 8) (n : Fin 256) (t : Fin 4096) :
    refWin X g W (ix3 b n t) = refZ X g W (ix3 b t ⟨1536 + n.val, by omega⟩) := by
  pointwise [refWin]

end Cert.MixInRefIdeal.Term

namespace Cert.MixInIdeal.Result

open Cert.MixInIdeal Cert.MixInIdeal.Gen
open Cert.MixInRefIdeal.Term

theorem pay7_at (x : FVec Ideal S512x1024 .f32) (g : FVec Ideal S1x1024 .f32) (w : FVec Ideal S1024x512 .bf16) (r : Fin 512) (l : Fin 512) :
    k0_pay7 (F := Ideal) x g w (ix2 r l) = entry (fun k => x (ix2 r k)) (fun k => g (ix2 0 k)) (fun k => w (ix2 k l)) := by
  pointwise [k0_pay7, k0_pay6, entry]

theorem pay8_at (x : FVec Ideal S512x1024 .f32) (g : FVec Ideal S1x1024 .f32) (w : FVec Ideal S1024x512 .bf16) (r : Fin 512) (l : Fin 512) :
    k0_pay8 (F := Ideal) x g w (ix2 r l) = entry (fun k => x (ix2 r k)) (fun k => g (ix2 0 k)) (fun k => w (ix2 k l)) := by
  pointwise [k0_pay8, k0_pay6, entry]

theorem pay9_at (x : FVec Ideal S512x1024 .f32) (g : FVec Ideal S1x1024 .f32) (w : FVec Ideal S1024x256 .bf16) (r : Fin 512) (l : Fin 256) :
    k0_pay9 (F := Ideal) x g w (ix2 r l) = entry (fun k => x (ix2 r k)) (fun k => g (ix2 0 k)) (fun k => w (ix2 k l)) := by
  pointwise [k0_pay9, k0_pay6, entry]

theorem pay1_at (x : FVec Ideal S512x1024 .f32) (g : FVec Ideal S1x1024 .f32) (w : FVec Ideal S1024x128 .bf16) (r : Fin 512) (l : Fin 128) :
    k0_pay1 (F := Ideal) (k0_pay6 x g) (k0_pay10 w) (constant S512x128 .f32 0x00000000#32) (ix2 r l)
      = entry (fun k => x (ix2 r k)) (fun k => g (ix2 0 k)) (fun k => w (ix2 k l)) := by
  pointwise [k0_pay1, k0_pay10, k0_pay6, entry]

theorem pay2_at (x : FVec Ideal S512x1024 .f32) (g : FVec Ideal S1x1024 .f32) (w : FVec Ideal S1024x128 .bf16) (r : Fin 512) (l : Fin 128) :
    k0_pay2 (F := Ideal) (k0_pay6 x g) w (ix2 r l)
      = Ideal.div 1 (1 + Ideal.exp (-(entry (fun k => x (ix2 r k)) (fun k => g (ix2 0 k)) (fun k => w (ix2 k l))))) := by
  pointwise [k0_pay2, k0_pay6, entry]
  rw [zero_sub]

theorem pay4_at (x : FVec Ideal S512x1024 .f32) (g : FVec Ideal S1x1024 .f32) (w : FVec Ideal S768x1024 .bf16) (l : Fin 512) (r : Fin 512) :
    k0_pay4 (F := Ideal) (k0_pay6 x g) w (ix3 0 l r)
      = entry (fun k => x (ix2 r k)) (fun k => g (ix2 0 k)) (fun k => w (ix2 ⟨l.val, by omega⟩ k)) := by
  pointwise [k0_pay4, k0_pay3, k0_pay6, entry]
  exact Finset.sum_congr rfl fun k _ => mul_comm _ _

theorem pay5_at (x : FVec Ideal S512x1024 .f32) (g : FVec Ideal S1x1024 .f32) (w : FVec Ideal S768x1024 .bf16) (l : Fin 256) (r : Fin 512) :
    k0_pay5 (F := Ideal) (k0_pay6 x g) w (ix3 0 l r)
      = entry (fun k => x (ix2 r k)) (fun k => g (ix2 0 k)) (fun k => w (ix2 ⟨512 + l.val, by omega⟩ k)) := by
  pointwise [k0_pay5, k0_pay3, k0_pay6, entry]
  exact Finset.sum_congr rfl fun k _ => mul_comm _ _

end Cert.MixInIdeal.Result

end
-- ==== Proof.MixInValue.lean ====
/- The token mixer's input projection: the arrays that the region finds, the blocks that a grid point reads of them, and the seven result
   arrays after the run. -/
module

public import proofs.«01_k».proof.Proof.MixInTerm

@[expose] public section

set_option maxRecDepth 16384

noncomputable section

open Idealize.ShloMosaic Idealize.ShloMosaic.TcCoe Idealize.SL.Sem
open Idealize.ShloMosaic.Pipeline (Dat)

namespace Cert.MixInIdeal.Result

open Cert.MixInIdeal Cert.MixInIdeal.Gen
open Cert.MixInRefIdeal.Term

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val / 8, 0, t.val % 8] ∧ win0_10.index t = ![t.val / 8, 0, t.val % 8] :=
  (by decide +kernel : ∀ t : Fin grid0.N, _)

/-- The argument arrays, at their own shapes. -/
abbrev aX (c : Dev nD) : FVec Ideal S8x4096x1024 .f32 := m ((c : Thread nD τ).loc main_arg0)
abbrev aG (c : Dev nD) : FVec Ideal S1024 .f32 := m ((c : Thread nD τ).loc main_arg1)
abbrev aW (c : Dev nD) : FVec Ideal S1024x1816 .f32 := m ((c : Thread nD τ).loc main_arg2)

/-! ## What the host operations before the region leave -/

theorem entry9 (c : Dev nD) : V m c main_v9 = shapeCast S32768x1024 (aX m c) shapeCasts_S8x4096x1024_S32768x1024 := by
  unfold V
  simp only [hostOps0, hostOps0_1, hostOps0_2, List.flatten_cons, List.flatten_nil, List.append_nil, List.cons_append, List.nil_append]
  after_results <;> rfl

theorem entry4 (c : Dev nD) : V m c main_v4 = shapeCast S1x1024 (aG m c) shapeCasts_S1024_S1x1024 := by
  unfold V
  simp only [hostOps0, hostOps0_1, hostOps0_2, List.flatten_cons, List.flatten_nil, List.append_nil, List.cons_append, List.nil_append]
  after_results <;> rfl

theorem entry8 (c : Dev nD) : V m c main_v8 = truncf .bf16 (transpose S768x1024 [1, 0] (extractStridedSlice S1024x768 ![0, 1024] (aW m c)
    slices_S1024x1816_S1024x768_0_1024) transposes_S1024x768_S768x1024_1_0) bitsLt_bf16_f32 := by
  unfold V
  simp only [hostOps0, hostOps0_1, hostOps0_2, List.flatten_cons, List.flatten_nil, List.append_nil, List.cons_append, List.nil_append]
  after_results <;> rfl

theorem entry5 (c : Dev nD) : V m c main_v5 = truncf .bf16 (concatenate S1024x1536 1 [⟨S1024x1408, extractStridedSlice S1024x1408 ![0, 0] (aW m c)
      slices_S1024x1816_S1024x1408_0_0⟩, ⟨S1024x128, pad S1024x128 ![0, 0] ![0, 104] ![0, 0] (extractStridedSlice S1024x24 ![0, 1792] (aW m c)
      slices_S1024x1816_S1024x24_0_1792) (sitofp .f32 (constantI S_ 32 0#32)) pads_S1024x24_S1024x128_000_01040 h_S_⟩]
      concatenates_S1024x1408_S1024x128_S1024x1536_d1) bitsLt_bf16_f32 := by
  unfold V
  simp only [hostOps0, hostOps0_1, hostOps0_2, List.flatten_cons, List.flatten_nil, List.append_nil, List.cons_append, List.nil_append]
  after_results <;> rfl

/-! ## The blocks a grid point reads, at an index -/

/-- The residual stream's rows, read through its reshaping. -/
theorem entry9_at (c : Dev nD) (i : Fin 32768) (k : Fin 1024) :
    (show FVec Ideal S32768x1024 .f32 from V m c main_v9) (ix2 i k) = aX m c (ix3 ⟨i.val / 4096, by omega⟩ ⟨i.val % 4096, by omega⟩ k) := by
  rw [entry9]
  pointwise

theorem entry4_at (c : Dev nD) (k : Fin 1024) :
    (show FVec Ideal S1x1024 .f32 from V m c main_v4) (ix2 0 k) = aG m c (ix1 k) := by
  rw [entry4]
  pointwise

theorem entry8_at (c : Dev nD) (l : Fin 768) (k : Fin 1024) :
    (show FVec Ideal S768x1024 .bf16 from V m c main_v8) (ix2 l k) = aW m c (ix2 k ⟨1024 + l.val, by omega⟩) := by
  rw [entry8]
  pointwise

theorem entry5_at (c : Dev nD) (k : Fin 1024) (l : Fin 1408) :
    (show FVec Ideal S1024x1536 .bf16 from V m c main_v5) (ix2 k ⟨l.val, by omega⟩) = aW m c (ix2 k ⟨l.val, by omega⟩) := by
  rw [entry5]
  pointwise

theorem entry5g_at (c : Dev nD) (k : Fin 1024) (l : Fin 128) :
    (show FVec Ideal S1024x1536 .bf16 from V m c main_v5) (ix2 k ⟨1408 + l.val, by omega⟩)
      = if h : l.val < 24 then aW m c (ix2 k ⟨1792 + l.val, by omega⟩) else 0 := by
  have h0 : (FloatOps.sitofp FTy.f32 0#32 : Ideal .f32) = (0 : EReal) := by
    show (((0#32 : BitVec 32).toInt : ℝ) : EReal) = 0
    simp
  rw [entry5]
  pointwise [h0]

theorem read0 (c : Dev nD) (t : Fin cfg0.N) (ht : t.val < 64) (r : Fin 512) (k : Fin 1024) :
    (show FVec Ideal S512x1024 .f32 from iblk m c 0 t) (ix2 r k)
      = aX m c (ix3 ⟨t.val / 8, by omega⟩ ⟨t.val % 8 * 512 + r.val, by omega⟩ k) := by
  have e : (show FVec Ideal S512x1024 .f32 from iblk m c 0 t) (ix2 r k)
      = (show FVec Ideal S32768x1024 .f32 from V m c main_v9) (ix2 ⟨t.val * 512 + r.val, by omega⟩ k) := by
    blk_ext [iblk, idx t]
  have e1 : (t.val * 512 + r.val) / 4096 = t.val / 8 := by omega
  have e2 : (t.val * 512 + r.val) % 4096 = t.val % 8 * 512 + r.val := by omega
  rw [e, entry9_at]
  simp only [e1, e2]

theorem read1 (c : Dev nD) (t : Fin cfg0.N) (k : Fin 1024) :
    (show FVec Ideal S1x1024 .f32 from iblk m c 1 t) (ix2 0 k) = aG m c (ix1 k) := by
  rw [← entry4_at]
  blk_ext [iblk, idx t]

theorem read2 (c : Dev nD) (t : Fin cfg0.N) (k : Fin 1024) (l : Fin 1536) :
    (show FVec Ideal S1024x1536 .bf16 from iblk m c 2 t) (ix2 k l) = (show FVec Ideal S1024x1536 .bf16 from V m c main_v5) (ix2 k l) := by
  blk_ext [iblk, idx t]

theorem read3 (c : Dev nD) (t : Fin cfg0.N) (l : Fin 768) (k : Fin 1024) :
    (show FVec Ideal S768x1024 .bf16 from iblk m c 3 t) (ix2 l k) = aW m c (ix2 k ⟨1024 + l.val, by omega⟩) := by
  rw [← entry8_at]
  blk_ext [iblk, idx t]

/-- The normed rows, as the later stores read them. -/
theorem pay11_eq (x0 : FVec Ideal S512x1024 .f32) (x1 : FVec Ideal S1x1024 .f32) (x2 : FVec Ideal S1024x1536 .bf16) (x3 : FVec Ideal S768x1024 .bf16) :
    k0_pay11 (F := Ideal) x0 x1 x2 x3 = k0_pay6 x0 x1 := by
  unfold k0_pay11
  frame_out

/-- A grid point's row against a column of the input weights is the projection's entry at the row's place in the stream. -/
theorem point (c : Dev nD) (t : Fin cfg0.N) (ht : t.val < 64) (r : Fin 512) (w : Fin 1024 → EReal) (n : Fin 1816)
    (hw : ∀ k, w k = aW m c (ix2 k n)) :
    entry (fun k => (show FVec Ideal S512x1024 .f32 from iblk m c 0 t) (ix2 r k)) (fun k => (show FVec Ideal S1x1024 .f32 from iblk m c 1 t) (ix2 0 k)) w
      = refZ (aX m c) (aG m c) (aW m c) (ix3 ⟨t.val / 8, by omega⟩ ⟨t.val % 8 * 512 + r.val, by omega⟩ n) := by
  rw [refZ_at]
  exact entry_congr (funext fun k => read0 m c t ht r k) (funext fun k => read1 m c t k) (funext hw)

theorem entry_zero (x g : Fin 1024 → EReal) : entry x g (fun _ => 0) = 0 := by
  unfold entry
  simp only [mul_zero, Finset.sum_const_zero]

theorem div4096 (t r : ℕ) (hr : r < 512) : (t * 512 + r) / 4096 = t / 8 := by omega
theorem mod4096 (t r : ℕ) (hr : r < 512) : (t * 512 + r) % 4096 = t % 8 * 512 + r := by omega

/-! ## The result arrays after the run -/

/-- The pooled mixer's input. -/
theorem final4 (c : Dev nD) : (dats m 0 c).arrAt 4 (cfgs 0).N = refU (aX m c) (aG m c) (aW m c) := by
  refine (dats m 0 c).arrAt_eq_of_covers 4 _ (by decide +kernel) fun t _ y => ?_
  blk_simp
  rw [after0_4]; frame_out
  have ht : t.val < 64 := lt_of_lt_of_eq t.isLt N_0
  have h0 : (y 0).val < 512 := (y 0).isLt
  have h1 : (y 1).val < 512 := (y 1).isLt
  have hr : t.val * 512 + (y 0).val < 32768 := by omega
  have hy : y = (ix2 (y 0) (y 1) : S512x512.Idx) := eq_ix2 y
  have he : (((cfg0.win 4).blk t).view.emb y) = (ix2 ⟨t.val * 512 + (y 0).val, hr⟩ (y 1) : S32768x512.Idx) := by blk_ext [idx t]
  refine (congrArg _ hy).trans (Eq.trans ?_ (congrArg _ he.symm))
  generalize (y 0 : Fin 512) = r at *
  generalize (y 1 : Fin 512) = l at *
  refine (pay7_at _ _ _ r l).trans (Eq.trans ?_ (refU_at _ _ _ _ _).symm)
  simp only [div4096 _ _ h0, mod4096 _ _ h0]
  refine point m c t ht r _ _ fun k => ?_
  refine Eq.trans ?_ (entry5_at m c k ⟨l.val, by omega⟩)
  refine Eq.trans ?_ (read2 m c t k ⟨l.val, by omega⟩)
  pointwise [r0_2]

/-- The queries. -/
theorem final5 (c : Dev nD) : (dats m 0 c).arrAt 5 (cfgs 0).N = refQ (aX m c) (aG m c) (aW m c) := by
  refine (dats m 0 c).arrAt_eq_of_covers 5 _ (by decide +kernel) fun t _ y => ?_
  blk_simp
  rw [after0_5]; frame_out
  have ht : t.val < 64 := lt_of_lt_of_eq t.isLt N_0
  have h0 : (y 0).val < 512 := (y 0).isLt
  have h1 : (y 1).val < 512 := (y 1).isLt
  have hr : t.val * 512 + (y 0).val < 32768 := by omega
  have hy : y = (ix2 (y 0) (y 1) : S512x512.Idx) := eq_ix2 y
  have he : (((cfg0.win 5).blk t).view.emb y) = (ix2 ⟨t.val * 512 + (y 0).val, hr⟩ (y 1) : S32768x512.Idx) := by blk_ext [idx t]
  refine (congrArg _ hy).trans (Eq.trans ?_ (congrArg _ he.symm))
  generalize (y 0 : Fin 512) = r at *
  generalize (y 1 : Fin 512) = l at *
  refine (pay8_at _ _ _ r l).trans (Eq.trans ?_ (refQ_at _ _ _ _ _).symm)
  simp only [div4096 _ _ h0, mod4096 _ _ h0]
  refine point m c t ht r _ _ fun k => ?_
  refine Eq.trans ?_ (entry5_at m c k ⟨512 + l.val, by omega⟩)
  refine Eq.trans ?_ (read2 m c t k ⟨512 + l.val, by omega⟩)
  pointwise [r0_4]

/-- The keys and values to be compressed. -/
theorem final6 (c : Dev nD) : (dats m 0 c).arrAt 6 (cfgs 0).N = refC (aX m c) (aG m c) (aW m c) := by
  refine (dats m 0 c).arrAt_eq_of_covers 6 _ (by decide +kernel) fun t _ y => ?_
  blk_simp
  rw [after0_6]; frame_out
  have ht : t.val < 64 := lt_of_lt_of_eq t.isLt N_0
  have h0 : (y 0).val < 512 := (y 0).isLt
  have h1 : (y 1).val < 256 := (y 1).isLt
  have hr : t.val * 512 + (y 0).val < 32768 := by omega
  have hy : y = (ix2 (y 0) (y 1) : S512x256.Idx) := eq_ix2 y
  have he : (((cfg0.win 6).blk t).view.emb y) = (ix2 ⟨t.val * 512 + (y 0).val, hr⟩ (y 1) : S32768x256.Idx) := by blk_ext [idx t]
  refine (congrArg _ hy).trans (Eq.trans ?_ (congrArg _ he.symm))
  generalize (y 0 : Fin 512) = r at *
  generalize (y 1 : Fin 256) = l at *
  refine (pay9_at _ _ _ r l).trans (Eq.trans ?_ (refC_at _ _ _ _ _).symm)
  simp only [div4096 _ _ h0, mod4096 _ _ h0]
  refine point m c t ht r _ _ fun k => ?_
  refine Eq.trans ?_ (entry5_at m c k ⟨1024 + l.val, by omega⟩)
  refine Eq.trans ?_ (read2 m c t k ⟨1024 + l.val, by omega⟩)
  pointwise [r0_5]

/-- The selected branch's keys. -/
theorem final7 (c : Dev nD) : (dats m 0 c).arrAt 7 (cfgs 0).N = refS (aX m c) (aG m c) (aW m c) := by
  refine (dats m 0 c).arrAt_eq_of_covers 7 _ (by decide +kernel) fun t _ y => ?_
  blk_simp
  rw [after0_7]; frame_out
  rw [pay11_eq]
  have ht : t.val < 64 := lt_of_lt_of_eq t.isLt N_0
  have h0 : (y 0).val < 512 := (y 0).isLt
  have h1 : (y 1).val < 128 := (y 1).isLt
  have hr : t.val * 512 + (y 0).val < 32768 := by omega
  have hy : y = (ix2 (y 0) (y 1) : S512x128.Idx) := eq_ix2 y
  have he : (((cfg0.win 7).blk t).view.emb y) = (ix2 ⟨t.val * 512 + (y 0).val, hr⟩ (y 1) : S32768x128.Idx) := by blk_ext [idx t]
  refine (congrArg _ hy).trans (Eq.trans ?_ (congrArg _ he.symm))
  generalize (y 0 : Fin 512) = r at *
  generalize (y 1 : Fin 128) = l at *
  refine (pay1_at _ _ _ r l).trans (Eq.trans ?_ (refS_at _ _ _ _ _).symm)
  simp only [div4096 _ _ h0, mod4096 _ _ h0]
  refine point m c t ht r _ _ fun k => ?_
  refine Eq.trans ?_ (entry5_at m c k ⟨1280 + l.val, by omega⟩)
  refine Eq.trans ?_ (read2 m c t k ⟨1280 + l.val, by omega⟩)
  pointwise [r0_7]

/-- The gates. -/
theorem final8 (c : Dev nD) : (dats m 0 c).arrAt 8 (cfgs 0).N = refG (aX m c) (aG m c) (aW m c) := by
  refine (dats m 0 c).arrAt_eq_of_covers 8 _ (by decide +kernel) fun t _ y => ?_
  blk_simp
  rw [after0_8]; frame_out
  rw [pay11_eq]
  have ht : t.val < 64 := lt_of_lt_of_eq t.isLt N_0
  have h0 : (y 0).val < 512 := (y 0).isLt
  have h1 : (y 1).val < 128 := (y 1).isLt
  have hr : t.val * 512 + (y 0).val < 32768 := by omega
  have hy : y = (ix2 (y 0) (y 1) : S512x128.Idx) := eq_ix2 y
  have he : (((cfg0.win 8).blk t).view.emb y) = (ix2 ⟨t.val * 512 + (y 0).val, hr⟩ (y 1) : S32768x128.Idx) := by blk_ext [idx t]
  refine (congrArg _ hy).trans (Eq.trans ?_ (congrArg _ he.symm))
  generalize (y 0 : Fin 512) = r at *
  generalize (y 1 : Fin 128) = l at *
  refine (pay2_at _ _ _ r l).trans (Eq.trans ?_ (refG_at _ _ _ _ _).symm)
  simp only [div4096 _ _ h0, mod4096 _ _ h0]
  have hw : ∀ k : Fin 1024, View.ld (iblk m c 2 t) r0_9 (ix2 k l) = if h : l.val < 24 then aW m c (ix2 k ⟨1792 + l.val, by omega⟩) else 0 := fun k => by
    refine Eq.trans ?_ (entry5g_at m c k ⟨l.val, by omega⟩)
    refine Eq.trans ?_ (read2 m c t k ⟨1408 + l.val, by omega⟩)
    pointwise [r0_9]
  refine congrArg (fun z => Ideal.div 1 (1 + Ideal.exp (-z))) ?_
  by_cases h : l.val < 24
  · rw [dif_pos h]
    exact point m c t ht r _ _ fun k => (hw k).trans (dif_pos h)
  · rw [dif_neg h]
    exact (entry_congr rfl rfl (funext fun k => (hw k).trans (dif_neg h))).trans (entry_zero _ _)

/-- The key-value rows, channels first. -/
theorem final9 (c : Dev nD) : (dats m 0 c).arrAt 9 (cfgs 0).N = refKV (aX m c) (aG m c) (aW m c) := by
  refine (dats m 0 c).arrAt_eq_of_covers 9 _ (by decide +kernel) fun t _ y => ?_
  blk_simp
  rw [after0_9]; frame_out
  rw [pay11_eq]
  have ht : t.val < 64 := lt_of_lt_of_eq t.isLt N_0
  have h1 : (y 1).val < 512 := (y 1).isLt
  have h2 : (y 2).val < 512 := (y 2).isLt
  have hb : t.val / 8 < 8 := by omega
  have hr : t.val % 8 * 512 + (y 2).val < 4096 := by omega
  have hy : y = (ix3 0 (y 1) (y 2) : S1x512x512.Idx) := by blk_ext []
  have he : (((cfg0.win 9).blk t).view.emb y) = (ix3 ⟨t.val / 8, hb⟩ (y 1) ⟨t.val % 8 * 512 + (y 2).val, hr⟩ : S8x512x4096.Idx) := by
    blk_ext [idx t]
  refine (congrArg _ hy).trans (Eq.trans ?_ (congrArg _ he.symm))
  generalize (y 1 : Fin 512) = l at *
  generalize (y 2 : Fin 512) = r at *
  refine (pay4_at _ _ _ l r).trans (Eq.trans ?_ (refKV_at _ _ _ _ _ _).symm)
  exact point m c t ht r _ ⟨1024 + l.val, by omega⟩ fun k => read3 m c t ⟨l.val, by omega⟩ k

/-- The window's key-value rows, channels first. -/
theorem final10 (c : Dev nD) : (dats m 0 c).arrAt 10 (cfgs 0).N = refWin (aX m c) (aG m c) (aW m c) := by
  refine (dats m 0 c).arrAt_eq_of_covers 10 _ (by decide +kernel) fun t _ y => ?_
  blk_simp
  rw [after0_10]; frame_out
  rw [pay11_eq]
  have ht : t.val < 64 := lt_of_lt_of_eq t.isLt N_0
  have h1 : (y 1).val < 256 := (y 1).isLt
  have h2 : (y 2).val < 512 := (y 2).isLt
  have hb : t.val / 8 < 8 := by omega
  have hr : t.val % 8 * 512 + (y 2).val < 4096 := by omega
  have hy : y = (ix3 0 (y 1) (y 2) : S1x256x512.Idx) := by blk_ext []
  have he : (((cfg0.win 10).blk t).view.emb y) = (ix3 ⟨t.val / 8, hb⟩ (y 1) ⟨t.val % 8 * 512 + (y 2).val, hr⟩ : S8x256x4096.Idx) := by
    blk_ext [idx t]
  refine (congrArg _ hy).trans (Eq.trans ?_ (congrArg _ he.symm))
  generalize (y 1 : Fin 256) = l at *
  generalize (y 2 : Fin 512) = r at *
  refine (pay5_at _ _ _ l r).trans (Eq.trans ?_ (refWin_at _ _ _ _ _ _).symm)
  exact point m c t ht r _ ⟨1536 + l.val, by omega⟩ fun k =>
    (read3 m c t ⟨512 + l.val, by omega⟩ k).trans (congrArg (fun j => aW m c (ix2 k j)) (Fin.ext (show 1024 + (512 + l.val) = 1536 + l.val by omega)))

end Cert.MixInIdeal.Result

end
-- ==== Proof.MixInClaims.lean ====
/- The claims on the token mixer's input projection. -/
module

public import proofs.«01_k».proof.Defs
public import proofs.«01_k».proof.Proof.Gen.MixIn.Frame
public import proofs.«01_k».proof.Proof.MixInValue
public import Idealize.ShloMosaic.Adequacy
public import Idealize.ShloMosaic.Init

@[expose] public section

noncomputable section

namespace Cert.MixInClaims

open Idealize.ShloMosaic Idealize.SL.Sem

theorem frame : Cert.quiescent_MixIn := fun m g _ => Cert.MixIn.Gen.frame m g

theorem frame_ideal : Cert.quiescent_MixInIdeal := fun m g _ => Cert.MixInIdeal.Gen.frame m g

theorem frame_ref : Cert.quiescent_MixInRefIdeal := fun m g _ =>
  (θ_run Cert.MixInRefIdeal.defs _ _).mono (fun r h => ⟨fun c => (h c).2.2.2.2.2.2.2, sem_eq_zero_of_no_sems (by decide) r.2⟩) (Cert.MixInRefIdeal.Value.run (F := Ideal) m g)

section Pairs

variable (m : (ℓ : Loc Cert.MixInIdeal.nD Cert.MixInIdeal.τ Cert.MixInIdeal.sig) → Buf (Elt Ideal) ℓ)
  (m' : (ℓ : Loc Cert.MixInRefIdeal.nD Cert.MixInRefIdeal.τ Cert.MixInRefIdeal.sig) → Buf (Elt Ideal) ℓ) (c : Dev Cert.MixInIdeal.nD)
  (h0 : m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0))
  (h1 : m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1))
  (h2 : m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2))

include h0 h1 h2 in
theorem pair4 : Cert.MixInRefIdeal.Term.refU (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 4 (Cert.MixInIdeal.cfgs 0).N := by
  rw [h0, h1, h2]; exact (Cert.MixInIdeal.Result.final4 m c).symm

include h0 h1 h2 in
theorem pair5 : Cert.MixInRefIdeal.Term.refQ (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 5 (Cert.MixInIdeal.cfgs 0).N := by
  rw [h0, h1, h2]; exact (Cert.MixInIdeal.Result.final5 m c).symm

include h0 h1 h2 in
theorem pair6 : Cert.MixInRefIdeal.Term.refC (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 6 (Cert.MixInIdeal.cfgs 0).N := by
  rw [h0, h1, h2]; exact (Cert.MixInIdeal.Result.final6 m c).symm

include h0 h1 h2 in
theorem pair7 : Cert.MixInRefIdeal.Term.refS (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 7 (Cert.MixInIdeal.cfgs 0).N := by
  rw [h0, h1, h2]; exact (Cert.MixInIdeal.Result.final7 m c).symm

include h0 h1 h2 in
theorem pair8 : Cert.MixInRefIdeal.Term.refG (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 8 (Cert.MixInIdeal.cfgs 0).N := by
  rw [h0, h1, h2]; exact (Cert.MixInIdeal.Result.final8 m c).symm

include h0 h1 h2 in
theorem pair9 : Cert.MixInRefIdeal.Term.refKV (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 9 (Cert.MixInIdeal.cfgs 0).N := by
  rw [h0, h1, h2]; exact (Cert.MixInIdeal.Result.final9 m c).symm

include h0 h1 h2 in
theorem pair10 : Cert.MixInRefIdeal.Term.refWin (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2))
    = (Cert.MixInIdeal.Gen.dats m 0 c).arrAt 10 (Cert.MixInIdeal.cfgs 0).N := by
  rw [h0, h1, h2]; exact (Cert.MixInIdeal.Result.final10 m c).symm

end Pairs

set_option maxHeartbeats 2000000 in
theorem algebraic : Cert.algebraic_MixInIdeal_MixInRefIdeal := by
  pair_intro
  · run_from Cert.MixInIdeal.Gen.run_main m g
    · exact Cert.MixInIdeal.Gen.V_main_arg0 m c
    · exact Cert.MixInIdeal.Gen.V_main_arg1 m c
    · exact Cert.MixInIdeal.Gen.V_main_arg2 m c
  · refine (θ_run Cert.MixInRefIdeal.defs _ _).mono (fun r h c => ?_) (Cert.MixInRefIdeal.Value.run (F := Ideal) m' g')
    obtain ⟨e0, e1, e2, e3, e4, e5, e6, a0, a1, a2⟩ := h c
    obtain ⟨h0, h1, h2⟩ := hagree c
    exact ⟨e0.trans (pair4 m m' c h0 h1 h2), e1.trans (pair5 m m' c h0 h1 h2), e2.trans (pair6 m m' c h0 h1 h2), e3.trans (pair7 m m' c h0 h1 h2),
      e4.trans (pair8 m m' c h0 h1 h2), e5.trans (pair9 m m' c h0 h1 h2), e6.trans (pair10 m m' c h0 h1 h2), a0, a1, a2⟩

end Cert.MixInClaims

end
-- ==== Proof.MemProjValue.lean ====
/- The memory projection: what the kernel leaves in its result array is the root-mean-square norm of each memory row times the weights,
   the same composed term as the plain reference's. -/
module

public import proofs.«01_k».proof.Proof.Gen.MemProjIdeal.Frame
public import proofs.«01_k».proof.Proof.Gen.MemProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemProjRefIdeal.Term

open Cert.MemProjRefIdeal Cert.MemProjRefIdeal.Gen

/-- The reference's result over its three arguments. -/
def REF (X : FVec Ideal S8x256x1024 .f32) (g : FVec Ideal S1024 .f32) (W : FVec Ideal S1024x2048 .f32) : FVec Ideal S2048x2048 .f32 :=
  shapeCast _ (Host.dotGeneral dot_S8x256x1024_S1024x2048_S8x256x2048_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))) W) shapeCasts_S8x256x2048_S2048x2048

end Cert.MemProjRefIdeal.Term

namespace Cert.MemProjIdeal.Result

open Cert.MemProjIdeal Cert.MemProjIdeal.Gen
open Cert.MemProjRefIdeal.Term (REF)

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- One entry of the projection: the row `x` normed by its root mean square, times the gains `g`, against the column `w`. -/
def entry (x g w : Fin 1024 → EReal) : EReal :=
  ∑ k, x k * Ideal.rsqrt (Ideal.div (∑ l, x l * x l) (Ideal.ofBits .f32 0x44800000#32) + Ideal.ofBits .f32 0x358637BD#32) * g k * w k

theorem entry_congr {x x' g g' w w' : Fin 1024 → EReal} (hx : x = x') (hg : g = g') (hw : w = w') :
    entry x g w = entry x' g' w' := by rw [hx, hg, hw]

theorem pay_at (x : FVec Ideal S256x1024 .f32) (g : FVec Ideal S1x1024 .f32) (w : FVec Ideal S1024x2048 .bf16) (r : Fin 256) (l : Fin 2048) :
    k0_pay1 (F := Ideal) x g w (ix2 r l) = entry (fun k => x (ix2 r k)) (fun k => g (ix2 0 k)) (fun k => w (ix2 k l)) := by
  pointwise [k0_pay1, entry]

theorem ref_at (X : FVec Ideal S8x256x1024 .f32) (g : FVec Ideal S1024 .f32) (W : FVec Ideal S1024x2048 .f32) (r : Fin 2048) (l : Fin 2048) :
    REF X g W (ix2 r l) = entry (fun k => X (ix3 ⟨r.val / 256, by omega⟩ ⟨r.val % 256, by omega⟩ k)) (fun k => g (ix1 k)) (fun k => W (ix2 k l)) := by
  pointwise [REF, entry]

theorem read0 (c : Dev nD) (t : Fin cfg0.N) (r : Fin 256) (k : Fin 1024) :
    (show FVec Ideal S256x1024 .f32 from iblk m c 0 t) (ix2 r k)
      = (show FVec Ideal S8x256x1024 .f32 from m ((c : Thread nD τ).loc main_arg0)) (ix3 ⟨t.val, lt_of_lt_of_eq t.isLt N_0⟩ r k) := by
  blk_ext! [iblk, V, idx t]

theorem read1 (c : Dev nD) (t : Fin cfg0.N) (k : Fin 1024) :
    (show FVec Ideal S1x1024 .f32 from iblk m c 1 t) (ix2 0 k)
      = (show FVec Ideal S1024 .f32 from m ((c : Thread nD τ).loc main_arg1)) (ix1 k) := by
  blk_ext! [iblk, V, idx t]

theorem read2 (c : Dev nD) (t : Fin cfg0.N) (k : Fin 1024) (l : Fin 2048) :
    (show FVec Ideal S1024x2048 .bf16 from iblk m c 2 t) (ix2 k l)
      = (show FVec Ideal S1024x2048 .f32 from m ((c : Thread nD τ).loc main_arg2)) (ix2 k l) := by
  blk_ext! [iblk, V, idx t]

/-- What a grid point stores, at an index of its block, is the reference's result at the index of the array it sits at. -/
theorem point (c : Dev nD) (t : Fin cfg0.N) (r : Fin 256) (l : Fin 2048) (h : t.val * 256 + r.val < 2048) :
    k0_pay1 (F := Ideal) (iblk m c 0 t) (iblk m c 1 t) (iblk m c 2 t) (ix2 r l)
    = REF (m ((c : Thread nD τ).loc main_arg0)) (m ((c : Thread nD τ).loc main_arg1)) (m ((c : Thread nD τ).loc main_arg2))
      (ix2 ⟨t.val * 256 + r.val, h⟩ l) := by
  rw [pay_at, ref_at]
  have e0 : (⟨(t.val * 256 + r.val) / 256, by omega⟩ : Fin 8) = ⟨t.val, lt_of_lt_of_eq t.isLt N_0⟩ := Fin.ext (by simp only; omega)
  have e1 : (⟨(t.val * 256 + r.val) % 256, by omega⟩ : Fin 256) = r := Fin.ext (by simp only; omega)
  simp only [e0, e1]
  exact entry_congr (funext fun k => read0 m c t r k) (funext fun k => read1 m c t k) (funext fun k => read2 m c t k l)

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have hr : t.val * 256 + (y 0).val < 2048 := by
    have h0 : (y 0).val < 256 := (y 0).isLt
    have ht : t.val < 8 := lt_of_lt_of_eq t.isLt N_0
    omega
  have hy : y = (ix2 (y 0) (y 1) : S256x2048.Idx) := eq_ix2 y
  have he : (((cfg0.win 3).blk t).view.emb y) = (ix2 ⟨t.val * 256 + (y 0).val, hr⟩ (y 1) : S2048x2048.Idx) := by blk_ext [idx t]
  exact (congrArg _ hy).trans ((point m c t (y 0) (y 1) hr).trans (congrArg _ he.symm))

end Cert.MemProjIdeal.Result

end
-- ==== Proof.MemProjClaims.lean ====
/- The claims on the memory projection. -/
module

public import proofs.«01_k».proof.Defs
public import proofs.«01_k».proof.Proof.Gen.MemProj.Frame
public import proofs.«01_k».proof.Proof.MemProjValue
public import Idealize.ShloMosaic.Adequacy
public import Idealize.ShloMosaic.Init

@[expose] public section

noncomputable section

namespace Cert.MemProjClaims

open Idealize.ShloMosaic Idealize.SL.Sem

theorem frame : Cert.quiescent_MemProj := fun m g _ => Cert.MemProj.Gen.frame m g

theorem frame_ideal : Cert.quiescent_MemProjIdeal := fun m g _ => Cert.MemProjIdeal.Gen.frame m g

theorem frame_ref : Cert.quiescent_MemProjRefIdeal := fun m g _ =>
  (θ_run Cert.MemProjRefIdeal.defs _ _).mono (fun r h => ⟨fun c => (h c).2, sem_eq_zero_of_no_sems (by decide) r.2⟩) (Cert.MemProjRefIdeal.Value.run (F := Ideal) m g)

theorem algebraic : Cert.algebraic_MemProjIdeal_MemProjRefIdeal := by
  pair_intro
  · run_from Cert.MemProjIdeal.Gen.run_main m g
  · run_from Cert.MemProjRefIdeal.Value.run m' g'
    exact (Cert.MemProjIdeal.Result.final m c).symm

end Cert.MemProjClaims

end
-- ==== Proof.FfnBody.lean ====
/- One grid point of the prompt FFN call: what its body leaves in the two output tiles and in the carried rows, as the
   skeleton's own named values over the point's input blocks and the rows carried from the tile before, and the run of
   the body to exactly that. The float interpretation is left open, so the same run serves every frame. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.Pipeline.ReadBack

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Where the carried rows are stored, and when the branches are taken -/

/-- The second grid coordinate has one value, so the carried rows always lie at offset zero. -/
theorem off1_eq : ∀ i : grid0.Coords, k0_off1 i = ![0, 0, 0, 0] := by
  intro i; rw [k0_off1_eq]; have h : (i 1).val = 0 := by have := (i 1).isLt; change _ < 1 at this; omega
  rw [h]
theorem off2_eq : ∀ i : grid0.Coords, k0_off2 i = ![0, 0, 0, 0] := by
  intro i; rw [k0_off2_eq]; have h : (i 1).val = 0 := by have := (i 1).isLt; change _ < 1 at this; omega
  rw [h]
theorem off3_eq : ∀ i : grid0.Coords, k0_off3 i = ![0, 1, 0, 0] := by
  intro i; rw [k0_off3_eq]; have h : (i 1).val = 0 := by have := (i 1).isLt; change _ < 1 at this; omega
  rw [h]

/-- The test that opens the accumulation over the second grid coordinate. -/
abbrev first (i : grid0.Coords) : Prop := (Scalar.cmpi .ne (Scalar.extui (Scalar.cmpi .eq (BitVec.ofNat 32 (i 1).val) 0#32)) 0#32) = 1#1

/-- A new sequence begins at every eighth point. -/
theorem starts_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem first_all : ∀ t : Fin cfg0.N, first (grid0.coords t) :=
  (by decide +kernel : ∀ t : Fin grid0.N, first (grid0.coords t))
theorem last_all : ∀ t : Fin cfg0.N, k0_cond3 (grid0.coords t) = 1#1 :=
  (by decide +kernel : ∀ t : Fin grid0.N, k0_cond3 (grid0.coords t) = 1#1)

/-! ## What the body leaves -/

/-- The rectangle of the gate half of the carried rows, and of the value half. -/
abbrev gateR : Rect S1x2x8x2816 := Rect.unit (s := S1x2x8x2816) ![0, 0, 0, 0] S1x1x8x2816.size inb_S1x2x8x2816_S1x1x8x2816_0_0_0_0
abbrev valR : Rect S1x2x8x2816 := Rect.unit (s := S1x2x8x2816) ![0, 1, 0, 0] S1x1x8x2816.size inb_S1x2x8x2816_S1x1x8x2816_0_1_0_0
/-- Row `k` of the convolution's taps, one half of them, and one half's bias. -/
abbrev tapR (k h : ℕ) (inb : ∀ a, (![k, h, 0] : Fin 3 → ℕ) a + S1x1x2816.size a ≤ S3x2x2816.size a) : Rect S3x2x2816 := Rect.unit (s := S3x2x2816) ![k, h, 0] S1x1x2816.size inb
abbrev biasR (h : ℕ) (inb : ∀ a, (![h, 0] : Fin 2 → ℕ) a + S1x2816.size a ≤ S2x2816.size a) : Rect S2x2816 := Rect.unit (s := S2x2816) ![h, 0] S1x2816.size inb

section
variable (x0 : Vec F S512x1024 .f32) (x1 : Vec F S1x1024 .f32) (x2 x3 : Vec F S1024x2816 .bf16)
  (x4 : Vec F S3x2x2816 .f32) (x5 : Vec F S2x2816 .f32) (x6 : Vec F S2816x1024 .bf16) (x7 : Vec F S1x1024 .f32)
  (P : Vec F S1x2x8x2816 .f32)

/-- The gate half and the value half of the tile's up-projection. -/
def upG : FVec F S512x2816 .f32 := k0_pay5 (k0_pay3 x0 x1) x2
def upV : FVec F S512x2816 .f32 := k0_pay6 (k0_pay3 x0 x1) x3

/-- The rows the tile carries on to the next one: the last eight of its up-projection. -/
def carryOut : Vec F S1x2x8x2816 .f32 :=
  View.canon [⟨valR, k0_pay23 (upV x0 x1 x3)⟩, ⟨gateR, k0_pay21 (upG x0 x1 x2)⟩]
/-- The same rows as the tile's second output. -/
def stateOut : Vec F S1x2x8x2816 .f32 :=
  View.canon [⟨valR, k0_pay1 (k0_pay24 (upV x0 x1 x3))⟩, ⟨gateR, k0_pay22 (upG x0 x1 x2)⟩]

/-- The gate half after the convolution over the tile and the carried rows. -/
def convG : FVec F S512x2816 .f32 :=
  k0_pay16 (upG x0 x1 x2) (k0_pay11 (k0_pay8 (View.ld P gateR)) (k0_pay9 (k0_pay3 x0 x1) x2) k0_pay10)
    (k0_pay12 (iota .tc S512x1 32 [0] iota_S512x1_d0_w32) (upG x0 x1 x2) (k0_pay7 (View.ld P gateR)))
    (View.ld x5 (biasR 0 inb_S2x2816_S1x2816_0_0)) (View.ld x4 (tapR 0 0 inb_S3x2x2816_S1x1x2816_0_0_0))
    (View.ld x4 (tapR 1 0 inb_S3x2x2816_S1x1x2816_1_0_0)) (View.ld x4 (tapR 2 0 inb_S3x2x2816_S1x1x2816_2_0_0))
/-- The value half after the same. -/
def convV : FVec F S512x2816 .f32 :=
  k0_pay17 (upV x0 x1 x3) (k0_pay14 (iota .tc S512x1 32 [0] iota_S512x1_d0_w32) (upV x0 x1 x3) (View.ld P valR))
    (k0_pay15 (iota .tc S512x1 32 [0] iota_S512x1_d0_w32) (upV x0 x1 x3) (View.ld P valR))
    (View.ld x5 (biasR 1 inb_S2x2816_S1x2816_1_0)) (View.ld x4 (tapR 0 1 inb_S3x2x2816_S1x1x2816_0_1_0))
    (View.ld x4 (tapR 1 1 inb_S3x2x2816_S1x1x2816_1_1_0)) (View.ld x4 (tapR 2 1 inb_S3x2x2816_S1x1x2816_2_1_0))
/-- The tile's first output. -/
def tileOut : Vec F S512x1024 .f32 :=
  k0_pay20 x0 (k0_pay19 (convG x0 x1 x2 x4 x5 P) (convV x0 x1 x3 x4 x5 P) k0_pay18 k0_pay4 x6) x7

end

/-! ## Reading the carried rows back -/

section
variable (Z : Vec F S1x2x8x2816 .f32) (i : grid0.Coords)

/-- A half of the carried rows, read at the offsets the grid computes. -/
theorem ld_gate (inb) : View.ld (Val := Elt F) (e' := .f32) Z (Rect.unit (s := S1x2x8x2816) (k0_off2 i) ![1, 1, 8, 2816] inb) = View.ld (Val := Elt F) (e' := .f32) Z gateR := by
  revert inb; rw [off2_eq]; intro _; rfl
theorem ld_val (inb) : View.ld (Val := Elt F) (e' := .f32) Z (Rect.unit (s := S1x2x8x2816) (k0_off3 i) ![1, 1, 8, 2816] inb) = View.ld (Val := Elt F) (e' := .f32) Z valR := by
  revert inb; rw [off3_eq]; intro _; rfl

/-- The same after the whole buffer was filled with `Z`. -/
theorem back_gate (v : View sig .tc .vmem S1x2x8x2816 .f32) (inb inb') :
    v.readCov (Val := Elt F) [⟨Rect.unit (s := S1x2x8x2816) (k0_off1 i) ![1, 2, 8, 2816] inb, Z⟩] (Rect.unit (s := S1x2x8x2816) (k0_off2 i) ![1, 1, 8, 2816] inb').toLoadRect = View.ld (Val := Elt F) (e' := .f32) Z gateR := by
  revert inb inb'; rw [off1_eq, off2_eq]; intro _ _
  exact View.readCov_fill v _ Z [] gateR (by decide)
theorem back_val (v : View sig .tc .vmem S1x2x8x2816 .f32) (inb inb') :
    v.readCov (Val := Elt F) [⟨Rect.unit (s := S1x2x8x2816) (k0_off1 i) ![1, 2, 8, 2816] inb, Z⟩] (Rect.unit (s := S1x2x8x2816) (k0_off3 i) ![1, 1, 8, 2816] inb').toLoadRect = View.ld (Val := Elt F) (e' := .f32) Z valR := by
  revert inb inb'; rw [off1_eq, off3_eq]; intro _ _
  exact View.readCov_fill v _ Z [] valR (by decide)

end

/-- The two halves cover the buffer. -/
theorem halves_cover (w w' : Vec F S1x1x8x2816 .f32) (y : S1x2x8x2816.Idx) :
    ∃ p ∈ ([⟨valR, w⟩, ⟨gateR, w'⟩] : List (View.Piece (Elt F) S1x2x8x2816 .f32)), y ∈ p.1.set :=
  View.cover_of_tiledL (s := S1x2x8x2816) _ S1x1x8x2816.size (by sl_kernel_rfl) y

/-- Two stores, one per half, leave the two halves, whatever was stored before. -/
theorem halves {o o' : Fin 4 → ℕ} (ho : o = ![0, 1, 0, 0]) (ho' : o' = ![0, 0, 0, 0]) (inb inb')
    {w w' : Vec F S1x1x8x2816 .f32} (a b : Vec F S1x1x8x2816 .f32) (hw : w = a) (hw' : w' = b) (v : View sig .tc .vmem S1x2x8x2816 .f32)
    (f : v.ty.Contents (Elt F)) (L : List (View.Piece (Elt F) S1x2x8x2816 .f32)) :
    v.read (Elt F) (v.writes (Elt F) f (⟨Rect.unit (s := S1x2x8x2816) o S1x1x8x2816.size inb, w⟩ :: ⟨Rect.unit (s := S1x2x8x2816) o' S1x1x8x2816.size inb', w'⟩ :: L))
      = View.canon [⟨valR, a⟩, ⟨gateR, b⟩] := by
  subst ho ho' hw hw'
  funext y
  have hc := halves_cover w w' y
  rw [View.read_writes_apply_eq_canon _ _ _ _ (by
    obtain ⟨p, hp, hy⟩ := hc
    exact ⟨p, List.mem_append_left L hp, hy⟩)]
  by_cases h1 : y ∈ valR.set
  · obtain ⟨x, rfl⟩ := valR.exists_idx_of_mem h1
    exact (View.canon_cons_emb valR w _ x).trans (View.canon_cons_emb valR w _ x).symm
  · have h2 : y ∈ gateR.set := by
      obtain ⟨p, hp, hy⟩ := hc
      rcases List.mem_cons.mp hp with rfl | hp
      · exact absurd hy h1
      · rw [List.mem_singleton] at hp; subst hp; exact hy
    obtain ⟨x, rfl⟩ := gateR.exists_idx_of_mem h2
    refine (View.canon_cons_of_not_mem ⟨valR, w⟩ _ h1).trans (Eq.trans ?_ (View.canon_cons_of_not_mem ⟨valR, w⟩ _ h1).symm)
    exact (View.canon_cons_emb gateR w' _ x).trans (View.canon_cons_emb gateR w' _ x).symm

/-! ## The run -/

set_option maxHeartbeats 2000000 in
/-- The body at a point, on whole memrefs: from the inputs at their blocks and the carried rows at `xs`, it leaves both
    outputs and the carried rows at the values above, where the rows read back are zeros at a sequence's start (`hP`, first case)
    and the carried ones elsewhere (second case). -/
theorem run (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2x2816 .f32) (harg6 : arg6.IsWhole) (arg7 : Memref sig .tc .vmem S2x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x2x8x2816 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S1x2x8x2816 .f32) (harg14 : arg14.IsWhole)
    (x0 : Vec F S512x1024 .f32) (x1 : Vec F S1x1024 .f32) (x2 x3 : Vec F S1024x2816 .bf16) (x4 : Vec F S3x2x2816 .f32) (x5 : Vec F S2x2816 .f32) (x6 : Vec F S2816x1024 .bf16) (x7 : Vec F S1x1024 .f32)
    (xs P : Vec F S1x2x8x2816 .f32) (hP : (k0_cond1 i = 1#1 ∧ P = k0_pay2) ∨ (¬ k0_cond1 i = 1#1 ∧ P = xs))
    (h1 : first i) (h2 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut x0 x1 x2 x3 x4 x5 x6 x7 P) ∗ owns (c : Thread nD τ) arg11 fullShare (stateOut x0 x1 x2 x3) ∗ (∃ d, owns (c : Thread nD τ) arg12 fullShare d) ∗ (∃ d, owns (c : Thread nD τ) arg13 fullShare d) ∗ owns (c : Thread nD τ) arg14 fullShare (carryOut x0 x1 x2 x3)) -∗ K ⟨⟩))
      ⊢ wp frame (wpE (defs₀ (F := F)) Variants.none c none) E (cc0_ffn_prompt i arg2 harg2 arg3 harg3 arg4 harg4 arg5 harg5 arg6 harg6 arg7 harg7 arg8 harg8 arg9 harg9 arg10 harg10 arg11 harg11 arg12 harg12 arg13 harg13 arg14 harg14) K := by
  simp only [cc0_ffn_prompt_eq_skeleton]; unfold cc0_ffn_prompt_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2
  obtain ⟨hc, rfl⟩ | ⟨hc, rfl⟩ := hP
  all_goals
    sl_exec (disch := first | sl_exact hc | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr
      swap; · iexact H8
      ipureintro
      refine (View.read_writes_eq_canon _ _ _ (View.cover_of_tiledL _ S512x1024.size (by sl_kernel_rfl))).trans ?_
      unfold tileOut convG convV upG upV
      frame_out
      simp only [back_gate, back_val, ld_gate, ld_val]
    isplitl [H9]
    · iexists _; isplitr
      swap; · iexact H9
      ipureintro
      refine halves rfl rfl _ _ _ _ ?_ ?_ _ _ _ <;> (frame_out; rfl)
    isplitl [HS0]
    · iexists _; iexists _; isplitr
      swap; · iexact HS0
      ipureintro; rfl
    isplitl [HS1]
    · iexists _; iexists _; isplitr
      swap; · iexact HS1
      ipureintro; rfl
    iexists _; isplitr
    swap; · iexact HS2
    ipureintro
    refine halves (off3_eq i) (off2_eq i) _ _ _ _ ?_ ?_ _ _ _ <;> (frame_out; rfl)

end Cert.FfnIdeal.Body

end
-- ==== Proof.FfnFrame.lean ====
/- The prompt FFN call as a whole: from the run of its body at one grid point, the pipeline's proof data and the run of
   the program, for any float interpretation. Between two points of one sequence the last rows of the up-projection are
   carried; every other scratch is written before it is read. -/
module

public import proofs.«01_k».proof.Proof.FfnBody
public import Idealize.ShloMosaic.Lib.Claim

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs and the scratch -/

/-- Each window's current staging memref at point `t`, spelled as the pipeline passes it (`bodyAt0`), and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2816 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x2x2816 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x2816 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2816x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2x8x2816 .f32 := win0_9.stage (cfg0.slots t 9)
abbrev hs9 (t : Fin cfg0.N) : (ms9 t).IsWhole := hstage0_9 ((cfg0.slots t 9).cast nbuf0_9)
/-- The scratch operands: whole scoped buffers of the kernel's own, passed beside the windows. -/
abbrev sc0 : Memref sig .tc .vmem S512x1024 .bf16 := Memref.whole cc0_scratch0
abbrev sc1 : Memref sig .tc .vmem S512x1024 .f32 := Memref.whole cc0_scratch1
abbrev sc2 : Memref sig .tc .vmem S1x2x8x2816 .f32 := Memref.whole cc0_scratch2

/-- The invariant of a kernel with no state, its scratch owned as memrefs at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What is carried -/

/-- What point `t` leaves in the carried rows: they depend on that point's blocks only. -/
def carried (c : Dev nD) (t : Fin cfg0.N) : Vec F S1x2x8x2816 .f32 :=
  carryOut (iblk m c 0 t) (iblk m c 1 t) (iblk m c 2 t) (iblk m c 3 t)
/-- The rows point `t` reads: zeros where a sequence begins, else what the point before left. -/
def found (c : Dev nD) (t : Fin cfg0.N) : Vec F S1x2x8x2816 .f32 :=
  if t.val % 8 = 0 then k0_pay2 else carried m c ⟨t.val - 1, lt_of_le_of_lt (Nat.sub_le _ _) t.isLt⟩

/-- Before the first point every scratch is at anything; after a point the carried rows are that point's. -/
def Phi (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d) ∗ owns (c : Thread nD τ) sc2 fullShare (carried m c ⟨n, hn⟩)) ∗ (∃ r, prngReg c r))

/-- The pipeline's proof data: the arrays as found, the inputs' buffers at their blocks, the outputs' at the body's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tileOut (iblk m c 0 t) (iblk m c 1 t) (iblk m c 2 t) (iblk m c 3 t) (iblk m c 4 t) (iblk m c 5 t) (iblk m c 6 t) (iblk m c 7 t) (found m c t)
    | ⟨9, _⟩ => stateOut (iblk m c 0 t) (iblk m c 1 t) (iblk m c 2 t) (iblk m c 3 t)
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = tileOut (iblk m c 0 t) (iblk m c 1 t) (iblk m c 2 t) (iblk m c 3 t) (iblk m c 4 t) (iblk m c 5 t) (iblk m c 6 t) (iblk m c 7 t) (found m c t) := by dsimp only [dats]
theorem after9 : (dats m 0 c).after 9 t = stateOut (iblk m c 0 t) (iblk m c 1 t) (iblk m c 2 t) (iblk m c 3 t) := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d
theorem before5 (d) : (dats m 0 c).before 5 t d = iblk m c 5 t := before0_5_of m (dats m 0 c) (A_eq m c 5) (after5 m c) t d
theorem before6 (d) : (dats m 0 c).before 6 t d = iblk m c 6 t := before0_6_of m (dats m 0 c) (A_eq m c 6) (after6 m c) t d
theorem before7 (d) : (dats m 0 c).before 7 t d = iblk m c 7 t := before0_7_of m (dats m 0 c) (A_eq m c 7) (after7 m c) t d

/-- The first output is stored at every point. -/
theorem live8 : ∀ t : Fin cfg0.N, cfg0.idle 8 (grid0.coords t) = false := by decide +kernel
theorem leaves0 : (dats m 0 c).leavesExact 0 t = owns (c : Thread nD τ) (ms0 t) fullShare ((dats m 0 c).after 0 t) := by
  unfold Dat.leavesExact; rw [show cfg0.idle 0 (grid0.coords t) = false from rfl]
theorem leaves1 : (dats m 0 c).leavesExact 1 t = owns (c : Thread nD τ) (ms1 t) fullShare ((dats m 0 c).after 1 t) := by
  unfold Dat.leavesExact; rw [show cfg0.idle 1 (grid0.coords t) = false from rfl]
theorem leaves2 : (dats m 0 c).leavesExact 2 t = owns (c : Thread nD τ) (ms2 t) fullShare ((dats m 0 c).after 2 t) := by
  unfold Dat.leavesExact; rw [show cfg0.idle 2 (grid0.coords t) = false from rfl]
theorem leaves3 : (dats m 0 c).leavesExact 3 t = owns (c : Thread nD τ) (ms3 t) fullShare ((dats m 0 c).after 3 t) := by
  unfold Dat.leavesExact; rw [show cfg0.idle 3 (grid0.coords t) = false from rfl]
theorem leaves4 : (dats m 0 c).leavesExact 4 t = owns (c : Thread nD τ) (ms4 t) fullShare ((dats m 0 c).after 4 t) := by
  unfold Dat.leavesExact; rw [show cfg0.idle 4 (grid0.coords t) = false from rfl]
theorem leaves5 : (dats m 0 c).leavesExact 5 t = owns (c : Thread nD τ) (ms5 t) fullShare ((dats m 0 c).after 5 t) := by
  unfold Dat.leavesExact; rw [show cfg0.idle 5 (grid0.coords t) = false from rfl]
theorem leaves6 : (dats m 0 c).leavesExact 6 t = owns (c : Thread nD τ) (ms6 t) fullShare ((dats m 0 c).after 6 t) := by
  unfold Dat.leavesExact; rw [show cfg0.idle 6 (grid0.coords t) = false from rfl]
theorem leaves7 : (dats m 0 c).leavesExact 7 t = owns (c : Thread nD τ) (ms7 t) fullShare ((dats m 0 c).after 7 t) := by
  unfold Dat.leavesExact; rw [show cfg0.idle 7 (grid0.coords t) = false from rfl]
theorem leaves8 : (dats m 0 c).leavesExact 8 t = owns (c : Thread nD τ) (ms8 t) fullShare ((dats m 0 c).after 8 t) := by
  unfold Dat.leavesExact; rw [live8 t]
theorem leaves9 : (dats m 0 c).leavesExact 9 t = owns (c : Thread nD τ) (ms9 t) fullShare ((dats m 0 c).after 9 t) := by
  unfold Dat.leavesExact; rw [show cfg0.idle 9 (grid0.coords t) = false from rfl]

/-! ## The body at a point -/

/-- What the body is called with at a point, and what it returns. -/
def bodyPre : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
def bodyPost : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- At a point's start the carried rows hold something from which the body reads `found`. -/
theorem Phi_found : (dats m 0 c).Φ t.castSucc ⊢ iprop(iprop((∃ d, owns (c : Thread nD τ) sc0 fullShare d) ∗ (∃ d, owns (c : Thread nD τ) sc1 fullShare d)
      ∗ (∃ xs, ⌜(k0_cond1 (grid0.coords t) = 1#1 ∧ found m c t = k0_pay2) ∨ (¬ k0_cond1 (grid0.coords t) = 1#1 ∧ found m c t = xs)⌝ ∗ owns (c : Thread nD τ) sc2 fullShare xs)) ∗ (∃ r, prngReg c r)) := by
  rw [show (dats m 0 c).Φ t.castSucc = Phi m c t.val (Nat.le_of_lt t.isLt) from by dsimp only [dats]; exact Pipeline.Dat.Φ_castSucc (Phi m c) t]
  have hs := starts_iff t
  obtain ⟨n, hn⟩ := t
  cases n with
  | zero =>
    rw [show Phi m c (⟨0, hn⟩ : Fin cfg0.N).val (Nat.le_of_lt hn) = Pipeline.ΦA spec0 c from rfl, PhiA_eq]
    iintro ⟨⟨H0, H1, ⟨%d, H2⟩⟩, Hg⟩
    isplitl [H0 H1 H2]
    · isplitl [H0]; · iexact H0
      isplitl [H1]; · iexact H1
      iexists d; isplitr
      · ipureintro; exact Or.inl ⟨hs.mpr rfl, if_pos rfl⟩
      iexact H2
    iexact Hg
  | succ n =>
    rw [show Phi m c (⟨n + 1, hn⟩ : Fin cfg0.N).val (Nat.le_of_lt hn) = iprop(iprop((∃ d, owns (c : Thread nD τ) sc0 fullShare d) ∗ (∃ d, owns (c : Thread nD τ) sc1 fullShare d) ∗ owns (c : Thread nD τ) sc2 fullShare (carried m c ⟨n, Nat.lt_of_succ_lt hn⟩)) ∗ (∃ r, prngReg c r)) from rfl]
    iintro ⟨⟨H0, H1, H2⟩, Hg⟩
    isplitl [H0 H1 H2]
    · isplitl [H0]; · iexact H0
      isplitl [H1]; · iexact H1
      iexists _; isplitr
      swap; · iexact H2
      ipureintro
      by_cases h : (n + 1) % 8 = 0
      · exact Or.inl ⟨hs.mpr h, if_pos h⟩
      · exact Or.inr ⟨fun h' => h (hs.mp h'), if_neg h⟩
    iexact Hg

set_option maxHeartbeats 4000000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = iprop(iprop((∃ d, owns (c : Thread nD τ) sc0 fullShare d) ∗ (∃ d, owns (c : Thread nD τ) sc1 fullShare d) ∗ owns (c : Thread nD τ) sc2 fullShare (carried m c t)) ∗ (∃ r, prngReg c r)) from rfl]
  rw [leaves0, leaves1, leaves2, leaves3, leaves4, leaves5, leaves6, leaves7, leaves8, leaves9, after0, after1, after2, after3, after4, after5, after6, after7, after8, after9]
  unfold carried
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HQ := (Phi_found m c t) $$ HP
  icases HQ with ⟨⟨HS0, HS1, ⟨%xs, %hx, HS2⟩⟩, Hg⟩
  iapply (run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) xs (found m c t) hx (first_all t) (last_all t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end

/-! ## The run of the program -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last point the carried rows' contents are forgotten. -/
theorem hout (c : Dev nD) : (dats m 0 c).Φ (Fin.last cfg0.N) ⊢ Pipeline.ΦA spec0 c := by
  rw [show (dats m 0 c).Φ (Fin.last cfg0.N) = Phi m c (63 + 1) (le_of_eq N_0.symm) from rfl, PhiA_eq]
  unfold Phi
  iintro ⟨⟨H0, H1, H2⟩, Hg⟩
  isplitl [H0 H1 H2]
  · isplitl [H0]; · iexact H0
    isplitl [H1]; · iexact H1
    iexists _; iexact H2
  iexact Hg

set_option backward.isDefEq.respectTransparency.types false in
/-- The launch, and every semaphore counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every weakly fair run of the program ends with each pipelined array at what the proof data says. -/
theorem run_main : θ_run defs (onTc (τ := τ) (main (F := F))) (s₀ m ρ) (Pipeline.FramePost cfgs (dats m) 0 (V m)) :=
  (θ_run defs _ _).mono (fun _ h => h.1) (run_quiet m ρ)

/-- The arguments end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiet m ρ))

end Cert.FfnIdeal.Body

end
-- ==== Proof.FfnTerm.lean ====
/- The prompt FFN in plain mathematics: one entry of the normed row, of the up-projection, of the convolution over a sequence and of the
   result, and the reference program's own stages read as these. -/
module

public import proofs.«01_k».proof.Proof.Gen.FfnRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnRefIdeal.Term

open Cert.FfnRefIdeal Cert.FfnRefIdeal.Gen Cert.FfnRefIdeal.Read

/-- One entry of the row `x` normed by its root mean square, times the gains `g`. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- The gate's nonlinearity. -/
def silu (x : EReal) : EReal := Ideal.div x (1 + Ideal.exp (-x))

/-- The nonlinearity as a product with the logistic function. -/
theorem silu_eq (x : EReal) : silu x = x * Ideal.div 1 (1 + Ideal.exp (-x)) := by
  have hpos : (0 : EReal) < 1 + Ideal.exp (-x) := by
    have hn : (0 : EReal) ≤ Ideal.exp (-x) := by
      induction -x using EReal.rec with
      | bot => exact le_refl _
      | top => exact le_top
      | coe r => exact EReal.coe_nonneg.2 (Real.exp_nonneg r)
    exact lt_of_lt_of_le zero_lt_one (le_add_of_nonneg_right hn)
  show Ideal.div x _ = _
  unfold Ideal.div
  rw [if_neg hpos.ne', if_neg hpos.ne', one_mul]

/-- Three taps over an entry and the two before it, added to the bias in the order of the taps. -/
def taps (c w0 w1 w2 u0 u1 u2 : EReal) : EReal := c + w0 * u0 + w1 * u1 + w2 * u2

variable (h : FVec Ideal S8x4096x1024 .f32) (g : FVec Ideal S1024 .f32) (W : FVec Ideal S1024x5632 .f32) (cw : FVec Ideal S3x5632 .f32)
  (cb : FVec Ideal S5632 .f32) (wd : FVec Ideal S2816x1024 .f32) (gf : FVec Ideal S1024 .f32)

/-- The up-projection of row `t` of sequence `b`. -/
def up (b : Fin 8) (t : Fin 4096) (n : Fin 5632) : EReal :=
  ∑ k, normed (fun l => h (ix3 b t l)) (fun l => g (ix1 l)) k * W (ix2 k n)

/-- The up-projection `j` rows earlier: zero before the sequence begins. -/
def back (j : ℕ) (b : Fin 8) (t : Fin 4096) (n : Fin 5632) : EReal :=
  if t.val < j then 0 else up h g W b ⟨t.val - j, lt_of_le_of_lt (Nat.sub_le _ _) t.isLt⟩ n

/-- The convolution at row `t`. -/
def conv (b : Fin 8) (t : Fin 4096) (n : Fin 5632) : EReal :=
  taps (cb (ix1 n)) (cw (ix2 0 n)) (cw (ix2 1 n)) (cw (ix2 2 n)) (back h g W 2 b t n) (back h g W 1 b t n) (up h g W b t n)

/-- One entry of the gated product with the down-projection. -/
def down (b : Fin 8) (t : Fin 4096) (k : Fin 1024) : EReal :=
  ∑ f : Fin 2816, silu (conv h g W cw cb b t ⟨f.val, by omega⟩) * conv h g W cw cb b t ⟨2816 + f.val, by omega⟩ * wd (ix2 f k)

/-- One entry of the result. -/
def out (b : Fin 8) (t : Fin 4096) (k : Fin 1024) : EReal :=
  normed (fun l => h (ix3 b t l) + down h g W cw cb wd b t l) (fun l => gf (ix1 l)) k

theorem v13_at (b : Fin 8) (t : Fin 4096) (n : Fin 5632) : val_main_v13 (F := Ideal) h g W (ix3 b t n) = up h g W b t n := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, up, normed]

theorem v15_at (b : Fin 8) (s : Fin 4098) (n : Fin 5632) : val_main_v15 (F := Ideal) h g W (ix3 b s n)
    = if h0 : s.val < 2 then 0 else up h g W b ⟨s.val - 2, by omega⟩ n := by
  simp only [← v13_at]
  unfold val_main_v15
  generalize val_main_v13 (F := Ideal) h g W = u
  pointwise [val_main_v14, val_main_cst_2]

theorem v38_at (b : Fin 8) (t : Fin 4096) (n : Fin 5632) : val_main_v38 (F := Ideal) h g W cw cb (ix3 b t n) = conv h g W cw cb b t n := by
  have e0 := v15_at h g W b ⟨t.val, by omega⟩ n
  have e1 := v15_at h g W b ⟨1 + t.val, by omega⟩ n
  have e2 := v15_at h g W b ⟨2 + t.val, by omega⟩ n
  unfold val_main_v38 val_main_v37 val_main_v34 val_main_v31 val_main_v30 val_main_v27 val_main_v24 val_main_v21 val_main_v18
  generalize val_main_v15 (F := Ideal) h g W = u at *
  pointwise [val_main_v36, val_main_v35, val_main_v33, val_main_v32, val_main_v29, val_main_v28, val_main_v26, val_main_v25, val_main_v23, val_main_v22,
    val_main_v20, val_main_v19, val_main_v17, val_main_v16, conv, taps, back]
  rw [e0, e1, e2]
  have c1 : (1 + t.val < 2) = (t.val < 1) := propext (by omega)
  have c2 : ¬ 2 + t.val < 2 := by omega
  have d1 : 1 + t.val - 2 = t.val - 1 := by omega
  have d2 : 2 + t.val - 2 = t.val := by omega
  simp only [c1, c2, d1, d2, dite_false]
  rfl

theorem v42_at (b : Fin 8) (t : Fin 4096) (f : Fin 2816) : val_main_v42 (F := Ideal) h g W cw cb (ix3 b t f)
    = silu (conv h g W cw cb b t ⟨f.val, by omega⟩) * conv h g W cw cb b t ⟨2816 + f.val, by omega⟩ := by
  simp only [← v38_at]
  unfold val_main_v42 val_main_v41 val_main_call0_v5 val_main_call0_v3 val_main_call0_v1 val_main_call0_v0 val_main_v40 val_main_v39
  generalize val_main_v38 (F := Ideal) h g W cw cb = u
  rw [silu_eq]
  pointwise [val_main_call0_v4, val_main_call0_v2, val_main_call0_cst, val_main_call0_cst_0]

theorem v44_at (b : Fin 8) (t : Fin 4096) (k : Fin 1024) : val_main_v44 (F := Ideal) h g W cw cb wd (ix3 b t k)
    = h (ix3 b t k) + down h g W cw cb wd b t k := by
  unfold down
  simp only [← v42_at]
  unfold val_main_v44 val_main_v43
  generalize val_main_v42 (F := Ideal) h g W cw cb = u
  pointwise

theorem v57_at (b : Fin 8) (t : Fin 4096) (k : Fin 1024) : val_main_v57 (F := Ideal) h g W cw cb wd gf (ix3 b t k)
    = out h g W cw cb wd gf b t k := by
  unfold out
  simp only [← v44_at]
  unfold val_main_v57 val_main_v54 val_main_v53 val_main_v52 val_main_v51 val_main_v49 val_main_v47 val_main_v46 val_main_v45
  generalize val_main_v44 (F := Ideal) h g W cw cb wd = u
  pointwise [val_main_v56, val_main_v55, val_main_v50, val_main_v48, val_main_cst_3, val_main_cst_4, val_main_cst_5, normed]

/-- The first result, at a row of the whole stream. -/
theorem v60_at (i : Fin 32768) (k : Fin 1024) : val_main_v60 (F := Ideal) h g W cw cb wd gf (ix2 i k)
    = out h g W cw cb wd gf ⟨i.val / 4096, by omega⟩ ⟨i.val % 4096, by omega⟩ k := by
  rw [← v57_at]
  unfold val_main_v60
  generalize val_main_v57 (F := Ideal) h g W cw cb wd gf = u
  pointwise

/-- The second result: the last rows of each tile of the up-projection, one half of the channels after the other. -/
theorem v61_at (i : Fin 64) (e : Fin 2) (s : Fin 8) (f : Fin 2816) : val_main_v61 (F := Ideal) h g W (ix4 i e s f)
    = up h g W ⟨i.val / 8, by omega⟩ ⟨i.val % 8 * 512 + (504 + s.val), by omega⟩ ⟨e.val * 2816 + f.val, by omega⟩ := by
  rw [← v13_at]
  unfold val_main_v61 val_main_v59 val_main_v58
  generalize val_main_v13 (F := Ideal) h g W = u
  pointwise

end Cert.FfnRefIdeal.Term

end
-- ==== Proof.FfnRows.lean ====
/- The prompt FFN's stored tiles at an index: the up-projection, the rows carried on, the convolution over the tile and the rows found, and
   the result, in the plain terms of the reference. -/
module

public import proofs.«01_k».proof.Proof.FfnBody
public import proofs.«01_k».proof.Proof.FfnTerm

@[expose] public section

set_option maxRecDepth 16384

noncomputable section

open Idealize.ShloMosaic Idealize.ShloMosaic.TcCoe Idealize.SL.Sem

namespace Cert.FfnIdeal.Body

open Cert.FfnIdeal Cert.FfnIdeal.Gen
open Cert.FfnRefIdeal.Term (normed silu taps)

variable (x0 : FVec Ideal S512x1024 .f32) (x1 : FVec Ideal S1x1024 .f32) (x2 x3 : FVec Ideal S1024x2816 .bf16)
  (x4 : FVec Ideal S3x2x2816 .f32) (x5 : FVec Ideal S2x2816 .f32) (x6 : FVec Ideal S2816x1024 .bf16) (x7 : FVec Ideal S1x1024 .f32)
  (P : FVec Ideal S1x2x8x2816 .f32)

theorem upG_at (r : Fin 512) (f : Fin 2816) :
    upG (F := Ideal) x0 x1 x2 (ix2 r f) = ∑ k, normed (fun l => x0 (ix2 r l)) (fun l => x1 (ix2 0 l)) k * x2 (ix2 k f) := by
  pointwise [upG, k0_pay5, k0_pay3, normed]

theorem upV_at (r : Fin 512) (f : Fin 2816) :
    upV (F := Ideal) x0 x1 x3 (ix2 r f) = ∑ k, normed (fun l => x0 (ix2 r l)) (fun l => x1 (ix2 0 l)) k * x3 (ix2 k f) := by
  pointwise [upV, k0_pay6, k0_pay3, normed]

/-- A half of the carried rows, loaded. -/
theorem gateR_at (s : Fin 8) (f : Fin 2816) : View.ld (Val := Elt Ideal) (e' := .f32) P gateR (ix4 0 0 s f) = P (ix4 0 0 s f) := by
  pointwise [gateR, valR]
theorem valR_at (s : Fin 8) (f : Fin 2816) : View.ld (Val := Elt Ideal) (e' := .f32) P valR (ix4 0 0 s f) = P (ix4 0 1 s f) := by
  pointwise [gateR, valR]

/-- The entry `j` rows up in a tile whose rows are `u`, after the eight rows `p`. -/
def prev (u : Fin 512 → EReal) (p : Fin 8 → EReal) (j : ℕ) (r : Fin 512) : EReal :=
  if h : r.val < j then p ⟨(8 + r.val - j) % 8, by omega⟩ else u ⟨r.val - j, by omega⟩

/-- A select by the row's number. -/
theorem pick {α : Type} (r k : ℕ) (hr : r < 512) (hk : k < 512) (a b : α) :
    Scalar.select (IntOp.cmpi .eq (BitVec.ofNat 32 r) (BitVec.ofNat 32 k)) a b = if r = k then a else b := by
  have e : (BitVec.ofNat 32 r = BitVec.ofNat 32 k) = (r = k) := propext ⟨fun h => by
    have h' := congrArg BitVec.toNat h
    simp only [BitVec.toNat_ofNat] at h'
    omega, fun h => by rw [h]⟩
  by_cases h : r = k
  · simp [Scalar.select, IntOp.cmpi, e, h]
  · have n : (BitVec.ofNat 32 r == BitVec.ofNat 32 k) = false := beq_eq_false_iff_ne.mpr fun q => h (e ▸ q)
    simp [Scalar.select, IntOp.cmpi, n, h]

theorem one_at (u : FVec Ideal S512x2816 .f32) (p : FVec Ideal S1x1x8x2816 .f32) (r : Fin 512) (f : Fin 2816) :
    k0_pay14 (F := Ideal) (iota .tc S512x1 32 [0] iota_S512x1_d0_w32) u p (ix2 r f)
      = prev (fun r => u (ix2 r f)) (fun s => p (ix4 0 0 s f)) 1 r := by
  have e : ∀ h1 : ¬ r.val < 1, (⟨(r.val + 512 - 1) % 512, Nat.mod_lt _ (by decide)⟩ : Fin 512) = ⟨r.val - 1, by omega⟩ :=
    fun _ => Fin.ext (by show (r.val + 512 - 1) % 512 = r.val - 1; omega)
  pointwise [k0_pay14, k0_pay13, prev]
  rw [show (0#32 : BitVec 32) = BitVec.ofNat 32 0 from rfl, pick r.val 0 r.isLt (by decide)]
  rcases Nat.lt_or_ge r.val 1 with h | h
  · have h0 : r.val = 0 := by omega
    rw [if_pos h0, dif_pos h]
    exact congrArg (fun q => p (ix4 0 0 q f)) (Fin.ext (by show 7 = (8 + r.val - 1) % 8; omega))
  · rw [if_neg (by omega), dif_neg (by omega), e (by omega)]

theorem two_at (u : FVec Ideal S512x2816 .f32) (p : FVec Ideal S1x1x8x2816 .f32) (r : Fin 512) (f : Fin 2816) :
    k0_pay15 (F := Ideal) (iota .tc S512x1 32 [0] iota_S512x1_d0_w32) u p (ix2 r f)
      = prev (fun r => u (ix2 r f)) (fun s => p (ix4 0 0 s f)) 2 r := by
  have e : ∀ h1 : ¬ r.val < 2, (⟨(r.val + 512 - 2) % 512, Nat.mod_lt _ (by decide)⟩ : Fin 512) = ⟨r.val - 2, by omega⟩ :=
    fun _ => Fin.ext (by show (r.val + 512 - 2) % 512 = r.val - 2; omega)
  pointwise [k0_pay15, k0_pay13, prev]
  rw [show (0#32 : BitVec 32) = BitVec.ofNat 32 0 from rfl, show (1#32 : BitVec 32) = BitVec.ofNat 32 1 from rfl,
    pick r.val 0 r.isLt (by decide), pick r.val 1 r.isLt (by decide)]
  rcases Nat.lt_or_ge r.val 2 with h | h
  · rw [dif_pos h]
    rcases Nat.lt_or_ge r.val 1 with h1 | h1
    · rw [if_pos (by omega)]
      exact congrArg (fun q => p (ix4 0 0 q f)) (Fin.ext (by show 6 = (8 + r.val - 2) % 8; omega))
    · rw [if_neg (by omega), if_pos (by omega)]
      exact congrArg (fun q => p (ix4 0 0 q f)) (Fin.ext (by show 7 = (8 + r.val - 2) % 8; omega))
  · rw [if_neg (by omega), if_neg (by omega), dif_neg (by omega), e (by omega)]

/-- The gate half's two earlier rows are computed as the value half's. -/
theorem gate_one (x : FVec Ideal S512x1024 .bf16) (w : FVec Ideal S1024x2816 .bf16) (p : FVec Ideal S1x1x8x2816 .f32) :
    k0_pay11 (F := Ideal) (k0_pay8 p) (k0_pay9 x w) k0_pay10 = k0_pay14 (iota .tc S512x1 32 [0] iota_S512x1_d0_w32) (k0_pay5 x w) p := rfl
theorem gate_two (u : FVec Ideal S512x2816 .f32) (p : FVec Ideal S1x1x8x2816 .f32) :
    k0_pay12 (F := Ideal) (iota .tc S512x1 32 [0] iota_S512x1_d0_w32) u (k0_pay7 p) = k0_pay15 (iota .tc S512x1 32 [0] iota_S512x1_d0_w32) u p := rfl

theorem bias_at (e : Fin 2) (inb) (f : Fin 2816) : View.ld (Val := Elt Ideal) (e' := .f32) x5 (biasR e.val inb) (ix2 0 f) = x5 (ix2 e f) := by
  pointwise [biasR]
theorem tap_at (k : Fin 3) (e : Fin 2) (inb) (f : Fin 2816) : View.ld (Val := Elt Ideal) (e' := .f32) x4 (tapR k.val e.val inb) (ix3 0 0 f) = x4 (ix3 k e f) := by
  pointwise [tapR]

theorem pay16_at (u a b : FVec Ideal S512x2816 .f32) (c : FVec Ideal S1x2816 .f32) (w0 w1 w2 : FVec Ideal S1x1x2816 .f32) (r : Fin 512) (f : Fin 2816) :
    k0_pay16 (F := Ideal) u a b c w0 w1 w2 (ix2 r f)
      = taps (c (ix2 0 f)) (w0 (ix3 0 0 f)) (w1 (ix3 0 0 f)) (w2 (ix3 0 0 f)) (b (ix2 r f)) (a (ix2 r f)) (u (ix2 r f)) := by
  pointwise [k0_pay16, taps]

theorem convG_at (r : Fin 512) (f : Fin 2816) : convG (F := Ideal) x0 x1 x2 x4 x5 P (ix2 r f)
    = taps (x5 (ix2 0 f)) (x4 (ix3 0 0 f)) (x4 (ix3 1 0 f)) (x4 (ix3 2 0 f))
        (prev (fun r => upG (F := Ideal) x0 x1 x2 (ix2 r f)) (fun s => P (ix4 0 0 s f)) 2 r)
        (prev (fun r => upG (F := Ideal) x0 x1 x2 (ix2 r f)) (fun s => P (ix4 0 0 s f)) 1 r) (upG (F := Ideal) x0 x1 x2 (ix2 r f)) := by
  unfold convG
  rw [gate_one, gate_two, pay16_at, one_at, two_at]
  have q := funext fun s => gateR_at P s f
  exact congr (congr (congr (congr (congr (congr (congrArg taps (bias_at x5 0 _ f)) (tap_at x4 0 0 _ f)) (tap_at x4 1 0 _ f)) (tap_at x4 2 0 _ f))
    (congrArg (fun p => prev _ p 2 r) q)) (congrArg (fun p => prev _ p 1 r) q)) rfl

theorem convV_at (r : Fin 512) (f : Fin 2816) : convV (F := Ideal) x0 x1 x3 x4 x5 P (ix2 r f)
    = taps (x5 (ix2 1 f)) (x4 (ix3 0 1 f)) (x4 (ix3 1 1 f)) (x4 (ix3 2 1 f))
        (prev (fun r => upV (F := Ideal) x0 x1 x3 (ix2 r f)) (fun s => P (ix4 0 1 s f)) 2 r)
        (prev (fun r => upV (F := Ideal) x0 x1 x3 (ix2 r f)) (fun s => P (ix4 0 1 s f)) 1 r) (upV (F := Ideal) x0 x1 x3 (ix2 r f)) := by
  unfold convV
  refine Eq.trans (pay16_at _ _ _ _ _ _ _ r f) ?_
  rw [one_at, two_at]
  have q := funext fun s => valR_at P s f
  exact congr (congr (congr (congr (congr (congr (congrArg taps (bias_at x5 1 _ f)) (tap_at x4 0 1 _ f)) (tap_at x4 1 1 _ f)) (tap_at x4 2 1 _ f))
    (congrArg (fun p => prev _ p 2 r) q)) (congrArg (fun p => prev _ p 1 r) q)) rfl

theorem pay19_at (a b : FVec Ideal S512x2816 .f32) (r : Fin 512) (k : Fin 1024) :
    k0_pay19 (F := Ideal) a b k0_pay18 (k0_pay4 (F := Ideal)) x6 (ix2 r k) = ∑ f, silu (a (ix2 r f)) * b (ix2 r f) * x6 (ix2 f k) := by
  pointwise [k0_pay19, k0_pay18, k0_pay4, silu]
  simp only [zero_sub]

theorem pay20_at (y : FVec Ideal S512x1024 .f32) (r : Fin 512) (k : Fin 1024) :
    k0_pay20 (F := Ideal) x0 y x7 (ix2 r k) = normed (fun l => x0 (ix2 r l) + y (ix2 r l)) (fun l => x7 (ix2 0 l)) k := by
  pointwise [k0_pay20, normed]

theorem tileOut_at (r : Fin 512) (k : Fin 1024) : tileOut (F := Ideal) x0 x1 x2 x3 x4 x5 x6 x7 P (ix2 r k)
    = normed (fun l => x0 (ix2 r l) + ∑ f, silu (convG (F := Ideal) x0 x1 x2 x4 x5 P (ix2 r f)) * convV (F := Ideal) x0 x1 x3 x4 x5 P (ix2 r f) * x6 (ix2 f l))
        (fun l => x7 (ix2 0 l)) k := by
  unfold tileOut
  rw [pay20_at]
  exact congrArg (fun q => normed q _ k) (funext fun l => congrArg (x0 (ix2 r l) + ·) (pay19_at x6 _ _ r l))

/-! ## The rows carried on -/

theorem last_at (u : FVec Ideal S512x2816 .f32) (s : Fin 8) (f : Fin 2816) :
    k0_pay21 (F := Ideal) u (ix4 0 0 s f) = u (ix2 ⟨504 + s.val, by omega⟩ f) := by
  pointwise [k0_pay21]

theorem stateOut_eq : stateOut (F := Ideal) x0 x1 x2 x3 = carryOut x0 x1 x2 x3 := rfl

theorem carryOut_val (s : Fin 8) (f : Fin 2816) : carryOut (F := Ideal) x0 x1 x2 x3 (ix4 0 1 s f) = upV (F := Ideal) x0 x1 x3 (ix2 ⟨504 + s.val, by omega⟩ f) := by
  have e : valR.emb (ix4 0 0 s f) = (ix4 0 1 s f : S1x2x8x2816.Idx) := by
    blk_ext [valR]
  rw [← e]
  exact (View.canon_cons_emb valR _ _ _).trans (last_at _ s f)

theorem carryOut_gate (s : Fin 8) (f : Fin 2816) : carryOut (F := Ideal) x0 x1 x2 x3 (ix4 0 0 s f) = upG (F := Ideal) x0 x1 x2 (ix2 ⟨504 + s.val, by omega⟩ f) := by
  have e : gateR.emb (ix4 0 0 s f) = (ix4 0 0 s f : S1x2x8x2816.Idx) := by
    blk_ext [gateR]
  have n : (ix4 0 0 s f : S1x2x8x2816.Idx) ∉ valR.set := by
    intro hm
    obtain ⟨x, hx⟩ := valR.exists_idx_of_mem hm
    have h1 := congrArg (fun i => (i 1).val) hx
    have h2 : (valR.idx x 1).val = 1 + 1 * (x 1).val := rfl
    have h3 : (valR.idx x 1).val = 0 := h1
    omega
  refine (View.canon_cons_of_not_mem ⟨valR, _⟩ _ n).trans ?_
  rw [← e]
  exact (View.canon_cons_emb gateR _ _ _).trans (last_at _ s f)

end Cert.FfnIdeal.Body

end
-- ==== Proof.FfnValue.lean ====
/- The prompt FFN: the arrays that the region finds, the blocks that a grid point reads of them, the rows that a point finds carried over, and
   the two result arrays after the run. -/
module

public import proofs.«01_k».proof.Proof.FfnFrame
public import proofs.«01_k».proof.Proof.FfnRows

@[expose] public section

set_option maxRecDepth 16384

noncomputable section

open Idealize.ShloMosaic Idealize.ShloMosaic.TcCoe Idealize.SL.Sem
open Idealize.ShloMosaic.Pipeline (Dat)

namespace Cert.FfnIdeal.Body

open Cert.FfnIdeal Cert.FfnIdeal.Gen
open Cert.FfnRefIdeal.Term
open Cert.FfnRefIdeal.Read (val_main_v60 val_main_v61)

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0] ∧ win0_3.index t = ![0, 1]
    ∧ win0_4.index t = ![0, 0, 0] ∧ win0_5.index t = ![0, 0] ∧ win0_6.index t = ![0, 0] ∧ win0_7.index t = ![0, 0]
    ∧ win0_8.index t = ![t.val, 0] ∧ win0_9.index t = ![t.val, 0, 0, 0] :=
  (by decide +kernel : ∀ t : Fin grid0.N, _)

/-- The argument arrays, at their own shapes. -/
abbrev aH (c : Dev nD) : FVec Ideal S8x4096x1024 .f32 := m ((c : Thread nD τ).loc main_arg0)
abbrev aG (c : Dev nD) : FVec Ideal S1024 .f32 := m ((c : Thread nD τ).loc main_arg1)
abbrev aW (c : Dev nD) : FVec Ideal S1024x5632 .f32 := m ((c : Thread nD τ).loc main_arg2)
abbrev aCw (c : Dev nD) : FVec Ideal S3x5632 .f32 := m ((c : Thread nD τ).loc main_arg3)
abbrev aCb (c : Dev nD) : FVec Ideal S5632 .f32 := m ((c : Thread nD τ).loc main_arg4)
abbrev aWd (c : Dev nD) : FVec Ideal S2816x1024 .f32 := m ((c : Thread nD τ).loc main_arg5)
abbrev aGf (c : Dev nD) : FVec Ideal S1024 .f32 := m ((c : Thread nD τ).loc main_arg6)

/-- The blocks a grid point reads, at their own shapes. -/
abbrev b0 (c : Dev nD) (t : Fin cfg0.N) : FVec Ideal S512x1024 .f32 := iblk m c 0 t
abbrev b1 (c : Dev nD) (t : Fin cfg0.N) : FVec Ideal S1x1024 .f32 := iblk m c 1 t
abbrev b2 (c : Dev nD) (t : Fin cfg0.N) : FVec Ideal S1024x2816 .bf16 := iblk m c 2 t
abbrev b3 (c : Dev nD) (t : Fin cfg0.N) : FVec Ideal S1024x2816 .bf16 := iblk m c 3 t
abbrev b4 (c : Dev nD) (t : Fin cfg0.N) : FVec Ideal S3x2x2816 .f32 := iblk m c 4 t
abbrev b5 (c : Dev nD) (t : Fin cfg0.N) : FVec Ideal S2x2816 .f32 := iblk m c 5 t
abbrev b6 (c : Dev nD) (t : Fin cfg0.N) : FVec Ideal S2816x1024 .bf16 := iblk m c 6 t
abbrev b7 (c : Dev nD) (t : Fin cfg0.N) : FVec Ideal S1x1024 .f32 := iblk m c 7 t

/-! ## What the host operations before the region leave -/

theorem entry0_at (c : Dev nD) (i : Fin 32768) (k : Fin 1024) :
    (show FVec Ideal S32768x1024 .f32 from V m c main_v0) (ix2 i k) = aH m c (ix3 ⟨i.val / 4096, by omega⟩ ⟨i.val % 4096, by omega⟩ k) := by
  have e : V m c main_v0 = shapeCast S32768x1024 (aH m c) shapeCasts_S8x4096x1024_S32768x1024 := by
    unfold V
    simp only [hostOps0]
    after_results <;> rfl
  rw [e]
  pointwise

theorem entry1_at (c : Dev nD) (k : Fin 1024) : (show FVec Ideal S1x1024 .f32 from V m c main_v1) (ix2 0 k) = aG m c (ix1 k) := by
  have e : V m c main_v1 = shapeCast S1x1024 (aG m c) shapeCasts_S1024_S1x1024 := by
    unfold V
    simp only [hostOps0]
    after_results <;> rfl
  rw [e]
  pointwise

theorem entry2_at (c : Dev nD) (k : Fin 1024) (n : Fin 5632) : (show FVec Ideal S1024x5632 .bf16 from V m c main_v2) (ix2 k n) = aW m c (ix2 k n) := by
  have e : V m c main_v2 = truncf .bf16 (aW m c) bitsLt_bf16_f32 := by
    unfold V
    simp only [hostOps0]
    after_results <;> rfl
  rw [e]
  pointwise

theorem entry3_at (c : Dev nD) (j : Fin 3) (e : Fin 2) (f : Fin 2816) :
    (show FVec Ideal S3x2x2816 .f32 from V m c main_v3) (ix3 j e f) = aCw m c (ix2 j ⟨e.val * 2816 + f.val, by omega⟩) := by
  have e : V m c main_v3 = shapeCast S3x2x2816 (aCw m c) shapeCasts_S3x5632_S3x2x2816 := by
    unfold V
    simp only [hostOps0]
    after_results <;> rfl
  rw [e]
  pointwise

theorem entry4_at (c : Dev nD) (e : Fin 2) (f : Fin 2816) :
    (show FVec Ideal S2x2816 .f32 from V m c main_v4) (ix2 e f) = aCb m c (ix1 ⟨e.val * 2816 + f.val, by omega⟩) := by
  have e : V m c main_v4 = shapeCast S2x2816 (aCb m c) shapeCasts_S5632_S2x2816 := by
    unfold V
    simp only [hostOps0]
    after_results <;> rfl
  rw [e]
  pointwise

theorem entry5_at (c : Dev nD) (f : Fin 2816) (k : Fin 1024) : (show FVec Ideal S2816x1024 .bf16 from V m c main_v5) (ix2 f k) = aWd m c (ix2 f k) := by
  have e : V m c main_v5 = truncf .bf16 (aWd m c) bitsLt_bf16_f32 := by
    unfold V
    simp only [hostOps0]
    after_results <;> rfl
  rw [e]
  pointwise

theorem entry6_at (c : Dev nD) (k : Fin 1024) : (show FVec Ideal S1x1024 .f32 from V m c main_v6) (ix2 0 k) = aGf m c (ix1 k) := by
  have e : V m c main_v6 = shapeCast S1x1024 (aGf m c) shapeCasts_S1024_S1x1024 := by
    unfold V
    simp only [hostOps0]
    after_results <;> rfl
  rw [e]
  pointwise

/-! ## The blocks at an index -/

theorem div4096 (t r : ℕ) (hr : r < 512) : (t * 512 + r) / 4096 = t / 8 := by omega
theorem mod4096 (t r : ℕ) (hr : r < 512) : (t * 512 + r) % 4096 = t % 8 * 512 + r := by omega

theorem read0 (c : Dev nD) (t : Fin cfg0.N) (ht : t.val < 64) (r : Fin 512) (k : Fin 1024) :
    b0 m c t (ix2 r k) = aH m c (ix3 ⟨t.val / 8, by omega⟩ ⟨t.val % 8 * 512 + r.val, by omega⟩ k) := by
  have e : b0 m c t (ix2 r k) = (show FVec Ideal S32768x1024 .f32 from V m c main_v0) (ix2 ⟨t.val * 512 + r.val, by omega⟩ k) := by
    blk_ext [iblk, idx t]
  rw [e, entry0_at]
  simp only [div4096 t.val r.val r.isLt, mod4096 t.val r.val r.isLt]

theorem read1 (c : Dev nD) (t : Fin cfg0.N) (k : Fin 1024) : b1 m c t (ix2 0 k) = aG m c (ix1 k) := by
  rw [← entry1_at]
  blk_ext [iblk, idx t]

theorem read2 (c : Dev nD) (t : Fin cfg0.N) (k : Fin 1024) (f : Fin 2816) : b2 m c t (ix2 k f) = aW m c (ix2 k ⟨f.val, by omega⟩) := by
  rw [← entry2_at]
  blk_ext [iblk, idx t]

theorem read3 (c : Dev nD) (t : Fin cfg0.N) (k : Fin 1024) (f : Fin 2816) : b3 m c t (ix2 k f) = aW m c (ix2 k ⟨2816 + f.val, by omega⟩) := by
  rw [← entry2_at]
  blk_ext [iblk, idx t]

theorem read4 (c : Dev nD) (t : Fin cfg0.N) (j : Fin 3) (e : Fin 2) (f : Fin 2816) :
    b4 m c t (ix3 j e f) = aCw m c (ix2 j ⟨e.val * 2816 + f.val, by omega⟩) := by
  rw [← entry3_at]
  blk_ext [iblk, idx t]

theorem read5 (c : Dev nD) (t : Fin cfg0.N) (e : Fin 2) (f : Fin 2816) : b5 m c t (ix2 e f) = aCb m c (ix1 ⟨e.val * 2816 + f.val, by omega⟩) := by
  rw [← entry4_at]
  blk_ext [iblk, idx t]

theorem read6 (c : Dev nD) (t : Fin cfg0.N) (f : Fin 2816) (k : Fin 1024) : b6 m c t (ix2 f k) = aWd m c (ix2 f k) := by
  rw [← entry5_at]
  blk_ext [iblk, idx t]

theorem read7 (c : Dev nD) (t : Fin cfg0.N) (k : Fin 1024) : b7 m c t (ix2 0 k) = aGf m c (ix1 k) := by
  rw [← entry6_at]
  blk_ext [iblk, idx t]

end Cert.FfnIdeal.Body

end
-- ==== Proof.FfnFinal.lean ====
/- The prompt FFN: a grid point's rows are the rows of the sequence that the tile covers, with the rows found carried over from the tile before,
   so the two result arrays end as the plain reference's own. -/
module

public import proofs.«01_k».proof.Proof.FfnValue

@[expose] public section

set_option maxRecDepth 16384

noncomputable section

open Idealize.ShloMosaic Idealize.ShloMosaic.TcCoe Idealize.SL.Sem
open Idealize.ShloMosaic.Pipeline (Dat)

namespace Cert.FfnIdeal.Body

open Cert.FfnIdeal Cert.FfnIdeal.Gen
open Cert.FfnRefIdeal.Term
open Cert.FfnRefIdeal.Read (val_main_v60 val_main_v61)

/-! ## Rows of a tile and rows of a sequence -/

/-- Row `r` of tile `q` of a sequence. -/
abbrev rowOf (q : ℕ) (hq : q < 8) (r : Fin 512) : Fin 4096 := ⟨q * 512 + r.val, by omega⟩

/-- The eight rows before tile `q`: zeros before the first. -/
def before (U : Fin 4096 → EReal) (q : ℕ) (hq : q < 8) (s : Fin 8) : EReal :=
  if h : q = 0 then 0 else U ⟨(q - 1) * 512 + (504 + s.val), by omega⟩

/-- Looking back from a row of a tile into the tile or the rows before it is looking back along the sequence. -/
theorem prev_before (U : Fin 4096 → EReal) (q : ℕ) (hq : q < 8) (j : ℕ) (hj : 0 < j) (hj8 : j ≤ 8) (r : Fin 512) :
    prev (fun r => U (rowOf q hq r)) (before U q hq) j r
      = if q * 512 + r.val < j then 0 else U ⟨q * 512 + r.val - j, by omega⟩ := by
  unfold prev before
  by_cases h : r.val < j
  · rw [dif_pos h]
    by_cases h0 : q = 0
    · rw [dif_pos h0, if_pos (by omega)]
    · rw [dif_neg h0, if_neg (by omega)]
      exact congrArg U (Fin.ext (by show (q - 1) * 512 + (504 + (8 + r.val - j) % 8) = q * 512 + r.val - j; omega))
  · rw [dif_neg h, if_neg (by omega)]
    exact congrArg U (Fin.ext (by show q * 512 + (r.val - j) = q * 512 + r.val - j; omega))

variable (m : (ℓ : Loc nD τ sig) → Buf (Elt Ideal) ℓ) (c : Dev nD)

/-- The up-projection along the sequence that point `t` works in. -/
abbrev seqUp (t : ℕ) (ht : t < 64) (n : Fin 5632) (s : Fin 4096) : EReal := up (aH m c) (aG m c) (aW m c) ⟨t / 8, by omega⟩ s n

section
variable (t : Fin cfg0.N) (ht : t.val < 64)

theorem upG_row (r : Fin 512) (f : Fin 2816) : upG (F := Ideal) (b0 m c t) (b1 m c t) (b2 m c t) (ix2 r f)
    = seqUp m c t.val ht ⟨f.val, by omega⟩ (rowOf (t.val % 8) (by omega) r) := by
  rw [upG_at]
  unfold seqUp up
  refine Finset.sum_congr rfl fun k _ => ?_
  rw [read2, funext fun l => read0 m c t ht r l, funext fun l => read1 m c t l]

theorem upV_row (r : Fin 512) (f : Fin 2816) : upV (F := Ideal) (b0 m c t) (b1 m c t) (b3 m c t) (ix2 r f)
    = seqUp m c t.val ht ⟨2816 + f.val, by omega⟩ (rowOf (t.val % 8) (by omega) r) := by
  rw [upV_at]
  unfold seqUp up
  refine Finset.sum_congr rfl fun k _ => ?_
  rw [read3, funext fun l => read0 m c t ht r l, funext fun l => read1 m c t l]

theorem zeros_at (e : Fin 2) (s : Fin 8) (f : Fin 2816) : k0_pay2 (F := Ideal) (ix4 0 e s f) = 0 := by
  pointwise [k0_pay2]

/-- The rows that a point finds are the eight before its tile, each half. -/
theorem found_gate (s : Fin 8) (f : Fin 2816) : found (F := Ideal) m c t (ix4 0 0 s f)
    = before (seqUp m c t.val ht ⟨f.val, by omega⟩) (t.val % 8) (by omega) s := by
  unfold found before
  by_cases h : t.val % 8 = 0
  · rw [if_pos h, dif_pos h, zeros_at]
  · rw [if_neg h, dif_neg h]
    refine (carryOut_gate _ _ _ _ s f).trans ((upG_row m c ⟨t.val - 1, by omega⟩ (by show t.val - 1 < 64; omega) ⟨504 + s.val, by omega⟩ f).trans ?_)
    have e1 : (t.val - 1) / 8 = t.val / 8 := by omega
    have e2 : (t.val - 1) % 8 = t.val % 8 - 1 := by omega
    simp only [seqUp, rowOf, e1, e2]

theorem found_val (s : Fin 8) (f : Fin 2816) : found (F := Ideal) m c t (ix4 0 1 s f)
    = before (seqUp m c t.val ht ⟨2816 + f.val, by omega⟩) (t.val % 8) (by omega) s := by
  unfold found before
  by_cases h : t.val % 8 = 0
  · rw [if_pos h, dif_pos h, zeros_at]
  · rw [if_neg h, dif_neg h]
    refine (carryOut_val _ _ _ _ s f).trans ((upV_row m c ⟨t.val - 1, by omega⟩ (by show t.val - 1 < 64; omega) ⟨504 + s.val, by omega⟩ f).trans ?_)
    have e1 : (t.val - 1) / 8 = t.val / 8 := by omega
    have e2 : (t.val - 1) % 8 = t.val % 8 - 1 := by omega
    simp only [seqUp, rowOf, e1, e2]

theorem prev_row (j : ℕ) (hj : 0 < j) (hj8 : j ≤ 8) (n : Fin 5632) (r : Fin 512) :
    prev (fun r => seqUp m c t.val ht n (rowOf (t.val % 8) (by omega) r)) (before (seqUp m c t.val ht n) (t.val % 8) (by omega)) j r
      = back (aH m c) (aG m c) (aW m c) j ⟨t.val / 8, by omega⟩ (rowOf (t.val % 8) (by omega) r) n :=
  prev_before _ _ _ j hj hj8 r

theorem convG_row (r : Fin 512) (f : Fin 2816) :
    convG (F := Ideal) (b0 m c t) (b1 m c t) (b2 m c t) (b4 m c t) (b5 m c t) (found m c t) (ix2 r f)
      = conv (aH m c) (aG m c) (aW m c) (aCw m c) (aCb m c) ⟨t.val / 8, by omega⟩ (rowOf (t.val % 8) (by omega) r) ⟨f.val, by omega⟩ := by
  rw [convG_at, read5, read4, read4, read4, funext fun r => upG_row m c t ht r f, funext fun s => found_gate m c t ht s f,
    prev_row m c t ht 2 (by decide) (by decide), prev_row m c t ht 1 (by decide) (by decide)]
  unfold conv
  simp only [Fin.val_zero, zero_mul, zero_add, upG_row m c t ht]

theorem convV_row (r : Fin 512) (f : Fin 2816) :
    convV (F := Ideal) (b0 m c t) (b1 m c t) (b3 m c t) (b4 m c t) (b5 m c t) (found m c t) (ix2 r f)
      = conv (aH m c) (aG m c) (aW m c) (aCw m c) (aCb m c) ⟨t.val / 8, by omega⟩ (rowOf (t.val % 8) (by omega) r) ⟨2816 + f.val, by omega⟩ := by
  rw [convV_at, read5, read4, read4, read4, funext fun r => upV_row m c t ht r f, funext fun s => found_val m c t ht s f,
    prev_row m c t ht 2 (by decide) (by decide), prev_row m c t ht 1 (by decide) (by decide)]
  unfold conv
  simp only [Fin.val_one, one_mul, upV_row m c t ht]

theorem tile_row (r : Fin 512) (k : Fin 1024) :
    tileOut (F := Ideal) (b0 m c t) (b1 m c t) (b2 m c t) (b3 m c t) (b4 m c t) (b5 m c t) (b6 m c t) (b7 m c t) (found m c t) (ix2 r k)
      = out (aH m c) (aG m c) (aW m c) (aCw m c) (aCb m c) (aWd m c) (aGf m c) ⟨t.val / 8, by omega⟩ (rowOf (t.val % 8) (by omega) r) k := by
  rw [tileOut_at]
  unfold out down
  simp only [read0 m c t ht, read6 m c t, read7 m c t, convG_row m c t ht, convV_row m c t ht]

theorem tile_result (r : Fin 512) (k : Fin 1024) :
    tileOut (F := Ideal) (b0 m c t) (b1 m c t) (b2 m c t) (b3 m c t) (b4 m c t) (b5 m c t) (b6 m c t) (b7 m c t) (found m c t) (ix2 r k)
      = val_main_v60 (F := Ideal) (aH m c) (aG m c) (aW m c) (aCw m c) (aCb m c) (aWd m c) (aGf m c) (ix2 ⟨t.val * 512 + r.val, by omega⟩ ⟨k.val, k.isLt⟩) := by
  refine (tile_row m c t ht r k).trans (Eq.trans ?_ (v60_at _ _ _ _ _ _ _ _ _).symm)
  simp only [rowOf, div4096 t.val r.val r.isLt, mod4096 t.val r.val r.isLt]

theorem state_row (e : Fin 2) (s : Fin 8) (f : Fin 2816) :
    stateOut (F := Ideal) (b0 m c t) (b1 m c t) (b2 m c t) (b3 m c t) (ix4 0 e s f)
      = up (aH m c) (aG m c) (aW m c) ⟨t.val / 8, by omega⟩ ⟨t.val % 8 * 512 + (504 + s.val), by omega⟩ ⟨e.val * 2816 + f.val, by omega⟩ := by
  rw [stateOut_eq]
  match e with
  | ⟨0, _⟩ =>
    refine (carryOut_gate _ _ _ _ s f).trans ((upG_row m c t ht _ f).trans ?_)
    exact congrArg (fun n => up (aH m c) (aG m c) (aW m c) _ _ n) (Fin.ext (by show f.val = 0 * 2816 + f.val; omega))
  | ⟨1, _⟩ =>
    refine (carryOut_val _ _ _ _ s f).trans ((upV_row m c t ht _ f).trans ?_)
    exact congrArg (fun n => up (aH m c) (aG m c) (aW m c) _ _ n) (Fin.ext (by show 2816 + f.val = 1 * 2816 + f.val; omega))

theorem state_result (e : Fin 2) (s : Fin 8) (f : Fin 2816) :
    stateOut (F := Ideal) (b0 m c t) (b1 m c t) (b2 m c t) (b3 m c t) (ix4 0 e s f)
      = val_main_v61 (F := Ideal) (aH m c) (aG m c) (aW m c) (ix4 ⟨t.val, ht⟩ ⟨e.val, e.isLt⟩ ⟨s.val, s.isLt⟩ ⟨f.val, f.isLt⟩) :=
  (state_row m c t ht e s f).trans (v61_at _ _ _ _ _ _ _).symm

end

/-! ## The result arrays after the run -/

theorem final8 : (dats m 0 c).arrAt 8 (cfgs 0).N = val_main_v60 (F := Ideal) (aH m c) (aG m c) (aW m c) (aCw m c) (aCb m c) (aWd m c) (aGf m c) := by
  refine (dats m 0 c).arrAt_eq_of_covers 8 _ (by decide +kernel) fun t _ y => ?_
  blk_simp
  rw [after8]
  have ht : t.val < 64 := lt_of_lt_of_eq t.isLt N_0
  have h0 : (y 0).val < 512 := (y 0).isLt
  have h1 : (y 1).val < 1024 := (y 1).isLt
  have hy : y = ix2 (y 0) (y 1) := eq_ix2 y
  have he : (((cfg0.win 8).blk t).view.emb y) = ix2 ⟨t.val * 512 + (y 0).val, by omega⟩ ⟨(y 1).val, by omega⟩ := by
    blk_ext [idx t]
  refine (congrArg _ hy).trans (Eq.trans ?_ (congrArg _ he.symm))
  exact tile_result m c t ht (y 0) (y 1)

theorem final9 : (dats m 0 c).arrAt 9 (cfgs 0).N = val_main_v61 (F := Ideal) (aH m c) (aG m c) (aW m c) := by
  refine (dats m 0 c).arrAt_eq_of_covers 9 _ (by decide +kernel) fun t _ y => ?_
  blk_simp
  rw [after9]
  have ht : t.val < 64 := lt_of_lt_of_eq t.isLt N_0
  have h1 : (y 1).val < 2 := (y 1).isLt
  have h2 : (y 2).val < 8 := (y 2).isLt
  have h3 : (y 3).val < 2816 := (y 3).isLt
  have hy : y = ix4 (0 : Fin 1) (y 1) (y 2) (y 3) := by
    funext a; apply Fin.ext
    match a with
    | ⟨0, _⟩ => exact Nat.lt_one_iff.mp (y 0).isLt
    | ⟨1, _⟩ => rfl
    | ⟨2, _⟩ => rfl
    | ⟨3, _⟩ => rfl
  have he : (((cfg0.win 9).blk t).view.emb y) = ix4 ⟨t.val, ht⟩ ⟨(y 1).val, h1⟩ ⟨(y 2).val, h2⟩ ⟨(y 3).val, h3⟩ := by
    blk_ext [idx t]
  refine (congrArg _ hy).trans (Eq.trans ?_ (congrArg _ he.symm))
  exact state_result m c t ht (y 1) (y 2) (y 3)

end Cert.FfnIdeal.Body

end
-- ==== Proof.FfnClaims.lean ====
/- The claims about the prompt FFN: both texts of the kernel and the reference leave their arguments as they were, and over the reals the kernel's
   two results are the reference's. -/
module

public import proofs.«01_k».proof.Defs
public import proofs.«01_k».proof.Proof.Gen.Ffn
public import proofs.«01_k».proof.Proof.FfnFinal
public import Idealize.ShloMosaic.Adequacy
public import Idealize.ShloMosaic.Init

@[expose] public section

noncomputable section

namespace Cert.FfnClaims

open Idealize.ShloMosaic Idealize.SL.Sem

/-- The two texts of the kernel have the same body table, a label at a time. -/
theorem bodies_eq : @Cert.Ffn.defs₀ Bits _ _ = @Cert.FfnIdeal.defs₀ Bits _ _ := by
  unfold Cert.Ffn.defs₀ Cert.FfnIdeal.defs₀
  refine congrArg Defs.onTc (funext fun l => funext fun a => ?_)
  match l, a with
  | 0, (t, s) => rfl

theorem tables_eq : @Cert.Ffn.defs Bits _ _ = @Cert.FfnIdeal.defs Bits _ _ := by
  unfold Cert.Ffn.defs Cert.FfnIdeal.defs
  exact congrArg (Pipeline.defs (Cert.FfnIdeal.pcfgs (F := Bits))) bodies_eq

theorem frame : Cert.quiescent_Ffn := by
  intro m g _
  rw [tables_eq]
  exact (θ_run Cert.FfnIdeal.defs _ _).mono (fun _ h => h) (Cert.FfnIdeal.Body.quiet (F := Bits) m g)

theorem frame_ideal : Cert.quiescent_FfnIdeal := fun m g _ => Cert.FfnIdeal.Body.quiet (F := Ideal) m g

theorem frame_ref : Cert.quiescent_FfnRefIdeal := fun m g _ =>
  (θ_run Cert.FfnRefIdeal.defs _ _).mono (fun r h => ⟨fun c => (h c).2.2, sem_eq_zero_of_no_sems (by decide) r.2⟩) (Cert.FfnRefIdeal.Value.run (F := Ideal) m g)

set_option maxHeartbeats 2000000 in
theorem algebraic : Cert.algebraic_FfnIdeal_FfnRefIdeal := by
  pair_intro
  · run_from Cert.FfnIdeal.Body.run_main m g
  · refine (θ_run Cert.FfnRefIdeal.defs _ _).mono (fun r h c => ?_) (Cert.FfnRefIdeal.Value.run (F := Ideal) m' g')
    obtain ⟨e0, e1, a⟩ := h c
    obtain ⟨h0, h1, h2, h3, h4, h5, h6⟩ := hagree c
    refine ⟨e0.trans ((Cert.FfnRefIdeal.Read.val_main_v60_eq m' c).trans (Eq.trans ?_ (Cert.FfnIdeal.Body.final8 m c).symm)),
      e1.trans ((Cert.FfnRefIdeal.Read.val_main_v61_eq _ _ _).trans (Eq.trans ?_ (Cert.FfnIdeal.Body.final9 m c).symm)), a⟩
    · rw [h0, h1, h2, h3, h4, h5, h6]
    · rw [h0, h1, h2]

end Cert.FfnClaims

end
-- ==== Proof.MixEntry.lean ====
/- One entry of the token mixer's input projection, for the prompt's rows and the sample's rows alike. -/
module

public import Idealize.ShloMosaic.Lib.Pointwise

@[expose] public section

noncomputable section

open Idealize.ShloMosaic

namespace Cert.MixEntry

/-- One entry of the projection: the row `x` normed by its root mean square, times the gains `g`, against the column `w`. -/
def entry (x g w : Fin 1024 → EReal) : EReal :=
  ∑ k, x k * Ideal.rsqrt (Ideal.div (∑ l, x l * x l) (Ideal.ofBits .f32 0x44800000#32) + Ideal.ofBits .f32 0x358637BD#32) * g k * w k

theorem entry_congr {x x' g g' w w' : Fin 1024 → EReal} (hx : x = x') (hg : g = g') (hw : w = w') :
    entry x g w = entry x' g' w' := by rw [hx, hg, hw]

theorem entry_zero (x g : Fin 1024 → EReal) : entry x g (fun _ => 0) = 0 := by
  unfold entry
  simp only [mul_zero, Finset.sum_const_zero]

end Cert.MixEntry

end
-- ==== Proof.MixSampleTerm.lean ====
/- The token mixer's input projection for the sample's rows: the plain reference's results and what the kernel writes of them, each at
   an index. -/
module

public import proofs.«01_k».proof.Proof.MixEntry
public import proofs.«01_k».proof.Proof.Gen.MixSampleIdeal.Frame
public import proofs.«01_k».proof.Proof.Gen.MixSampleRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixSampleRefIdeal.Term

open Cert.MixSampleRefIdeal Cert.MixSampleRefIdeal.Gen Cert.MixSampleRefIdeal.Read Cert.MixEntry

variable (X : FVec Ideal S128x1x1024 .f32) (g : FVec Ideal S1024 .f32) (W : FVec Ideal S1024x1816 .f32)

/-- The whole projection, before it is cut into pieces. -/
theorem z_at (i : Fin 128) (n : Fin 1816) :
    val_main_v14 (F := Ideal) X g W (ix2 i n) = entry (fun k => X (ix3 i 0 k)) (fun k => g (ix1 k)) (fun k => W (ix2 k n)) := by
  unfold val_main_v14 val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise [entry]

/-- The pooled mixer's input. -/
theorem u_at (i : Fin 128) (n : Fin 512) :
    val_main_v23 (F := Ideal) X g W (ix2 i n) = val_main_v14 (F := Ideal) X g W (ix2 i ⟨n.val, by omega⟩) := by
  unfold val_main_v23
  generalize val_main_v14 (F := Ideal) X g W = z
  pointwise

/-- The queries. -/
theorem q_at (i : Fin 128) (n : Fin 512) :
    val_main_v24 (F := Ideal) X g W (ix2 i n) = val_main_v14 (F := Ideal) X g W (ix2 i ⟨512 + n.val, by omega⟩) := by
  unfold val_main_v24
  generalize val_main_v14 (F := Ideal) X g W = z
  pointwise

/-- The keys and values to be compressed. -/
theorem c_at (i : Fin 128) (n : Fin 256) :
    val_main_v25 (F := Ideal) X g W (ix2 i n) = val_main_v14 (F := Ideal) X g W (ix2 i ⟨1024 + n.val, by omega⟩) := by
  unfold val_main_v25
  generalize val_main_v14 (F := Ideal) X g W = z
  pointwise

/-- The keys of the selected branch. -/
theorem s_at (i : Fin 128) (n : Fin 128) :
    val_main_v26 (F := Ideal) X g W (ix2 i n) = val_main_v14 (F := Ideal) X g W (ix2 i ⟨1280 + n.val, by omega⟩) := by
  unfold val_main_v26
  generalize val_main_v14 (F := Ideal) X g W = z
  pointwise

/-- The gates. -/
theorem g_at (i : Fin 128) (n : Fin 128) :
    val_main_v22 (F := Ideal) X g W (ix2 i n) = Ideal.div 1 (1 + Ideal.exp (-(if h : n.val < 24 then
      val_main_v14 (F := Ideal) X g W (ix2 i ⟨1792 + n.val, by omega⟩) else 0))) := by
  have h0 : (FloatOps.sitofp FTy.f32 0#32 : Ideal .f32) = (0 : EReal) := by
    show (((0#32 : BitVec 32).toInt : ℝ) : EReal) = 0
    simp
  unfold val_main_v22 val_main_v21 val_main_v20 val_main_v19 val_main_v18 val_main_v17 val_main_v16 val_main_v15 val_main_cst_2
    val_main_cst_3 val_main_call0_v0 val_main_c
  generalize val_main_v14 (F := Ideal) X g W = z
  pointwise [h0]

/-- The key-value rows, channels first. -/
theorem kv_at (n : Fin 512) (i : Fin 128) :
    val_main_v29 (F := Ideal) X g W (ix3 0 n i) = val_main_v14 (F := Ideal) X g W (ix2 i ⟨1024 + n.val, by omega⟩) := by
  unfold val_main_v29 val_main_v28 val_main_v27
  generalize val_main_v14 (F := Ideal) X g W = z
  pointwise

/-- The window's key-value rows, channels first. -/
theorem win_at (n : Fin 256) (i : Fin 128) :
    val_main_v32 (F := Ideal) X g W (ix3 0 n i) = val_main_v14 (F := Ideal) X g W (ix2 i ⟨1536 + n.val, by omega⟩) := by
  unfold val_main_v32 val_main_v31 val_main_v30
  generalize val_main_v14 (F := Ideal) X g W = z
  pointwise

end Cert.MixSampleRefIdeal.Term

namespace Cert.MixSampleIdeal.Result

open Cert.MixSampleIdeal Cert.MixSampleIdeal.Gen Cert.MixEntry

theorem pay7_at (x : FVec Ideal S128x1024 .f32) (g : FVec Ideal S1x1024 .f32) (w : FVec Ideal S1024x512 .bf16) (r : Fin 128) (l : Fin 512) :
    k0_pay7 (F := Ideal) x g w (ix2 r l) = entry (fun k => x (ix2 r k)) (fun k => g (ix2 0 k)) (fun k => w (ix2 k l)) := by
  pointwise [k0_pay7, k0_pay6, entry]

theorem pay8_at (x : FVec Ideal S128x1024 .f32) (g : FVec Ideal S1x1024 .f32) (w : FVec Ideal S1024x512 .bf16) (r : Fin 128) (l : Fin 512) :
    k0_pay8 (F := Ideal) x g w (ix2 r l) = entry (fun k => x (ix2 r k)) (fun k => g (ix2 0 k)) (fun k => w (ix2 k l)) := by
  pointwise [k0_pay8, k0_pay6, entry]

theorem pay9_at (x : FVec Ideal S128x1024 .f32) (g : FVec Ideal S1x1024 .f32) (w : FVec Ideal S1024x256 .bf16) (r : Fin 128) (l : Fin 256) :
    k0_pay9 (F := Ideal) x g w (ix2 r l) = entry (fun k => x (ix2 r k)) (fun k => g (ix2 0 k)) (fun k => w (ix2 k l)) := by
  pointwise [k0_pay9, k0_pay6, entry]

theorem pay1_at (x : FVec Ideal S128x1024 .f32) (g : FVec Ideal S1x1024 .f32) (w : FVec Ideal S1024x128 .bf16) (r : Fin 128) (l : Fin 128) :
    k0_pay1 (F := Ideal) (k0_pay6 x g) (k0_pay10 w) (constant S128x128 .f32 0x00000000#32) (ix2 r l)
      = entry (fun k => x (ix2 r k)) (fun k => g (ix2 0 k)) (fun k => w (ix2 k l)) := by
  pointwise [k0_pay1, k0_pay10, k0_pay6, entry]

theorem pay2_at (x : FVec Ideal S128x1024 .f32) (g : FVec Ideal S1x1024 .f32) (w : FVec Ideal S1024x128 .bf16) (r : Fin 128) (l : Fin 128) :
    k0_pay2 (F := Ideal) (k0_pay6 x g) w (ix2 r l)
      = Ideal.div 1 (1 + Ideal.exp (-(entry (fun k => x (ix2 r k)) (fun k => g (ix2 0 k)) (fun k => w (ix2 k l))))) := by
  pointwise [k0_pay2, k0_pay6, entry]
  rw [zero_sub]

theorem pay4_at (x : FVec Ideal S128x1024 .f32) (g : FVec Ideal S1x1024 .f32) (w : FVec Ideal S768x1024 .bf16) (l : Fin 512) (r : Fin 128) :
    k0_pay4 (F := Ideal) (k0_pay6 x g) w (ix3 0 l r)
      = entry (fun k => x (ix2 r k)) (fun k => g (ix2 0 k)) (fun k => w (ix2 ⟨l.val, by omega⟩ k)) := by
  pointwise [k0_pay4, k0_pay3, k0_pay6, entry]
  exact Finset.sum_congr rfl fun k _ => mul_comm _ _

theorem pay5_at (x : FVec Ideal S128x1024 .f32) (g : FVec Ideal S1x1024 .f32) (w : FVec Ideal S768x1024 .bf16) (l : Fin 256) (r : Fin 128) :
    k0_pay5 (F := Ideal) (k0_pay6 x g) w (ix3 0 l r)
      = entry (fun k => x (ix2 r k)) (fun k => g (ix2 0 k)) (fun k => w (ix2 ⟨512 + l.val, by omega⟩ k)) := by
  pointwise [k0_pay5, k0_pay3, k0_pay6, entry]
  exact Finset.sum_congr rfl fun k _ => mul_comm _ _

end Cert.MixSampleIdeal.Result

end
-- ==== Proof.MixSampleValue.lean ====
/- The token mixer's input projection for the sample's rows: the arrays that the region finds, the blocks that its one grid point reads of
   them, and the seven result arrays after the run. -/
module

public import proofs.«01_k».proof.Proof.MixSampleTerm

@[expose] public section

set_option maxRecDepth 16384

noncomputable section

open Idealize.ShloMosaic Idealize.ShloMosaic.TcCoe Idealize.SL.Sem
open Idealize.ShloMosaic.Pipeline (Dat)

namespace Cert.MixSampleIdeal.Result

open Cert.MixSampleIdeal Cert.MixSampleIdeal.Gen Cert.MixEntry
open Cert.MixSampleRefIdeal.Term Cert.MixSampleRefIdeal.Read

variable (m : (ℓ : Loc nD τ sig) → Buf (Elt Ideal) ℓ)

/-- The one grid point's blocks are the first ones. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0, 0] ∧ win0_10.index t = ![0, 0, 0] :=
  (by decide +kernel : ∀ t : Fin grid0.N, _)

/-- The argument arrays, at their own shapes. -/
abbrev aX (c : Dev nD) : FVec Ideal S128x1x1024 .f32 := m ((c : Thread nD τ).loc main_arg0)
abbrev aG (c : Dev nD) : FVec Ideal S1024 .f32 := m ((c : Thread nD τ).loc main_arg1)
abbrev aW (c : Dev nD) : FVec Ideal S1024x1816 .f32 := m ((c : Thread nD τ).loc main_arg2)

/-! ## What the host operations before the region leave -/

theorem entry10 (c : Dev nD) : V m c main_v10
    = shapeCast S128x1024 (shapeCast S1x128x1024 (aX m c) shapeCasts_S128x1x1024_S1x128x1024) shapeCasts_S1x128x1024_S128x1024 := by
  unfold V
  simp only [hostOps0, hostOps0_1, hostOps0_2, List.flatten_cons, List.flatten_nil, List.append_nil, List.cons_append, List.nil_append]
  after_results <;> rfl

theorem entry5 (c : Dev nD) : V m c main_v5 = shapeCast S1x1024 (aG m c) shapeCasts_S1024_S1x1024 := by
  unfold V
  simp only [hostOps0, hostOps0_1, hostOps0_2, List.flatten_cons, List.flatten_nil, List.append_nil, List.cons_append, List.nil_append]
  after_results <;> rfl

theorem entry9 (c : Dev nD) : V m c main_v9 = truncf .bf16 (transpose S768x1024 [1, 0] (extractStridedSlice S1024x768 ![0, 1024] (aW m c)
    slices_S1024x1816_S1024x768_0_1024) transposes_S1024x768_S768x1024_1_0) bitsLt_bf16_f32 := by
  unfold V
  simp only [hostOps0, hostOps0_1, hostOps0_2, List.flatten_cons, List.flatten_nil, List.append_nil, List.cons_append, List.nil_append]
  after_results <;> rfl

theorem entry6 (c : Dev nD) : V m c main_v6 = truncf .bf16 (concatenate S1024x1536 1 [⟨S1024x1408, extractStridedSlice S1024x1408 ![0, 0] (aW m c)
      slices_S1024x1816_S1024x1408_0_0⟩, ⟨S1024x128, pad S1024x128 ![0, 0] ![0, 104] ![0, 0] (extractStridedSlice S1024x24 ![0, 1792] (aW m c)
      slices_S1024x1816_S1024x24_0_1792) (sitofp .f32 (constantI S_ 32 0#32)) pads_S1024x24_S1024x128_000_01040 h_S_⟩]
      concatenates_S1024x1408_S1024x128_S1024x1536_d1) bitsLt_bf16_f32 := by
  unfold V
  simp only [hostOps0, hostOps0_1, hostOps0_2, List.flatten_cons, List.flatten_nil, List.append_nil, List.cons_append, List.nil_append]
  after_results <;> rfl

/-! ## The blocks the grid point reads, at an index -/

theorem entry10_at (c : Dev nD) (i : Fin 128) (k : Fin 1024) :
    (show FVec Ideal S128x1024 .f32 from V m c main_v10) (ix2 i k) = aX m c (ix3 i 0 k) := by
  rw [entry10]
  pointwise

theorem entry5_at (c : Dev nD) (k : Fin 1024) :
    (show FVec Ideal S1x1024 .f32 from V m c main_v5) (ix2 0 k) = aG m c (ix1 k) := by
  rw [entry5]
  pointwise

theorem entry9_at (c : Dev nD) (l : Fin 768) (k : Fin 1024) :
    (show FVec Ideal S768x1024 .bf16 from V m c main_v9) (ix2 l k) = aW m c (ix2 k ⟨1024 + l.val, by omega⟩) := by
  rw [entry9]
  pointwise

theorem entry6_at (c : Dev nD) (k : Fin 1024) (l : Fin 1408) :
    (show FVec Ideal S1024x1536 .bf16 from V m c main_v6) (ix2 k ⟨l.val, by omega⟩) = aW m c (ix2 k ⟨l.val, by omega⟩) := by
  rw [entry6]
  pointwise

theorem entry6g_at (c : Dev nD) (k : Fin 1024) (l : Fin 128) :
    (show FVec Ideal S1024x1536 .bf16 from V m c main_v6) (ix2 k ⟨1408 + l.val, by omega⟩)
      = if h : l.val < 24 then aW m c (ix2 k ⟨1792 + l.val, by omega⟩) else 0 := by
  have h0 : (FloatOps.sitofp FTy.f32 0#32 : Ideal .f32) = (0 : EReal) := by
    show (((0#32 : BitVec 32).toInt : ℝ) : EReal) = 0
    simp
  rw [entry6]
  pointwise [h0]

theorem read0 (c : Dev nD) (t : Fin cfg0.N) (r : Fin 128) (k : Fin 1024) :
    (show FVec Ideal S128x1024 .f32 from iblk m c 0 t) (ix2 r k) = aX m c (ix3 r 0 k) := by
  rw [← entry10_at]
  blk_ext [iblk, idx t]

theorem read1 (c : Dev nD) (t : Fin cfg0.N) (k : Fin 1024) :
    (show FVec Ideal S1x1024 .f32 from iblk m c 1 t) (ix2 0 k) = aG m c (ix1 k) := by
  rw [← entry5_at]
  blk_ext [iblk, idx t]

theorem read2 (c : Dev nD) (t : Fin cfg0.N) (k : Fin 1024) (l : Fin 1536) :
    (show FVec Ideal S1024x1536 .bf16 from iblk m c 2 t) (ix2 k l) = (show FVec Ideal S1024x1536 .bf16 from V m c main_v6) (ix2 k l) := by
  blk_ext [iblk, idx t]

theorem read3 (c : Dev nD) (t : Fin cfg0.N) (l : Fin 768) (k : Fin 1024) :
    (show FVec Ideal S768x1024 .bf16 from iblk m c 3 t) (ix2 l k) = aW m c (ix2 k ⟨1024 + l.val, by omega⟩) := by
  rw [← entry9_at]
  blk_ext [iblk, idx t]

/-- The normed rows, as the later stores read them. -/
theorem pay11_eq (x0 : FVec Ideal S128x1024 .f32) (x1 : FVec Ideal S1x1024 .f32) (x2 : FVec Ideal S1024x1536 .bf16) (x3 : FVec Ideal S768x1024 .bf16) :
    k0_pay11 (F := Ideal) x0 x1 x2 x3 = k0_pay6 x0 x1 := by
  unfold k0_pay11
  frame_out

/-- A row that the grid point reads against a column of the input weights is the projection's entry. -/
theorem point (c : Dev nD) (t : Fin cfg0.N) (r : Fin 128) (w : Fin 1024 → EReal) (n : Fin 1816)
    (hw : ∀ k, w k = aW m c (ix2 k n)) :
    entry (fun k => (show FVec Ideal S128x1024 .f32 from iblk m c 0 t) (ix2 r k)) (fun k => (show FVec Ideal S1x1024 .f32 from iblk m c 1 t) (ix2 0 k)) w
      = val_main_v14 (F := Ideal) (aX m c) (aG m c) (aW m c) (ix2 r n) := by
  rw [z_at]
  exact entry_congr (funext fun k => read0 m c t r k) (funext fun k => read1 m c t k) (funext hw)

/-! ## The result arrays after the run -/

/-- The pooled mixer's input. -/
theorem final4 (c : Dev nD) : (dats m 0 c).arrAt 4 (cfgs 0).N = val_main_v23 (F := Ideal) (aX m c) (aG m c) (aW m c) := by
  refine (dats m 0 c).arrAt_eq_of_covers 4 _ (by decide +kernel) fun t _ y => ?_
  blk_simp
  rw [after0_4]; frame_out
  have h1 : (y 1).val < 512 := (y 1).isLt
  have hy : y = (ix2 (y 0) (y 1) : S128x512.Idx) := eq_ix2 y
  have he : (((cfg0.win 4).blk t).view.emb y) = (ix2 (y 0) (y 1) : S128x512.Idx) := by blk_ext [idx t]
  refine (congrArg _ hy).trans (Eq.trans ?_ (congrArg _ he.symm))
  generalize (y 0 : Fin 128) = r at *
  generalize (y 1 : Fin 512) = l at *
  refine (pay7_at _ _ _ r l).trans (Eq.trans ?_ (u_at _ _ _ _ _).symm)
  refine point m c t r _ _ fun k => ?_
  refine Eq.trans ?_ (entry6_at m c k ⟨l.val, by omega⟩)
  refine Eq.trans ?_ (read2 m c t k ⟨l.val, by omega⟩)
  pointwise [r0_2]

/-- The queries. -/
theorem final5 (c : Dev nD) : (dats m 0 c).arrAt 5 (cfgs 0).N = val_main_v24 (F := Ideal) (aX m c) (aG m c) (aW m c) := by
  refine (dats m 0 c).arrAt_eq_of_covers 5 _ (by decide +kernel) fun t _ y => ?_
  blk_simp
  rw [after0_5]; frame_out
  have h1 : (y 1).val < 512 := (y 1).isLt
  have hy : y = (ix2 (y 0) (y 1) : S128x512.Idx) := eq_ix2 y
  have he : (((cfg0.win 5).blk t).view.emb y) = (ix2 (y 0) (y 1) : S128x512.Idx) := by blk_ext [idx t]
  refine (congrArg _ hy).trans (Eq.trans ?_ (congrArg _ he.symm))
  generalize (y 0 : Fin 128) = r at *
  generalize (y 1 : Fin 512) = l at *
  refine (pay8_at _ _ _ r l).trans (Eq.trans ?_ (q_at _ _ _ _ _).symm)
  refine point m c t r _ _ fun k => ?_
  refine Eq.trans ?_ (entry6_at m c k ⟨512 + l.val, by omega⟩)
  refine Eq.trans ?_ (read2 m c t k ⟨512 + l.val, by omega⟩)
  pointwise [r0_4]

/-- The keys and values to be compressed. -/
theorem final6 (c : Dev nD) : (dats m 0 c).arrAt 6 (cfgs 0).N = val_main_v25 (F := Ideal) (aX m c) (aG m c) (aW m c) := by
  refine (dats m 0 c).arrAt_eq_of_covers 6 _ (by decide +kernel) fun t _ y => ?_
  blk_simp
  rw [after0_6]; frame_out
  have h1 : (y 1).val < 256 := (y 1).isLt
  have hy : y = (ix2 (y 0) (y 1) : S128x256.Idx) := eq_ix2 y
  have he : (((cfg0.win 6).blk t).view.emb y) = (ix2 (y 0) (y 1) : S128x256.Idx) := by blk_ext [idx t]
  refine (congrArg _ hy).trans (Eq.trans ?_ (congrArg _ he.symm))
  generalize (y 0 : Fin 128) = r at *
  generalize (y 1 : Fin 256) = l at *
  refine (pay9_at _ _ _ r l).trans (Eq.trans ?_ (c_at _ _ _ _ _).symm)
  refine point m c t r _ _ fun k => ?_
  refine Eq.trans ?_ (entry6_at m c k ⟨1024 + l.val, by omega⟩)
  refine Eq.trans ?_ (read2 m c t k ⟨1024 + l.val, by omega⟩)
  pointwise [r0_5]

/-- The selected branch's keys. -/
theorem final7 (c : Dev nD) : (dats m 0 c).arrAt 7 (cfgs 0).N = val_main_v26 (F := Ideal) (aX m c) (aG m c) (aW m c) := by
  refine (dats m 0 c).arrAt_eq_of_covers 7 _ (by decide +kernel) fun t _ y => ?_
  blk_simp
  rw [after0_7]; frame_out
  rw [pay11_eq]
  have h1 : (y 1).val < 128 := (y 1).isLt
  have hy : y = (ix2 (y 0) (y 1) : S128x128.Idx) := eq_ix2 y
  have he : (((cfg0.win 7).blk t).view.emb y) = (ix2 (y 0) (y 1) : S128x128.Idx) := by blk_ext [idx t]
  refine (congrArg _ hy).trans (Eq.trans ?_ (congrArg _ he.symm))
  generalize (y 0 : Fin 128) = r at *
  generalize (y 1 : Fin 128) = l at *
  refine (pay1_at _ _ _ r l).trans (Eq.trans ?_ (s_at _ _ _ _ _).symm)
  refine point m c t r _ _ fun k => ?_
  refine Eq.trans ?_ (entry6_at m c k ⟨1280 + l.val, by omega⟩)
  refine Eq.trans ?_ (read2 m c t k ⟨1280 + l.val, by omega⟩)
  pointwise [r0_7]

/-- The gates. -/
theorem final8 (c : Dev nD) : (dats m 0 c).arrAt 8 (cfgs 0).N = val_main_v22 (F := Ideal) (aX m c) (aG m c) (aW m c) := by
  refine (dats m 0 c).arrAt_eq_of_covers 8 _ (by decide +kernel) fun t _ y => ?_
  blk_simp
  rw [after0_8]; frame_out
  rw [pay11_eq]
  have h1 : (y 1).val < 128 := (y 1).isLt
  have hy : y = (ix2 (y 0) (y 1) : S128x128.Idx) := eq_ix2 y
  have he : (((cfg0.win 8).blk t).view.emb y) = (ix2 (y 0) (y 1) : S128x128.Idx) := by blk_ext [idx t]
  refine (congrArg _ hy).trans (Eq.trans ?_ (congrArg _ he.symm))
  generalize (y 0 : Fin 128) = r at *
  generalize (y 1 : Fin 128) = l at *
  refine (pay2_at _ _ _ r l).trans (Eq.trans ?_ (g_at _ _ _ _ _).symm)
  have hw : ∀ k : Fin 1024, View.ld (iblk m c 2 t) r0_9 (ix2 k l) = if h : l.val < 24 then aW m c (ix2 k ⟨1792 + l.val, by omega⟩) else 0 := fun k => by
    refine Eq.trans ?_ (entry6g_at m c k ⟨l.val, by omega⟩)
    refine Eq.trans ?_ (read2 m c t k ⟨1408 + l.val, by omega⟩)
    pointwise [r0_9]
  refine congrArg (fun z => Ideal.div 1 (1 + Ideal.exp (-z))) ?_
  by_cases h : l.val < 24
  · rw [dif_pos h]
    exact point m c t r _ _ fun k => (hw k).trans (dif_pos h)
  · rw [dif_neg h]
    exact (entry_congr rfl rfl (funext fun k => (hw k).trans (dif_neg h))).trans (entry_zero _ _)

/-- The key-value rows, channels first. -/
theorem final9 (c : Dev nD) : (dats m 0 c).arrAt 9 (cfgs 0).N = val_main_v29 (F := Ideal) (aX m c) (aG m c) (aW m c) := by
  refine (dats m 0 c).arrAt_eq_of_covers 9 _ (by decide +kernel) fun t _ y => ?_
  blk_simp
  rw [after0_9]; frame_out
  rw [pay11_eq]
  have h1 : (y 1).val < 512 := (y 1).isLt
  have hy : y = (ix3 0 (y 1) (y 2) : S1x512x128.Idx) := by blk_ext []
  have he : (((cfg0.win 9).blk t).view.emb y) = (ix3 0 (y 1) (y 2) : S1x512x128.Idx) := by blk_ext [idx t]
  refine (congrArg _ hy).trans (Eq.trans ?_ (congrArg _ he.symm))
  generalize (y 1 : Fin 512) = l at *
  generalize (y 2 : Fin 128) = r at *
  refine (pay4_at _ _ _ l r).trans (Eq.trans ?_ (kv_at _ _ _ _ _).symm)
  exact point m c t r _ ⟨1024 + l.val, by omega⟩ fun k => read3 m c t ⟨l.val, by omega⟩ k

/-- The window's key-value rows, channels first. -/
theorem final10 (c : Dev nD) : (dats m 0 c).arrAt 10 (cfgs 0).N = val_main_v32 (F := Ideal) (aX m c) (aG m c) (aW m c) := by
  refine (dats m 0 c).arrAt_eq_of_covers 10 _ (by decide +kernel) fun t _ y => ?_
  blk_simp
  rw [after0_10]; frame_out
  rw [pay11_eq]
  have h1 : (y 1).val < 256 := (y 1).isLt
  have hy : y = (ix3 0 (y 1) (y 2) : S1x256x128.Idx) := by blk_ext []
  have he : (((cfg0.win 10).blk t).view.emb y) = (ix3 0 (y 1) (y 2) : S1x256x128.Idx) := by blk_ext [idx t]
  refine (congrArg _ hy).trans (Eq.trans ?_ (congrArg _ he.symm))
  generalize (y 1 : Fin 256) = l at *
  generalize (y 2 : Fin 128) = r at *
  refine (pay5_at _ _ _ l r).trans (Eq.trans ?_ (win_at _ _ _ _ _).symm)
  exact point m c t r _ ⟨1536 + l.val, by omega⟩ fun k =>
    (read3 m c t ⟨512 + l.val, by omega⟩ k).trans (congrArg (fun j => aW m c (ix2 k j)) (Fin.ext (show 1024 + (512 + l.val) = 1536 + l.val by omega)))

end Cert.MixSampleIdeal.Result

end
-- ==== Proof.MixSampleClaims.lean ====
/- The claims on the token mixer's input projection for the sample's rows. -/
module

public import proofs.«01_k».proof.Defs
public import proofs.«01_k».proof.Proof.Gen.MixSample.Frame
public import proofs.«01_k».proof.Proof.MixSampleValue
public import Idealize.ShloMosaic.Adequacy
public import Idealize.ShloMosaic.Init

@[expose] public section

noncomputable section

namespace Cert.MixSampleClaims

open Idealize.ShloMosaic Idealize.SL.Sem
open Cert.MixSampleRefIdeal.Read

theorem frame : Cert.quiescent_MixSample := fun m g _ => Cert.MixSample.Gen.frame m g

theorem frame_ideal : Cert.quiescent_MixSampleIdeal := fun m g _ => Cert.MixSampleIdeal.Gen.frame m g

theorem frame_ref : Cert.quiescent_MixSampleRefIdeal := fun m g _ =>
  (θ_run Cert.MixSampleRefIdeal.defs _ _).mono (fun r h => ⟨fun c => (h c).2.2.2.2.2.2.2, sem_eq_zero_of_no_sems (by decide) r.2⟩) (Cert.MixSampleRefIdeal.Value.run (F := Ideal) m g)

set_option maxHeartbeats 2000000 in
theorem algebraic : Cert.algebraic_MixSampleIdeal_MixSampleRefIdeal := by
  pair_intro
  · run_from Cert.MixSampleIdeal.Gen.run_main m g
    · exact Cert.MixSampleIdeal.Gen.V_main_arg0 m c
    · exact Cert.MixSampleIdeal.Gen.V_main_arg1 m c
    · exact Cert.MixSampleIdeal.Gen.V_main_arg2 m c
  · refine (θ_run Cert.MixSampleRefIdeal.defs _ _).mono (fun r h c => ?_) (Cert.MixSampleRefIdeal.Value.run (F := Ideal) m' g')
    obtain ⟨e0, e1, e2, e3, e4, e5, e6, a0, a1, a2⟩ := h c
    obtain ⟨h0, h1, h2⟩ := hagree c
    rw [h0, h1, h2] at e0 e1 e2 e3 e4 e5 e6
    exact ⟨e0.trans ((val_main_v23_eq _ _ _).trans (Cert.MixSampleIdeal.Result.final4 m c).symm),
      e1.trans ((val_main_v24_eq _ _ _).trans (Cert.MixSampleIdeal.Result.final5 m c).symm),
      e2.trans ((val_main_v25_eq _ _ _).trans (Cert.MixSampleIdeal.Result.final6 m c).symm),
      e3.trans ((val_main_v26_eq _ _ _).trans (Cert.MixSampleIdeal.Result.final7 m c).symm),
      e4.trans ((val_main_v22_eq _ _ _).trans (Cert.MixSampleIdeal.Result.final8 m c).symm),
      e5.trans ((val_main_v29_eq _ _ _).trans (Cert.MixSampleIdeal.Result.final9 m c).symm),
      e6.trans ((val_main_v32_eq _ _ _).trans (Cert.MixSampleIdeal.Result.final10 m c).symm), a0, a1, a2⟩

end Cert.MixSampleClaims

end
-- ==== Proof.FfnEntry.lean ====
/- The scalar pieces of the FFN on the sample's rows: a normed entry, the gate's nonlinearity and the three taps. -/
module

public import Idealize.ShloMosaic.Lib.Pipeline.ValueKit
public import Idealize.ShloMosaic.Lib.Pointwise

@[expose] public section

noncomputable section

open Idealize.ShloMosaic Idealize.ShloMosaic.TcCoe Idealize.SL.Sem

namespace Cert.FfnEntry

/-- One entry of the row `x` normed by its root mean square, times the gains `g`. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- The gate's nonlinearity. -/
def silu (x : EReal) : EReal := Ideal.div x (1 + Ideal.exp (-x))

/-- The nonlinearity as a product with the logistic function. -/
theorem silu_eq (x : EReal) : silu x = x * Ideal.div 1 (1 + Ideal.exp (-x)) := by
  have hpos : (0 : EReal) < 1 + Ideal.exp (-x) := by
    have hn : (0 : EReal) ≤ Ideal.exp (-x) := by
      induction -x using EReal.rec with
      | bot => exact le_refl _
      | top => exact le_top
      | coe r => exact EReal.coe_nonneg.2 (Real.exp_nonneg r)
    exact lt_of_lt_of_le zero_lt_one (le_add_of_nonneg_right hn)
  show Ideal.div x _ = _
  unfold Ideal.div
  rw [if_neg hpos.ne', if_neg hpos.ne', one_mul]

/-- Three taps over an entry and the two before it, added to the bias in the order of the taps. -/
def taps (c w0 w1 w2 u0 u1 u2 : EReal) : EReal := c + w0 * u0 + w1 * u1 + w2 * u2

end Cert.FfnEntry

end
-- ==== Proof.FfnSampleTerm.lean ====
/- The FFN of the sample's 128 rows in plain mathematics, and the reference program's own stages read as it. -/
module

public import proofs.«01_k».proof.Proof.FfnEntry
public import proofs.«01_k».proof.Proof.Gen.FfnSampleRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnSampleRefIdeal.Term

open Cert.FfnSampleRefIdeal Cert.FfnSampleRefIdeal.Gen Cert.FfnSampleRefIdeal.Read Cert.FfnEntry

variable (h : FVec Ideal S128x1x1024 .f32) (s : FVec Ideal S128x2x5632 .f32) (g : FVec Ideal S1024 .f32) (W : FVec Ideal S1024x5632 .f32)
  (cw : FVec Ideal S3x5632 .f32) (cb : FVec Ideal S5632 .f32) (wd : FVec Ideal S2816x1024 .f32) (gf : FVec Ideal S1024 .f32)

/-- The up-projection of row `r`. -/
def up (r : Fin 128) (n : Fin 5632) : EReal := ∑ k, normed (fun l => h (ix3 r 0 l)) (fun l => g (ix1 l)) k * W (ix2 k n)

/-- The convolution at row `r`: the two rows of its state, then its own. -/
def conv (r : Fin 128) (n : Fin 5632) : EReal :=
  taps (cb (ix1 n)) (cw (ix2 0 n)) (cw (ix2 1 n)) (cw (ix2 2 n)) (s (ix3 r 0 n)) (s (ix3 r 1 n)) (up h g W r n)

/-- The gated product at channel `f`. -/
def act (r : Fin 128) (f : Fin 2816) : EReal :=
  silu (conv h s g W cw cb r ⟨f.val, by omega⟩) * conv h s g W cw cb r ⟨2816 + f.val, by omega⟩

/-- One entry of the gated product with the down-projection. -/
def down (r : Fin 128) (k : Fin 1024) : EReal := ∑ f : Fin 2816, act h s g W cw cb r f * wd (ix2 f k)

/-- One entry of the result. -/
def out (r : Fin 128) (k : Fin 1024) : EReal :=
  normed (fun l => h (ix3 r 0 l) + down h s g W cw cb wd r l) (fun l => gf (ix1 l)) k

theorem v13_at (r : Fin 128) (n : Fin 5632) : val_main_v13 (F := Ideal) h g W (ix3 r 0 n) = up h g W r n := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, up, normed]

theorem v37_at (r : Fin 128) (n : Fin 5632) : val_main_v37 (F := Ideal) h s g W cw cb (ix3 r 0 n) = conv h s g W cw cb r n := by
  unfold conv
  simp only [← v13_at]
  unfold val_main_v37 val_main_v36 val_main_v33 val_main_v30 val_main_v29 val_main_v26 val_main_v23 val_main_v20 val_main_v17 val_main_v14
  generalize val_main_v13 (F := Ideal) h g W = u
  pointwise [val_main_v35, val_main_v34, val_main_v32, val_main_v31, val_main_v28, val_main_v27, val_main_v25, val_main_v24, val_main_v22, val_main_v21,
    val_main_v19, val_main_v18, val_main_v16, val_main_v15, taps]

theorem v41_at (r : Fin 128) (f : Fin 2816) : val_main_v41 (F := Ideal) h s g W cw cb (ix3 r 0 f) = act h s g W cw cb r f := by
  unfold act
  simp only [← v37_at]
  unfold val_main_v41 val_main_v40 val_main_call0_v5 val_main_call0_v3 val_main_call0_v1 val_main_call0_v0 val_main_v39 val_main_v38
  generalize val_main_v37 (F := Ideal) h s g W cw cb = u
  rw [silu_eq]
  pointwise [val_main_call0_v4, val_main_call0_v2, val_main_call0_cst, val_main_call0_cst_0]

theorem v43_at (r : Fin 128) (k : Fin 1024) : val_main_v43 (F := Ideal) h s g W cw cb wd (ix3 r 0 k)
    = h (ix3 r 0 k) + down h s g W cw cb wd r k := by
  unfold down
  simp only [← v41_at]
  unfold val_main_v43 val_main_v42
  generalize val_main_v41 (F := Ideal) h s g W cw cb = u
  pointwise

theorem v56_at (r : Fin 128) (k : Fin 1024) : val_main_v56 (F := Ideal) h s g W cw cb wd gf (ix3 r 0 k)
    = out h s g W cw cb wd gf r k := by
  unfold out
  simp only [← v43_at]
  unfold val_main_v56 val_main_v53 val_main_v52 val_main_v51 val_main_v50 val_main_v48 val_main_v46 val_main_v45 val_main_v44
  generalize val_main_v43 (F := Ideal) h s g W cw cb wd = u
  pointwise [val_main_v55, val_main_v54, val_main_v49, val_main_v47, val_main_cst_2, val_main_cst_3, val_main_cst_4, normed]

/-- The first result. -/
theorem v57_at (r : Fin 128) (k : Fin 1024) : val_main_v57 (F := Ideal) h s g W cw cb wd gf (ix2 r k)
    = out h s g W cw cb wd gf r k := by
  rw [← v56_at]
  unfold val_main_v57
  generalize val_main_v56 (F := Ideal) h s g W cw cb wd gf = u
  pointwise

/-- The second result: the up-projection, one half of the channels after the other. -/
theorem v61_at (e : Fin 2) (r : Fin 128) (f : Fin 2816) : val_main_v61 (F := Ideal) h s g W (ix3 e r f)
    = up h g W r ⟨e.val * 2816 + f.val, by omega⟩ := by
  rw [← v13_at]
  unfold val_main_v61 val_main_v60 val_main_v59 val_main_v58 val_main_v14
  generalize val_main_v13 (F := Ideal) h g W = u
  pointwise

end Cert.FfnSampleRefIdeal.Term

end
-- ==== Proof.FfnSampleRows.lean ====
/- The sample's FFN: what a grid point stores, at an index, over the blocks that it reads, in the plain terms of the reference. -/
module

public import proofs.«01_k».proof.Proof.FfnEntry
public import proofs.«01_k».proof.Proof.Gen.FfnSampleIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnSampleIdeal.Result

open Cert.FfnSampleIdeal Cert.FfnSampleIdeal.Gen Cert.FfnEntry

/-- Row `e` of a block with two rows for every sample. -/
abbrev rowR (e : ℕ) (inb : ∀ a, (![e, 0, 0] : Fin 3 → ℕ) a + (![1, 128, 1408] : Fin 3 → ℕ) a ≤ S2x128x1408.size a) : Rect S2x128x1408 := Rect.unit ![e, 0, 0] ![1, 128, 1408] inb
/-- Tap `k` of half `e` of the channels. -/
abbrev tapR (k e : ℕ) (inb : ∀ a, (![k, e, 0] : Fin 3 → ℕ) a + (![1, 1, 1408] : Fin 3 → ℕ) a ≤ S3x2x1408.size a) : Rect S3x2x1408 := Rect.unit ![k, e, 0] ![1, 1, 1408] inb
/-- The bias of half `e` of the channels. -/
abbrev biasR (e : ℕ) (inb : ∀ a, (![e, 0] : Fin 2 → ℕ) a + (![1, 1408] : Fin 2 → ℕ) a ≤ S2x1408.size a) : Rect S2x1408 := Rect.unit ![e, 0] ![1, 1408] inb

/-- The gated product of a block of channels with the block of the down-projection: what a point adds to the sum. -/
def part (xn : FVec Ideal S128x1024 .bf16) (x2 x3 : FVec Ideal S1024x1408 .bf16) (x4 : FVec Ideal S3x2x1408 .f32) (x5 : FVec Ideal S2x1408 .f32)
    (x6 : FVec Ideal S1408x1024 .bf16) (x8 x9 : FVec Ideal S2x128x1408 .f32) : FVec Ideal S128x1024 .f32 :=
  k0_pay13 (k0_pay7 xn x2) (k0_pay8 xn x3)
    (k0_pay9 (View.ld (Val := Elt Ideal) (e' := .f32) x8 (rowR 1 inb_S2x128x1408_S1x128x1408_1_0_0)))
    (k0_pay10 (View.ld (Val := Elt Ideal) (e' := .f32) x9 (rowR 1 inb_S2x128x1408_S1x128x1408_1_0_0)))
    (k0_pay11 (View.ld (Val := Elt Ideal) (e' := .f32) x9 (rowR 0 inb_S2x128x1408_S1x128x1408_0_0_0)))
    (k0_pay12 (View.ld (Val := Elt Ideal) (e' := .f32) x8 (rowR 0 inb_S2x128x1408_S1x128x1408_0_0_0))
      (View.ld (Val := Elt Ideal) (e' := .f32) x5 (biasR 0 inb_S2x1408_S1x1408_0_0))
      (View.ld (Val := Elt Ideal) (e' := .f32) x4 (tapR 0 0 inb_S3x2x1408_S1x1x1408_0_0_0)))
    (View.ld (Val := Elt Ideal) (e' := .f32) x4 (tapR 1 0 inb_S3x2x1408_S1x1x1408_1_0_0))
    (View.ld (Val := Elt Ideal) (e' := .f32) x4 (tapR 2 0 inb_S3x2x1408_S1x1x1408_2_0_0))
    (View.ld (Val := Elt Ideal) (e' := .f32) x5 (biasR 1 inb_S2x1408_S1x1408_1_0))
    (View.ld (Val := Elt Ideal) (e' := .f32) x4 (tapR 0 1 inb_S3x2x1408_S1x1x1408_0_1_0))
    (View.ld (Val := Elt Ideal) (e' := .f32) x4 (tapR 1 1 inb_S3x2x1408_S1x1x1408_1_1_0))
    (View.ld (Val := Elt Ideal) (e' := .f32) x4 (tapR 2 1 inb_S3x2x1408_S1x1x1408_2_1_0)) x6

/-- The two halves of a block of the up-projection, stored one after the other. -/
def halves (xn : FVec Ideal S128x1024 .bf16) (x2 x3 : FVec Ideal S1024x1408 .bf16) : FVec Ideal S2x128x1408 .f32 :=
  View.canon (Val := Elt Ideal) (e := .f32) [⟨rowR 1 inb_S2x128x1408_S1x128x1408_1_0_0, k0_pay4 (F := Ideal) (k0_pay8 xn x3)⟩,
    ⟨rowR 0 inb_S2x128x1408_S1x128x1408_0_0_0, k0_pay3 (F := Ideal) (k0_pay7 xn x2)⟩]

/-! ## The terms at an index -/

section
variable (x0 : FVec Ideal S128x1024 .f32) (x1 : FVec Ideal S1x1024 .f32) (xn : FVec Ideal S128x1024 .bf16) (x2 x3 : FVec Ideal S1024x1408 .bf16)
  (x4 : FVec Ideal S3x2x1408 .f32) (x5 : FVec Ideal S2x1408 .f32) (x6 : FVec Ideal S1408x1024 .bf16) (x7 : FVec Ideal S1x1024 .f32)
  (x8 x9 : FVec Ideal S2x128x1408 .f32)

theorem pay5_at (r : Fin 128) (k : Fin 1024) :
    k0_pay5 (F := Ideal) x0 x1 (ix2 r k) = normed (fun l => x0 (ix2 r l)) (fun l => x1 (ix2 0 l)) k := by
  pointwise [k0_pay5, normed]

theorem pay7_at (r : Fin 128) (f : Fin 1408) : k0_pay7 (F := Ideal) xn x2 (ix2 r f) = ∑ k, xn (ix2 r k) * x2 (ix2 k f) := by
  pointwise [k0_pay7]

theorem pay8_at (r : Fin 128) (f : Fin 1408) : k0_pay8 (F := Ideal) xn x3 (ix2 r f) = ∑ k, xn (ix2 r k) * x3 (ix2 k f) := by
  pointwise [k0_pay8]

theorem row_at (e : Fin 2) (inb) (r : Fin 128) (f : Fin 1408) :
    View.ld (Val := Elt Ideal) (e' := .f32) x8 (rowR e.val inb) (ix3 0 r f) = x8 (ix3 e r f) := by
  pointwise [rowR]
theorem tap_at (k : Fin 3) (e : Fin 2) (inb) (f : Fin 1408) :
    View.ld (Val := Elt Ideal) (e' := .f32) x4 (tapR k.val e.val inb) (ix3 0 0 f) = x4 (ix3 k e f) := by
  pointwise [tapR]
theorem bias_at (e : Fin 2) (inb) (f : Fin 1408) : View.ld (Val := Elt Ideal) (e' := .f32) x5 (biasR e.val inb) (ix2 0 f) = x5 (ix2 e f) := by
  pointwise [biasR]

theorem pay9_at (v : FVec Ideal S1x128x1408 .f32) (r : Fin 128) (f : Fin 1408) : k0_pay9 (F := Ideal) v (ix2 r f) = v (ix3 0 r f) := by
  pointwise [k0_pay9]
theorem pay10_at (v : FVec Ideal S1x128x1408 .f32) (r : Fin 128) (f : Fin 1408) : k0_pay10 (F := Ideal) v (ix2 r f) = v (ix3 0 r f) := by
  pointwise [k0_pay10]
theorem pay11_at (v : FVec Ideal S1x128x1408 .f32) (r : Fin 128) (f : Fin 1408) : k0_pay11 (F := Ideal) v (ix2 r f) = v (ix3 0 r f) := by
  pointwise [k0_pay11]
theorem pay12_at (v : FVec Ideal S1x128x1408 .f32) (b : FVec Ideal S1x1408 .f32) (w : FVec Ideal S1x1x1408 .f32) (r : Fin 128) (f : Fin 1408) :
    k0_pay12 (F := Ideal) v b w (ix2 r f) = b (ix2 0 f) + w (ix3 0 0 f) * v (ix3 0 r f) := by
  pointwise [k0_pay12]

theorem pay13_at (u v a b d e : FVec Ideal S128x1408 .f32) (w1 w2 : FVec Ideal S1x1x1408 .f32) (q : FVec Ideal S1x1408 .f32)
    (q0 q1 q2 : FVec Ideal S1x1x1408 .f32) (r : Fin 128) (k : Fin 1024) :
    k0_pay13 (F := Ideal) u v a b d e w1 w2 q q0 q1 q2 x6 (ix2 r k)
      = ∑ f, silu (e (ix2 r f) + w1 (ix3 0 0 f) * a (ix2 r f) + w2 (ix3 0 0 f) * u (ix2 r f))
          * (q (ix2 0 f) + q0 (ix3 0 0 f) * d (ix2 r f) + q1 (ix3 0 0 f) * b (ix2 r f) + q2 (ix3 0 0 f) * v (ix2 r f)) * x6 (ix2 f k) := by
  pointwise [k0_pay13, silu]
  simp only [zero_sub]

theorem part_at (r : Fin 128) (k : Fin 1024) : part xn x2 x3 x4 x5 x6 x8 x9 (ix2 r k)
    = ∑ f, silu (taps (x5 (ix2 0 f)) (x4 (ix3 0 0 f)) (x4 (ix3 1 0 f)) (x4 (ix3 2 0 f)) (x8 (ix3 0 r f)) (x8 (ix3 1 r f))
          (∑ k, xn (ix2 r k) * x2 (ix2 k f)))
        * taps (x5 (ix2 1 f)) (x4 (ix3 0 1 f)) (x4 (ix3 1 1 f)) (x4 (ix3 2 1 f)) (x9 (ix3 0 r f)) (x9 (ix3 1 r f))
          (∑ k, xn (ix2 r k) * x3 (ix2 k f)) * x6 (ix2 f k) := by
  unfold part taps
  refine (pay13_at x6 _ _ _ _ _ _ _ _ _ _ _ _ r k).trans (Finset.sum_congr rfl fun f _ => ?_)
  rw [pay12_at, pay9_at, pay10_at, pay11_at, pay7_at, pay8_at]
  refine congrArg (· * _) (congr (congrArg _ (congrArg silu ?_)) ?_)
  · exact congr (congrArg _ (congr (congrArg _ (congr (congrArg _ (bias_at x5 0 _ f)) (congr (congrArg _ (tap_at x4 0 0 _ f)) (row_at x8 0 _ r f))))
      (congr (congrArg _ (tap_at x4 1 0 _ f)) (row_at x8 1 _ r f)))) (congr (congrArg _ (tap_at x4 2 0 _ f)) rfl)
  · exact congr (congrArg _ (congr (congrArg _ (congr (congrArg _ (bias_at x5 1 _ f)) (congr (congrArg _ (tap_at x4 0 1 _ f)) (row_at x9 0 _ r f))))
      (congr (congrArg _ (tap_at x4 1 1 _ f)) (row_at x9 1 _ r f)))) (congr (congrArg _ (tap_at x4 2 1 _ f)) rfl)

theorem pay1_at (a b : FVec Ideal S128x1024 .f32) (r : Fin 128) (k : Fin 1024) :
    k0_pay1 (F := Ideal) a b (ix2 r k) = a (ix2 r k) + b (ix2 r k) := by
  pointwise [k0_pay1]
theorem pay6_at (r : Fin 128) (k : Fin 1024) : k0_pay6 (F := Ideal) (ix2 r k) = 0 := by
  pointwise [k0_pay6]
theorem pay2_at (y : FVec Ideal S128x1024 .f32) (r : Fin 128) (k : Fin 1024) :
    k0_pay2 (F := Ideal) x0 y x7 (ix2 r k) = normed (fun l => x0 (ix2 r l) + y (ix2 r l)) (fun l => x7 (ix2 0 l)) k := by
  pointwise [k0_pay2, normed]
theorem pay3_at (u : FVec Ideal S128x1408 .f32) (r : Fin 128) (f : Fin 1408) : k0_pay3 (F := Ideal) u (ix3 0 r f) = u (ix2 r f) := by
  pointwise [k0_pay3]
theorem pay4_at (u : FVec Ideal S128x1408 .f32) (r : Fin 128) (f : Fin 1408) : k0_pay4 (F := Ideal) u (ix3 0 r f) = u (ix2 r f) := by
  pointwise [k0_pay4]

theorem halves_val (r : Fin 128) (f : Fin 1408) : halves xn x2 x3 (ix3 1 r f) = ∑ k, xn (ix2 r k) * x3 (ix2 k f) := by
  have e : (rowR 1 inb_S2x128x1408_S1x128x1408_1_0_0).emb (ix3 0 r f) = (ix3 1 r f : S2x128x1408.Idx) := by
    blk_ext [rowR]
  rw [← e]
  exact (View.canon_cons_emb (rowR 1 _) _ _ _).trans ((pay4_at _ r f).trans (pay8_at xn x3 r f))

theorem halves_gate (r : Fin 128) (f : Fin 1408) : halves xn x2 x3 (ix3 0 r f) = ∑ k, xn (ix2 r k) * x2 (ix2 k f) := by
  have e : (rowR 0 inb_S2x128x1408_S1x128x1408_0_0_0).emb (ix3 0 r f) = (ix3 0 r f : S2x128x1408.Idx) := by
    blk_ext [rowR]
  have n : (ix3 0 r f : S2x128x1408.Idx) ∉ (rowR 1 inb_S2x128x1408_S1x128x1408_1_0_0).set := by
    intro hm
    obtain ⟨x, hx⟩ := (rowR 1 inb_S2x128x1408_S1x128x1408_1_0_0).exists_idx_of_mem hm
    have h1 := congrArg (fun i => (i 0).val) hx
    have h2 : ((rowR 1 inb_S2x128x1408_S1x128x1408_1_0_0).idx x 0).val = 1 + 1 * (x 0).val := rfl
    have h3 : ((rowR 1 inb_S2x128x1408_S1x128x1408_1_0_0).idx x 0).val = 0 := h1
    omega
  refine (View.canon_cons_of_not_mem ⟨rowR 1 _, _⟩ _ n).trans ?_
  rw [← e]
  exact (View.canon_cons_emb (rowR 0 _) _ _ _).trans ((pay3_at _ r f).trans (pay7_at xn x2 r f))

end

end Cert.FfnSampleIdeal.Result

end
-- ==== Proof.FfnSampleValue.lean ====
/- The sample's FFN: the arrays that the region finds, the blocks that a grid point reads of them, and the two result arrays after the run. The
   sum over the channels is split between the two points of the grid, which share the normed rows and the sum so far. -/
module

public import proofs.«01_k».proof.Proof.FfnSampleTerm
public import proofs.«01_k».proof.Proof.FfnSampleRows
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnSampleIdeal.Result

open Cert.FfnSampleIdeal Cert.FfnSampleIdeal.Gen Cert.FfnEntry
open Cert.FfnSampleRefIdeal.Term
open Cert.FfnSampleRefIdeal.Read (val_main_v57 val_main_v61)

variable (m : (ℓ : Loc nD τ sig) → Buf (Elt Ideal) ℓ) (c : Dev nD)

/-- Where each window's block lies at a grid point. -/
theorem idx : ∀ t : Fin cfg0.N, win0_0.index t = ![0, 0] ∧ win0_1.index t = ![0, 0] ∧ win0_2.index t = ![0, t.val] ∧ win0_3.index t = ![0, t.val + 2]
    ∧ win0_4.index t = ![0, 0, t.val] ∧ win0_5.index t = ![0, t.val] ∧ win0_6.index t = ![t.val, 0] ∧ win0_7.index t = ![0, 0]
    ∧ win0_8.index t = ![0, 0, t.val] ∧ win0_9.index t = ![0, 0, t.val + 2] ∧ win0_10.index t = ![0, 0] ∧ win0_11.index t = ![0, 0, t.val] :=
  (by decide +kernel : ∀ t : Fin grid0.N, _)

/-- The argument arrays, at their own shapes. -/
abbrev aH : FVec Ideal S128x1x1024 .f32 := m ((c : Thread nD τ).loc main_arg0)
abbrev aS : FVec Ideal S128x2x5632 .f32 := m ((c : Thread nD τ).loc main_arg1)
abbrev aG : FVec Ideal S1024 .f32 := m ((c : Thread nD τ).loc main_arg2)
abbrev aW : FVec Ideal S1024x5632 .f32 := m ((c : Thread nD τ).loc main_arg3)
abbrev aCw : FVec Ideal S3x5632 .f32 := m ((c : Thread nD τ).loc main_arg4)
abbrev aCb : FVec Ideal S5632 .f32 := m ((c : Thread nD τ).loc main_arg5)
abbrev aWd : FVec Ideal S2816x1024 .f32 := m ((c : Thread nD τ).loc main_arg6)
abbrev aGf : FVec Ideal S1024 .f32 := m ((c : Thread nD τ).loc main_arg7)

/-- The blocks a grid point reads, at their own shapes. -/
abbrev b0 (t : Fin cfg0.N) : FVec Ideal S128x1024 .f32 := iblk m c 0 t
abbrev b1 (t : Fin cfg0.N) : FVec Ideal S1x1024 .f32 := iblk m c 1 t
abbrev b2 (t : Fin cfg0.N) : FVec Ideal S1024x1408 .bf16 := iblk m c 2 t
abbrev b3 (t : Fin cfg0.N) : FVec Ideal S1024x1408 .bf16 := iblk m c 3 t
abbrev b4 (t : Fin cfg0.N) : FVec Ideal S3x2x1408 .f32 := iblk m c 4 t
abbrev b5 (t : Fin cfg0.N) : FVec Ideal S2x1408 .f32 := iblk m c 5 t
abbrev b6 (t : Fin cfg0.N) : FVec Ideal S1408x1024 .bf16 := iblk m c 6 t
abbrev b7 (t : Fin cfg0.N) : FVec Ideal S1x1024 .f32 := iblk m c 7 t
abbrev b8 (t : Fin cfg0.N) : FVec Ideal S2x128x1408 .f32 := iblk m c 8 t
abbrev b9 (t : Fin cfg0.N) : FVec Ideal S2x128x1408 .f32 := iblk m c 9 t

/-! ## What the host operations before the region leave -/

theorem entry0_at (r : Fin 128) (k : Fin 1024) : (show FVec Ideal S128x1024 .f32 from V m c main_v0) (ix2 r k) = aH m c (ix3 r 0 k) := by
  have e : V m c main_v0 = shapeCast S128x1024 (aH m c) shapeCasts_S128x1x1024_S128x1024 := by
    unfold V
    simp only [hostOps0]
    after_results <;> rfl
  rw [e]
  pointwise

theorem entry1_at (k : Fin 1024) : (show FVec Ideal S1x1024 .f32 from V m c main_v1) (ix2 0 k) = aG m c (ix1 k) := by
  have e : V m c main_v1 = shapeCast S1x1024 (aG m c) shapeCasts_S1024_S1x1024 := by
    unfold V
    simp only [hostOps0]
    after_results <;> rfl
  rw [e]
  pointwise

theorem entry2_at (k : Fin 1024) (n : Fin 5632) : (show FVec Ideal S1024x5632 .bf16 from V m c main_v2) (ix2 k n) = aW m c (ix2 k n) := by
  have e : V m c main_v2 = truncf .bf16 (aW m c) bitsLt_bf16_f32 := by
    unfold V
    simp only [hostOps0]
    after_results <;> rfl
  rw [e]
  pointwise

theorem entry3_at (j : Fin 3) (e : Fin 2) (f : Fin 2816) :
    (show FVec Ideal S3x2x2816 .f32 from V m c main_v3) (ix3 j e f) = aCw m c (ix2 j ⟨e.val * 2816 + f.val, by omega⟩) := by
  have e : V m c main_v3 = shapeCast S3x2x2816 (aCw m c) shapeCasts_S3x5632_S3x2x2816 := by
    unfold V
    simp only [hostOps0]
    after_results <;> rfl
  rw [e]
  pointwise

theorem entry4_at (e : Fin 2) (f : Fin 2816) :
    (show FVec Ideal S2x2816 .f32 from V m c main_v4) (ix2 e f) = aCb m c (ix1 ⟨e.val * 2816 + f.val, by omega⟩) := by
  have e : V m c main_v4 = shapeCast S2x2816 (aCb m c) shapeCasts_S5632_S2x2816 := by
    unfold V
    simp only [hostOps0]
    after_results <;> rfl
  rw [e]
  pointwise

theorem entry5_at (f : Fin 2816) (k : Fin 1024) : (show FVec Ideal S2816x1024 .bf16 from V m c main_v5) (ix2 f k) = aWd m c (ix2 f k) := by
  have e : V m c main_v5 = truncf .bf16 (aWd m c) bitsLt_bf16_f32 := by
    unfold V
    simp only [hostOps0]
    after_results <;> rfl
  rw [e]
  pointwise

theorem entry6_at (k : Fin 1024) : (show FVec Ideal S1x1024 .f32 from V m c main_v6) (ix2 0 k) = aGf m c (ix1 k) := by
  have e : V m c main_v6 = shapeCast S1x1024 (aGf m c) shapeCasts_S1024_S1x1024 := by
    unfold V
    simp only [hostOps0]
    after_results <;> rfl
  rw [e]
  pointwise

theorem entry7_at (j : Fin 2) (r : Fin 128) (n : Fin 5632) :
    (show FVec Ideal S2x128x5632 .f32 from V m c main_v7) (ix3 j r n) = aS m c (ix3 r j n) := by
  have e : V m c main_v7 = transpose S2x128x5632 [1, 0, 2] (aS m c) transposes_S128x2x5632_S2x128x5632_1_0_2 := by
    unfold V
    simp only [hostOps0]
    after_results <;> rfl
  rw [e]
  pointwise

/-! ## The blocks at an index -/

section
variable (t : Fin cfg0.N) (ht : t.val < 2)

theorem read0 (r : Fin 128) (k : Fin 1024) : b0 m c t (ix2 r k) = aH m c (ix3 r 0 k) := by
  rw [← entry0_at]
  blk_ext [iblk, idx t]

theorem read1 (k : Fin 1024) : b1 m c t (ix2 0 k) = aG m c (ix1 k) := by
  rw [← entry1_at]
  blk_ext [iblk, idx t]

theorem read2 (k : Fin 1024) (f : Fin 1408) : b2 m c t (ix2 k f) = aW m c (ix2 k ⟨t.val * 1408 + f.val, by omega⟩) := by
  rw [← entry2_at]
  blk_ext [iblk, idx t]

theorem read3 (k : Fin 1024) (f : Fin 1408) : b3 m c t (ix2 k f) = aW m c (ix2 k ⟨2816 + (t.val * 1408 + f.val), by omega⟩) := by
  rw [← entry2_at]
  blk_ext [iblk, idx t]

theorem read4 (j : Fin 3) (e : Fin 2) (f : Fin 1408) :
    b4 m c t (ix3 j e f) = aCw m c (ix2 j ⟨e.val * 2816 + (t.val * 1408 + f.val), by omega⟩) := by
  rw [← entry3_at m c j e ⟨t.val * 1408 + f.val, by omega⟩]
  blk_ext [iblk, idx t]

theorem read5 (e : Fin 2) (f : Fin 1408) : b5 m c t (ix2 e f) = aCb m c (ix1 ⟨e.val * 2816 + (t.val * 1408 + f.val), by omega⟩) := by
  rw [← entry4_at m c e ⟨t.val * 1408 + f.val, by omega⟩]
  blk_ext [iblk, idx t]

theorem read6 (f : Fin 1408) (k : Fin 1024) : b6 m c t (ix2 f k) = aWd m c (ix2 ⟨t.val * 1408 + f.val, by omega⟩ k) := by
  rw [← entry5_at]
  blk_ext [iblk, idx t]

theorem read7 (k : Fin 1024) : b7 m c t (ix2 0 k) = aGf m c (ix1 k) := by
  rw [← entry6_at]
  blk_ext [iblk, idx t]

theorem read8 (j : Fin 2) (r : Fin 128) (f : Fin 1408) : b8 m c t (ix3 j r f) = aS m c (ix3 r j ⟨t.val * 1408 + f.val, by omega⟩) := by
  rw [← entry7_at]
  blk_ext [iblk, idx t]

theorem read9 (j : Fin 2) (r : Fin 128) (f : Fin 1408) : b9 m c t (ix3 j r f) = aS m c (ix3 r j ⟨2816 + (t.val * 1408 + f.val), by omega⟩) := by
  rw [← entry7_at]
  blk_ext [iblk, idx t]

/-! ## A point's terms, over the normed rows -/

/-- The normed rows, as the first point leaves them for both. -/
abbrev rows : FVec Ideal S128x1024 .bf16 := k0_pay5 (b0 m c t) (b1 m c t)

theorem rows_at (r : Fin 128) (k : Fin 1024) :
    rows m c t (ix2 r k) = normed (fun l => aH m c (ix3 r 0 l)) (fun l => aG m c (ix1 l)) k := by
  refine (pay5_at _ _ r k).trans ?_
  rw [funext fun l => read0 m c t r l, funext fun l => read1 m c t l]

/-- What point `t` adds to the sum, the normed rows being those of point `s`. -/
abbrev added (s : Fin cfg0.N) : FVec Ideal S128x1024 .f32 :=
  part (rows m c s) (b2 m c t) (b3 m c t) (b4 m c t) (b5 m c t) (b6 m c t) (b8 m c t) (b9 m c t)

theorem gate_row (s : Fin cfg0.N) (r : Fin 128) (f : Fin 1408) : (∑ k, rows m c s (ix2 r k) * b2 m c t (ix2 k f))
    = up (aH m c) (aG m c) (aW m c) r ⟨t.val * 1408 + f.val, by omega⟩ := by
  unfold up
  exact Finset.sum_congr rfl fun k _ => by rw [rows_at, read2 m c t ht]

theorem value_row (s : Fin cfg0.N) (r : Fin 128) (f : Fin 1408) : (∑ k, rows m c s (ix2 r k) * b3 m c t (ix2 k f))
    = up (aH m c) (aG m c) (aW m c) r ⟨2816 + (t.val * 1408 + f.val), by omega⟩ := by
  unfold up
  exact Finset.sum_congr rfl fun k _ => by rw [rows_at, read3 m c t ht]

theorem added_at (s : Fin cfg0.N) (r : Fin 128) (k : Fin 1024) : added m c t s (ix2 r k)
    = ∑ f : Fin 1408, act (aH m c) (aS m c) (aG m c) (aW m c) (aCw m c) (aCb m c) r ⟨t.val * 1408 + f.val, by omega⟩
        * aWd m c (ix2 ⟨t.val * 1408 + f.val, by omega⟩ k) := by
  refine (part_at _ _ _ _ _ _ _ _ r k).trans (Finset.sum_congr rfl fun f _ => ?_)
  rw [gate_row m c t ht, value_row m c t ht]
  simp only [read4 m c t ht, read5 m c t ht, read6 m c t ht, read8 m c t ht, read9 m c t ht]
  unfold act conv
  simp only [Fin.val_zero, Fin.val_one, zero_mul, zero_add, one_mul]

end

/-! ## What the points leave -/

theorem first_rows (t : Fin cfg0.N) (h0 : t.val % 2 = 0) : (outsAt0 m c t.val t.isLt).2.2.1 = rows m c t := by
  rw [outsAt0_A m c t h0 (by omega)]
  frame_out

theorem first_sum (t : Fin cfg0.N) (h0 : t.val % 2 = 0) : (outsAt0 m c t.val t.isLt).2.2.2 = k0_pay1 k0_pay6 (added m c t t) := by
  rw [outsAt0_A m c t h0 (by omega)]
  frame_out
  rfl

theorem first_state (t : Fin cfg0.N) (h0 : t.val % 2 = 0) : (outsAt0 m c t.val t.isLt).2.1 = halves (rows m c t) (b2 m c t) (b3 m c t) := by
  rw [outsAt0_A m c t h0 (by omega)]
  frame_out

/-- The point before. -/
abbrev before (t : Fin cfg0.N) : Fin cfg0.N := ⟨t.val - 1, lt_of_le_of_lt (Nat.sub_le _ _) t.isLt⟩

theorem second_out (t : Fin cfg0.N) (h1 : t.val % 2 = 1) : (outsAt0 m c t.val t.isLt).1
    = k0_pay2 (b0 m c t) (k0_pay1 (k0_pay1 k0_pay6 (added m c (before t) (before t))) (added m c t (before t))) (b7 m c t) := by
  have hr := first_rows m c (before t) (by show (t.val - 1) % 2 = 0; omega)
  have hs := first_sum m c (before t) (by show (t.val - 1) % 2 = 0; omega)
  rw [outsAt0_B m c t (by omega) h1]
  frame_out
  simp only [read_unread_whole]
  rw [← hs]
  unfold added
  rw [← hr]
  rfl

theorem second_state (t : Fin cfg0.N) (h1 : t.val % 2 = 1) : (outsAt0 m c t.val t.isLt).2.1
    = halves (rows m c (before t)) (b2 m c t) (b3 m c t) := by
  have hr := first_rows m c (before t) (by show (t.val - 1) % 2 = 0; omega)
  rw [outsAt0_B m c t (by omega) h1]
  frame_out
  simp only [read_unread_whole]
  rw [← hr]

/-! ## The result arrays after the run -/

/-- The sum over the channels is the two points' sums. -/
theorem split (g : Fin 2816 → EReal) :
    (∑ f, g f) = (∑ f : Fin 1408, g ⟨0 * 1408 + f.val, by omega⟩) + ∑ f : Fin 1408, g ⟨1 * 1408 + f.val, by omega⟩ := by
  refine (Fin.sum_univ_add (a := 1408) (b := 1408) g).trans (congr (congrArg _ ?_) ?_)
  · exact Finset.sum_congr rfl fun f _ => congrArg g (Fin.ext (by show f.val = 0 * 1408 + f.val; omega))
  · exact Finset.sum_congr rfl fun f _ => congrArg g (Fin.ext (by show 1408 + f.val = 1 * 1408 + f.val; omega))

theorem out_row (t : Fin cfg0.N) (h1 : t.val = 1) (r : Fin 128) (k : Fin 1024) : (outsAt0 m c t.val t.isLt).1 (ix2 r k)
    = out (aH m c) (aS m c) (aG m c) (aW m c) (aCw m c) (aCb m c) (aWd m c) (aGf m c) r k := by
  have e0 : (before t).val = 0 := by show t.val - 1 = 0; omega
  rw [second_out m c t (by omega)]
  refine (pay2_at _ _ _ r k).trans ?_
  unfold out
  rw [funext fun l => read7 m c t l]
  refine congrArg (fun q => normed q _ k) (funext fun l => ?_)
  rw [read0]
  refine congrArg (aH m c (ix3 r 0 l) + ·) ?_
  rw [pay1_at, pay1_at, pay6_at, zero_add, added_at m c (before t) (by omega), added_at m c t (by omega)]
  unfold down
  rw [split]
  simp only [e0, h1]

theorem state_row (t : Fin cfg0.N) (ht : t.val < 2) (e : Fin 2) (r : Fin 128) (f : Fin 1408) : (outsAt0 m c t.val t.isLt).2.1 (ix3 e r f)
    = up (aH m c) (aG m c) (aW m c) r ⟨e.val * 2816 + (t.val * 1408 + f.val), by omega⟩ := by
  have h : ∃ s, (outsAt0 m c t.val t.isLt).2.1 = halves (rows m c s) (b2 m c t) (b3 m c t) := by
    rcases Nat.mod_two_eq_zero_or_one t.val with h | h
    · exact ⟨t, first_state m c t h⟩
    · exact ⟨before t, second_state m c t h⟩
  obtain ⟨s, h⟩ := h
  rw [h]
  match e with
  | ⟨0, _⟩ =>
    refine (halves_gate _ _ _ r f).trans ((gate_row m c t ht s r f).trans ?_)
    exact congrArg (fun n => up (aH m c) (aG m c) (aW m c) r n) (Fin.ext (by show t.val * 1408 + f.val = 0 * 2816 + (t.val * 1408 + f.val); omega))
  | ⟨1, _⟩ =>
    refine (halves_val _ _ _ r f).trans ((value_row m c t ht s r f).trans ?_)
    exact congrArg (fun n => up (aH m c) (aG m c) (aW m c) r n) (Fin.ext (by show 2816 + (t.val * 1408 + f.val) = 1 * 2816 + (t.val * 1408 + f.val); omega))

theorem out_result (t : Fin cfg0.N) (h1 : t.val = 1) (r : Fin 128) (k : Fin 1024) : (outsAt0 m c t.val t.isLt).1 (ix2 r k)
    = val_main_v57 (F := Ideal) (aH m c) (aS m c) (aG m c) (aW m c) (aCw m c) (aCb m c) (aWd m c) (aGf m c) (ix2 ⟨r.val, r.isLt⟩ ⟨k.val, k.isLt⟩) :=
  (out_row m c t h1 r k).trans (v57_at _ _ _ _ _ _ _ _ r k).symm

theorem state_result (t : Fin cfg0.N) (ht : t.val < 2) (e : Fin 2) (r : Fin 128) (f : Fin 1408) : (outsAt0 m c t.val t.isLt).2.1 (ix3 e r f)
    = val_main_v61 (F := Ideal) (aH m c) (aS m c) (aG m c) (aW m c) (ix3 ⟨e.val, e.isLt⟩ ⟨r.val, r.isLt⟩ ⟨t.val * 1408 + f.val, by omega⟩) :=
  (state_row m c t ht e r f).trans (v61_at (aH m c) (aS m c) (aG m c) (aW m c) e r ⟨t.val * 1408 + f.val, by omega⟩).symm

theorem final10 : (dats m 0 c).arrAt 10 (cfgs 0).N
    = val_main_v57 (F := Ideal) (aH m c) (aS m c) (aG m c) (aW m c) (aCw m c) (aCb m c) (aWd m c) (aGf m c) := by
  refine (dats m 0 c).arrAt_eq_of_covers 10 _ (by decide +kernel) fun t hf y => ?_
  have ht : t.val < 2 := lt_of_lt_of_eq t.isLt N_0
  have h1 : t.val = 1 := by
    have h := (flush0_10 t).mp hf
    omega
  blk_simp
  rw [after0_10]
  have hy : y = ix2 (y 0) (y 1) := eq_ix2 y
  have he : (((cfg0.win 10).blk t).view.emb y) = ix2 ⟨(y 0).val, (y 0).isLt⟩ ⟨(y 1).val, (y 1).isLt⟩ := by
    blk_ext [idx t]
  refine (congrArg _ hy).trans (Eq.trans ?_ (congrArg _ he.symm))
  exact out_result m c t h1 (y 0) (y 1)

theorem final11 : (dats m 0 c).arrAt 11 (cfgs 0).N = val_main_v61 (F := Ideal) (aH m c) (aS m c) (aG m c) (aW m c) := by
  refine (dats m 0 c).arrAt_eq_of_covers 11 _ (by decide +kernel) fun t _ y => ?_
  have ht : t.val < 2 := lt_of_lt_of_eq t.isLt N_0
  blk_simp
  rw [after0_11]
  have h2 : (y 2).val < 1408 := (y 2).isLt
  have hy : y = ix3 (y 0) (y 1) (y 2) := eq_ix3 y
  have he : (((cfg0.win 11).blk t).view.emb y) = ix3 ⟨(y 0).val, (y 0).isLt⟩ ⟨(y 1).val, (y 1).isLt⟩ ⟨t.val * 1408 + (y 2).val, by omega⟩ := by
    blk_ext [idx t]
  refine (congrArg _ hy).trans (Eq.trans ?_ (congrArg _ he.symm))
  exact state_result m c t ht (y 0) (y 1) (y 2)

end Cert.FfnSampleIdeal.Result

end
-- ==== Proof.FfnSampleClaims.lean ====
/- The claims on the FFN of the sample's rows. -/
module

public import proofs.«01_k».proof.Defs
public import proofs.«01_k».proof.Proof.Gen.FfnSample.Frame
public import proofs.«01_k».proof.Proof.FfnSampleValue
public import proofs.«01_k».proof.Proof.Gen.FfnSampleRefIdeal.Run
public import Idealize.ShloMosaic.Adequacy
public import Idealize.ShloMosaic.Init

@[expose] public section

noncomputable section

namespace Cert.FfnSampleClaims

open Idealize.ShloMosaic Idealize.SL.Sem
open Cert.FfnSampleRefIdeal.Read

theorem frame : Cert.quiescent_FfnSample := fun m g _ => Cert.FfnSample.Gen.frame m g

theorem frame_ideal : Cert.quiescent_FfnSampleIdeal := fun m g _ => Cert.FfnSampleIdeal.Gen.frame m g

theorem frame_ref : Cert.quiescent_FfnSampleRefIdeal := fun m g _ =>
  (θ_run Cert.FfnSampleRefIdeal.defs _ _).mono (fun r h => ⟨fun c => (h c).2.2, sem_eq_zero_of_no_sems (by decide) r.2⟩)
    (Cert.FfnSampleRefIdeal.Value.run (F := Ideal) m g)

set_option maxHeartbeats 2000000 in
theorem algebraic : Cert.algebraic_FfnSampleIdeal_FfnSampleRefIdeal := by
  pair_intro
  · run_from Cert.FfnSampleIdeal.Gen.run_main m g
  · refine (θ_run Cert.FfnSampleRefIdeal.defs _ _).mono (fun r h c => ?_) (Cert.FfnSampleRefIdeal.Value.run (F := Ideal) m' g')
    obtain ⟨e0, e1, a⟩ := h c
    obtain ⟨h0, h1, h2, h3, h4, h5, h6, h7⟩ := hagree c
    refine ⟨e0.trans ((val_main_v57_eq m' c).trans (Eq.trans ?_ (Cert.FfnSampleIdeal.Result.final10 m c).symm)),
      e1.trans ((val_main_v61_eq _ _ _ _).trans (Eq.trans ?_ (Cert.FfnSampleIdeal.Result.final11 m c).symm)), a⟩
    · rw [h0, h1, h2, h3, h4, h5, h6, h7]
    · rw [h0, h1, h2, h3]

end Cert.FfnSampleClaims

end
-- ==== Proof.OutSampleValue.lean ====
/- The sample's output projection of the token mixers and its queries: the two arrays that the kernel leaves are the same composed
   terms as the plain reference's. -/
module

public import proofs.«01_k».proof.Proof.Gen.OutSampleIdeal.Frame
public import proofs.«01_k».proof.Proof.Gen.OutSampleRefIdeal.Run
public import proofs.«01_k».proof.Proof.Gen.OutSampleRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutSampleRefIdeal.Term

open Cert.OutSampleRefIdeal Cert.OutSampleRefIdeal.Gen

variable (X : FVec Ideal S128x1x1024 .f32) (YP YN : FVec Ideal S128x1x512 .f32) (W : FVec Ideal S1024x1024 .f32)
  (G : FVec Ideal S1024 .f32) (WQ : FVec Ideal S1024x1024 .f32)

/-- The residual stream after the token mixers. -/
def refH : FVec Ideal S128x1x1024 .f32 :=
  addf X (Host.dotGeneral (F := Ideal) dot_S128x1x1024_S1024x1024_S128x1x1024_2_0_01_1_n_n none (concatenate S128x1x1024 2 [⟨S128x1x512, YP⟩, ⟨S128x1x512, YN⟩] concatenates_S128x1x512_S128x1x512_S128x1x1024_d2) W)

/-- The queries of a residual stream. -/
def refQ (H : FVec Ideal S128x1x1024 .f32) : FVec Ideal S128x1x1024 .f32 :=
  Host.dotGeneral (F := Ideal) dot_S128x1x1024_S1024x1024_S128x1x1024_2_0_01_1_n_n none (mulf (mulf H (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf H H) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 G))) WQ

/-- The first result. -/
def REF1 : FVec Ideal S128x1024 .f32 := shapeCast _ (refH X YP YN W) shapeCasts_S128x1x1024_S128x1024

/-- The second result. -/
def REF2 : FVec Ideal S128x1024 .f32 :=
  mulf (shapeCast _ (refQ G WQ (refH X YP YN W)) shapeCasts_S128x1x1024_S128x1024) (broadcastInDim S128x1024 ![] bcast_S_S128x1024 (constant S_ .f32 0x3D800000#32))

end Cert.OutSampleRefIdeal.Term

namespace Cert.OutSampleIdeal.Result

open Cert.OutSampleIdeal Cert.OutSampleIdeal.Gen
open Cert.OutSampleRefIdeal.Term

/-- One entry of the residual stream: `x` plus the two branches against a column of the output weights. -/
def hid (x : EReal) (p n : Fin 512 → EReal) (w : Fin 1024 → EReal) : EReal :=
  x + (∑ k : Fin 512, p k * w ⟨k.val, by omega⟩ + ∑ k : Fin 512, n k * w ⟨512 + k.val, by omega⟩)

/-- One entry of the queries: the row `h` normed by its root mean square, times the gains, against a column of the weights. -/
def qry (h g w : Fin 1024 → EReal) : EReal :=
  ∑ k, h k * Ideal.rsqrt (Ideal.div (∑ l, h l * h l) (Ideal.ofBits .f32 0x44800000#32) + Ideal.ofBits .f32 0x358637BD#32) * g k * w k

theorem hid_congr {x x' : EReal} {p p' n n' : Fin 512 → EReal} {w w' : Fin 1024 → EReal} (hx : x = x') (hp : p = p') (hn : n = n') (hw : w = w') :
    hid x p n w = hid x' p' n' w' := by rw [hx, hp, hn, hw]

theorem qry_congr {h h' g g' w w' : Fin 1024 → EReal} (hh : h = h') (hg : g = g') (hw : w = w') : qry h g w = qry h' g' w' := by rw [hh, hg, hw]

section Terms

variable (p n : FVec Ideal S128x512 .f32) (x : FVec Ideal S128x1024 .f32) (w : FVec Ideal S1024x1024 .bf16) (g : FVec Ideal S1x1024 .f32)
  (wq : FVec Ideal S1024x1024 .bf16) (r : Fin 128) (l : Fin 1024)
  (X H : FVec Ideal S128x1x1024 .f32) (YP YN : FVec Ideal S128x1x512 .f32) (W : FVec Ideal S1024x1024 .f32)
  (G : FVec Ideal S1024 .f32) (WQ : FVec Ideal S1024x1024 .f32)

theorem pay1_at : k0_pay1 (F := Ideal) p n x w (ix2 r l) = hid (x (ix2 r l)) (fun k => p (ix2 r k)) (fun k => n (ix2 r k)) (fun k => w (ix2 k l)) := by
  pointwise [k0_pay1, hid]

theorem pay2_at : k0_pay2 (F := Ideal) p n x w g wq (ix2 r l)
    = qry (fun k => k0_pay1 (F := Ideal) p n x w (ix2 r k)) (fun k => g (ix2 0 k)) (fun k => wq (ix2 k l)) * Ideal.ofBits .f32 0x3D800000#32 := by
  pointwise [k0_pay2, qry]

theorem refH_at : refH X YP YN W (ix3 r 0 l) = hid (X (ix3 r 0 l)) (fun k => YP (ix3 r 0 k)) (fun k => YN (ix3 r 0 k)) (fun k => W (ix2 k l)) := by
  pointwise [refH, hid]

theorem refQ_at : refQ G WQ H (ix3 r 0 l) = qry (fun k => H (ix3 r 0 k)) (fun k => G (ix1 k)) (fun k => WQ (ix2 k l)) := by
  pointwise [refQ, qry]

theorem REF1_at : REF1 X YP YN W (ix2 r l) = refH X YP YN W (ix3 r 0 l) := by
  pointwise [REF1]

theorem REF2_at : REF2 X YP YN W G WQ (ix2 r l) = refQ G WQ (refH X YP YN W) (ix3 r 0 l) * Ideal.ofBits .f32 0x3D800000#32 := by
  pointwise [REF2]

end Terms

variable (m : (ℓ : Loc nD τ sig) → Buf (Elt Ideal) ℓ)

abbrev aX (c : Dev nD) : FVec Ideal S128x1x1024 .f32 := m ((c : Thread nD τ).loc main_arg0)
abbrev aP (c : Dev nD) : FVec Ideal S128x1x512 .f32 := m ((c : Thread nD τ).loc main_arg1)
abbrev aN (c : Dev nD) : FVec Ideal S128x1x512 .f32 := m ((c : Thread nD τ).loc main_arg2)
abbrev aO (c : Dev nD) : FVec Ideal S1024x1024 .f32 := m ((c : Thread nD τ).loc main_arg3)
abbrev aG (c : Dev nD) : FVec Ideal S1024 .f32 := m ((c : Thread nD τ).loc main_arg4)
abbrev aQ (c : Dev nD) : FVec Ideal S1024x1024 .f32 := m ((c : Thread nD τ).loc main_arg5)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

section Reads

variable (c : Dev nD) (t : Fin cfg0.N)

theorem read0 (r : Fin 128) (k : Fin 1024) : (show FVec Ideal S128x1024 .f32 from iblk m c 0 t) (ix2 r k) = aX m c (ix3 r 0 k) := by
  blk_ext! [iblk, V, idx t]

theorem read1 (r : Fin 128) (k : Fin 512) : (show FVec Ideal S128x512 .f32 from iblk m c 1 t) (ix2 r k) = aP m c (ix3 r 0 k) := by
  blk_ext! [iblk, V, idx t]

theorem read2 (r : Fin 128) (k : Fin 512) : (show FVec Ideal S128x512 .f32 from iblk m c 2 t) (ix2 r k) = aN m c (ix3 r 0 k) := by
  blk_ext! [iblk, V, idx t]

theorem read3 (k l : Fin 1024) : (show FVec Ideal S1024x1024 .bf16 from iblk m c 3 t) (ix2 k l) = aO m c (ix2 k l) := by
  blk_ext! [iblk, V, idx t]

theorem read4 (k : Fin 1024) : (show FVec Ideal S1x1024 .f32 from iblk m c 4 t) (ix2 0 k) = aG m c (ix1 k) := by
  blk_ext! [iblk, V, idx t]

theorem read5 (k l : Fin 1024) : (show FVec Ideal S1024x1024 .bf16 from iblk m c 5 t) (ix2 k l) = aQ m c (ix2 k l) := by
  blk_ext! [iblk, V, idx t]

/-- The residual stream that the kernel stores is the reference's. -/
theorem hid_eq (r : Fin 128) (l : Fin 1024) : k0_pay1 (F := Ideal) (iblk m c 1 t) (iblk m c 2 t) (iblk m c 0 t) (iblk m c 3 t) (ix2 r l)
    = refH (aX m c) (aP m c) (aN m c) (aO m c) (ix3 r 0 l) := by
  rw [pay1_at, refH_at]
  exact hid_congr (read0 m c t r l) (funext fun k => read1 m c t r k) (funext fun k => read2 m c t r k) (funext fun k => read3 m c t k l)

theorem point6 (r : Fin 128) (l : Fin 1024) : k0_pay1 (F := Ideal) (iblk m c 1 t) (iblk m c 2 t) (iblk m c 0 t) (iblk m c 3 t) (ix2 r l)
    = REF1 (aX m c) (aP m c) (aN m c) (aO m c) (ix2 r l) := by
  rw [REF1_at]; exact hid_eq m c t r l

theorem point7 (r : Fin 128) (l : Fin 1024) :
    k0_pay2 (F := Ideal) (iblk m c 1 t) (iblk m c 2 t) (iblk m c 0 t) (iblk m c 3 t) (iblk m c 4 t) (iblk m c 5 t) (ix2 r l)
    = REF2 (aX m c) (aP m c) (aN m c) (aO m c) (aG m c) (aQ m c) (ix2 r l) := by
  rw [pay2_at, REF2_at, refQ_at]
  exact congrArg (· * Ideal.ofBits .f32 0x3D800000#32)
    (qry_congr (funext fun k => hid_eq m c t r k) (funext fun k => read4 m c t k) (funext fun k => read5 m c t k l))

end Reads

/-- The first result array after the run. -/
theorem final6 (c : Dev nD) : (dats m 0 c).arrAt 6 (cfgs 0).N = REF1 (aX m c) (aP m c) (aN m c) (aO m c) := by
  refine (dats m 0 c).arrAt_eq_of_covers 6 _ (by decide +kernel) fun t _ y => ?_
  blk_simp
  rw [after0_6]; frame_out
  have hy : y = (ix2 (y 0) (y 1) : S128x1024.Idx) := eq_ix2 y
  have he : (((cfg0.win 6).blk t).view.emb y) = (ix2 (y 0) (y 1) : S128x1024.Idx) := by blk_ext [idx t]
  exact (congrArg _ hy).trans ((point6 m c t (y 0) (y 1)).trans (congrArg _ he.symm))

/-- The second result array after the run. -/
theorem final7 (c : Dev nD) : (dats m 0 c).arrAt 7 (cfgs 0).N = REF2 (aX m c) (aP m c) (aN m c) (aO m c) (aG m c) (aQ m c) := by
  refine (dats m 0 c).arrAt_eq_of_covers 7 _ (by decide +kernel) fun t _ y => ?_
  blk_simp
  rw [after0_7]; frame_out
  have hy : y = (ix2 (y 0) (y 1) : S128x1024.Idx) := eq_ix2 y
  have he : (((cfg0.win 7).blk t).view.emb y) = (ix2 (y 0) (y 1) : S128x1024.Idx) := by blk_ext [idx t]
  exact (congrArg _ hy).trans ((point7 m c t (y 0) (y 1)).trans (congrArg _ he.symm))

end Cert.OutSampleIdeal.Result

end
-- ==== Proof.OutSampleClaims.lean ====
/- The claims on the sample's output projection of the token mixers and its queries. -/
module

public import proofs.«01_k».proof.Defs
public import proofs.«01_k».proof.Proof.Gen.OutSample.Frame
public import proofs.«01_k».proof.Proof.OutSampleValue
public import Idealize.ShloMosaic.Adequacy
public import Idealize.ShloMosaic.Init

@[expose] public section

noncomputable section

namespace Cert.OutSampleClaims

open Idealize.ShloMosaic Idealize.SL.Sem

theorem frame : Cert.quiescent_OutSample := fun m g _ => Cert.OutSample.Gen.frame m g

theorem frame_ideal : Cert.quiescent_OutSampleIdeal := fun m g _ => Cert.OutSampleIdeal.Gen.frame m g

theorem frame_ref : Cert.quiescent_OutSampleRefIdeal := fun m g _ =>
  (θ_run Cert.OutSampleRefIdeal.defs _ _).mono (fun r h => ⟨fun c => (h c).2.2, sem_eq_zero_of_no_sems (by decide) r.2⟩) (Cert.OutSampleRefIdeal.Value.run (F := Ideal) m g)

set_option maxHeartbeats 2000000 in
theorem algebraic : Cert.algebraic_OutSampleIdeal_OutSampleRefIdeal := by
  pair_intro
  · run_from Cert.OutSampleIdeal.Gen.run_main m g
  · refine (θ_run Cert.OutSampleRefIdeal.defs _ _).mono (fun r h c => ?_) (Cert.OutSampleRefIdeal.Value.run (F := Ideal) m' g')
    obtain ⟨e0, e1, a0, a1, a2, a3, a4, a5⟩ := h c
    obtain ⟨h0, h1, h2, h3, h4, h5⟩ := hagree c
    rw [h0, h1, h2, h3] at e0
    rw [h0, h1, h2, h3, h4, h5] at e1
    exact ⟨e0.trans (Cert.OutSampleIdeal.Result.final6 m c).symm, e1.trans (Cert.OutSampleIdeal.Result.final7 m c).symm, a0, a1, a2, a3, a4, a5⟩

end Cert.OutSampleClaims

end
-- ==== Proof.ProjSampleValue.lean ====
/- The sample's residual projection: what the kernel leaves in its result array is the residual plus the heads against the output
   weights, the same composed term as the plain reference's. -/
module

public import proofs.«01_k».proof.Proof.Gen.ProjSampleIdeal.Frame
public import proofs.«01_k».proof.Proof.Gen.ProjSampleRefIdeal.Run
public import proofs.«01_k».proof.Proof.Gen.ProjSampleRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjSampleRefIdeal.Term

open Cert.ProjSampleRefIdeal Cert.ProjSampleRefIdeal.Gen

/-- The reference's result over its three arguments. -/
def REF (H O : FVec Ideal S128x1x1024 .f32) (W : FVec Ideal S1024x1024 .f32) : FVec Ideal S128x1024 .f32 :=
  shapeCast _ (addf H (Host.dotGeneral (F := Ideal) dot_S128x1x1024_S1024x1024_S128x1x1024_2_0_01_1_n_n none O W)) shapeCasts_S128x1x1024_S128x1024

end Cert.ProjSampleRefIdeal.Term

namespace Cert.ProjSampleIdeal.Result

open Cert.ProjSampleIdeal Cert.ProjSampleIdeal.Gen
open Cert.ProjSampleRefIdeal.Term (REF)

variable (m : (ℓ : Loc nD τ sig) → Buf (Elt Ideal) ℓ)

abbrev aH (c : Dev nD) : FVec Ideal S128x1x1024 .f32 := m ((c : Thread nD τ).loc main_arg0)
abbrev aO (c : Dev nD) : FVec Ideal S128x1x1024 .f32 := m ((c : Thread nD τ).loc main_arg1)
abbrev aW (c : Dev nD) : FVec Ideal S1024x1024 .f32 := m ((c : Thread nD τ).loc main_arg2)

/-- Every window's block is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- One entry: the residual plus the row of the heads against a column of the weights. -/
def entry (h : EReal) (o w : Fin 1024 → EReal) : EReal := h + ∑ k, o k * w k

theorem entry_congr {h h' : EReal} {o o' w w' : Fin 1024 → EReal} (hh : h = h') (ho : o = o') (hw : w = w') :
    entry h o w = entry h' o' w' := by rw [hh, ho, hw]

theorem pay_at (h o : FVec Ideal S128x1024 .f32) (w : FVec Ideal S1024x1024 .bf16) (r : Fin 128) (l : Fin 1024) :
    k0_pay1 (F := Ideal) h o w (ix2 r l) = entry (h (ix2 r l)) (fun k => o (ix2 r k)) (fun k => w (ix2 k l)) := by
  pointwise [k0_pay1, entry]

theorem ref_at (H O : FVec Ideal S128x1x1024 .f32) (W : FVec Ideal S1024x1024 .f32) (r : Fin 128) (l : Fin 1024) :
    REF H O W (ix2 r l) = entry (H (ix3 r 0 l)) (fun k => O (ix3 r 0 k)) (fun k => W (ix2 k l)) := by
  pointwise [REF, entry]

theorem read0 (c : Dev nD) (t : Fin cfg0.N) (r : Fin 128) (k : Fin 1024) :
    (show FVec Ideal S128x1024 .f32 from iblk m c 0 t) (ix2 r k) = aH m c (ix3 r 0 k) := by
  blk_ext! [iblk, V, idx t]

theorem read1 (c : Dev nD) (t : Fin cfg0.N) (r : Fin 128) (k : Fin 1024) :
    (show FVec Ideal S128x1024 .f32 from iblk m c 1 t) (ix2 r k) = aO m c (ix3 r 0 k) := by
  blk_ext! [iblk, V, idx t]

theorem read2 (c : Dev nD) (t : Fin cfg0.N) (k l : Fin 1024) :
    (show FVec Ideal S1024x1024 .bf16 from iblk m c 2 t) (ix2 k l) = aW m c (ix2 k l) := by
  blk_ext! [iblk, V, idx t]

/-- What the kernel stores at an index is the reference's result there. -/
theorem point (c : Dev nD) (t : Fin cfg0.N) (r : Fin 128) (l : Fin 1024) :
    k0_pay1 (F := Ideal) (iblk m c 0 t) (iblk m c 1 t) (iblk m c 2 t) (ix2 r l) = REF (aH m c) (aO m c) (aW m c) (ix2 r l) := by
  rw [pay_at, ref_at]
  exact entry_congr (read0 m c t r l) (funext fun k => read1 m c t r k) (funext fun k => read2 m c t k l)

/-- The result array after the run. -/
theorem final (c : Dev nD) : (dats m 0 c).arrAt 3 (cfgs 0).N = REF (aH m c) (aO m c) (aW m c) := by
  refine (dats m 0 c).arrAt_eq_of_covers 3 _ (by decide +kernel) fun t _ y => ?_
  blk_simp
  rw [after0_3]; frame_out
  have hy : y = (ix2 (y 0) (y 1) : S128x1024.Idx) := eq_ix2 y
  have he : (((cfg0.win 3).blk t).view.emb y) = (ix2 (y 0) (y 1) : S128x1024.Idx) := by blk_ext [idx t]
  exact (congrArg _ hy).trans ((point m c t (y 0) (y 1)).trans (congrArg _ he.symm))

end Cert.ProjSampleIdeal.Result

end
-- ==== Proof.ProjSampleClaims.lean ====
/- The claims on the sample's residual projection. -/
module

public import proofs.«01_k».proof.Defs
public import proofs.«01_k».proof.Proof.Gen.ProjSample.Frame
public import proofs.«01_k».proof.Proof.ProjSampleValue
public import Idealize.ShloMosaic.Adequacy
public import Idealize.ShloMosaic.Init

@[expose] public section

noncomputable section

namespace Cert.ProjSampleClaims

open Idealize.ShloMosaic Idealize.SL.Sem

theorem frame : Cert.quiescent_ProjSample := fun m g _ => Cert.ProjSample.Gen.frame m g

theorem frame_ideal : Cert.quiescent_ProjSampleIdeal := fun m g _ => Cert.ProjSampleIdeal.Gen.frame m g

theorem frame_ref : Cert.quiescent_ProjSampleRefIdeal := fun m g _ =>
  (θ_run Cert.ProjSampleRefIdeal.defs _ _).mono (fun r h => ⟨fun c => (h c).2, sem_eq_zero_of_no_sems (by decide) r.2⟩) (Cert.ProjSampleRefIdeal.Value.run (F := Ideal) m g)

set_option maxHeartbeats 2000000 in
theorem algebraic : Cert.algebraic_ProjSampleIdeal_ProjSampleRefIdeal := by
  pair_intro
  · run_from Cert.ProjSampleIdeal.Gen.run_main m g
  · run_from Cert.ProjSampleRefIdeal.Value.run m' g'
    exact (Cert.ProjSampleIdeal.Result.final m c).symm

end Cert.ProjSampleClaims

end
-- ==== Proof.XattnSampleRows.lean ====
/- The sample's attention over memory, row by row: what one row of each value that the kernel computes is. -/
module

public import proofs.«01_k».proof.Proof.Gen.XattnSampleIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnSampleIdeal.Result

open Cert.XattnSampleIdeal Cert.XattnSampleIdeal.Gen

/-- A select by the head that a lane belongs to. -/
theorem pick_own {α : Type} (l i : ℕ) (hl : l < 2048) (hi : i < 8) (a b : α) :
    Scalar.select (IntOp.cmpi .eq (BitVec.ofNat 32 l &&& 7#32) (BitVec.ofNat 32 i)) a b = if l % 8 = i then a else b := by
  have e : (BitVec.ofNat 32 l &&& 7#32 = BitVec.ofNat 32 i) = (l % 8 = i) := propext (by
    rw [← BitVec.toNat_inj, BitVec.toNat_and, BitVec.toNat_ofNat, BitVec.toNat_ofNat, BitVec.toNat_ofNat,
      show 7 % 2 ^ 32 = 2 ^ 3 - 1 from rfl, Nat.and_two_pow_sub_one_eq_mod]
    omega)
  by_cases h : l % 8 = i
  · have y : (BitVec.ofNat 32 l &&& 7#32 == BitVec.ofNat 32 i) = true := beq_iff_eq.mpr (e.symm ▸ h)
    simp [Scalar.select, IntOp.cmpi, y, h]
  · have n : (BitVec.ofNat 32 l &&& 7#32 == BitVec.ofNat 32 i) = false := beq_eq_false_iff_ne.mpr fun q => h (e ▸ q)
    simp [Scalar.select, IntOp.cmpi, n, h]

/-- The same select, as the kernel's operations print it. -/
theorem pick_own' {α : Type} (l : Fin 2048) (i : Fin 8) (a b : α) :
    Scalar.select (IntOp.cmpi .eq (IntOp.andi (BitVec.ofNat 32 l.val) 7#32) (BitVec.ofNat 32 i.val)) a b = if l.val % 8 = i.val then a else b :=
  pick_own l.val i.val l.isLt i.isLt a b

/-- A select by the half that a row belongs to. -/
theorem pick_half {α : Type} (i : Fin 8) (a b : α) :
    Scalar.select (IntOp.cmpi .slt (BitVec.ofNat 32 i.val) 4#32) a b = if i.val < 4 then a else b := by
  fin_cases i <;> rfl

/-- The eight half queries, one to a row. -/
def rowsQ (q : FVec Ideal S1x1x1024 .f32) : FVec Ideal S8x128 .f32 :=
  have v1 : FVec Ideal S1x1024 .f32 := shapeCast S1x1024 q shapeCasts_S1x1x1024_S1x1024
  concatenate S8x128 0 [⟨S1x128, extractStridedSlice S1x128 ![0, 0] v1 slices_S1x1024_o0_0_S1x128⟩,
    ⟨S1x128, extractStridedSlice S1x128 ![0, 256] v1 slices_S1x1024_o0_256_S1x128⟩,
    ⟨S1x128, extractStridedSlice S1x128 ![0, 512] v1 slices_S1x1024_o0_512_S1x128⟩,
    ⟨S1x128, extractStridedSlice S1x128 ![0, 768] v1 slices_S1x1024_o0_768_S1x128⟩,
    ⟨S1x128, extractStridedSlice S1x128 ![0, 128] v1 slices_S1x1024_o0_128_S1x128⟩,
    ⟨S1x128, extractStridedSlice S1x128 ![0, 384] v1 slices_S1x1024_o0_384_S1x128⟩,
    ⟨S1x128, extractStridedSlice S1x128 ![0, 640] v1 slices_S1x1024_o0_640_S1x128⟩,
    ⟨S1x128, extractStridedSlice S1x128 ![0, 896] v1 slices_S1x1024_o0_896_S1x128⟩]
    concatenates_S1x128_S1x128_S1x128_S1x128_S1x128_S1x128_S1x128_S1x128_S8x128_d0

theorem rowsQ_at (q : FVec Ideal S1x1x1024 .f32) (i : Fin 8) (d : Fin 128) :
    rowsQ q (ix2 i d) = q (ix3 0 0 ⟨i.val % 4 * 256 + i.val / 4 * 128 + d.val, by omega⟩) := by
  fin_cases i <;> pointwise [rowsQ]

/-- Every row's half query against every lane's half key. -/
def prods (q : FVec Ideal S1x1x1024 .f32) (kv : FVec Ideal S1x256x2x8x128 .f32) : FVec Ideal S8x2048 .f32 :=
  matmul dot_S8x128_S2048x128_S8x2048_1_1_0_0_n_n none (truncf .bf16 (rowsQ q) bitsLt_bf16_f32)
    (truncf .bf16 (shapeCast S2048x128 (shapeCast S256x8x128 (extractStridedSlice S256x1x8x128 ![0, 0, 0, 0] (k0_pay2 kv) slices_S256x2x8x128_o0_0_0_0_S256x1x8x128)
      shapeCasts_S256x1x8x128_S256x8x128) shapeCasts_S256x8x128_S2048x128) bitsLt_bf16_f32) (constant S8x2048 .f32 0x00000000#32)

theorem prods_at (q : FVec Ideal S1x1x1024 .f32) (kv : FVec Ideal S1x256x2x8x128 .f32) (i : Fin 8) (l : Fin 2048) :
    prods q kv (ix2 i l) = ∑ d : Fin 128, rowsQ q (ix2 i d) * kv (ix5 0 ⟨l.val / 8, by omega⟩ 0 ⟨l.val % 8, by omega⟩ d) := by
  pointwise [prods, k0_pay2]

/-- The products of a row with its own head's lanes, zero at the others. -/
def owned (A : FVec Ideal S8x2048 .f32) : FVec Ideal S8x2048 .f32 :=
  select (cmpi .eq (andi (iota .tc S8x2048 32 [1] iota_S8x2048_d1_w32) (broadcast S8x2048 7#32)) (iota .tc S8x2048 32 [0] iota_S8x2048_d0_w32)) A
    (broadcast S8x2048 (Scalar.ofBits (F := Ideal) .f32 0x00000000#32))

theorem owned_at (A : FVec Ideal S8x2048 .f32) (i : Fin 8) (l : Fin 2048) :
    owned A (ix2 i l) = if l.val % 8 = i.val then A (ix2 i l) else 0 := by
  pointwise [owned]
  rw [pick_own' l i]

/-- The other half's products, brought to the row and the lane of the half. -/
def swapped (B : FVec Ideal S8x2048 .f32) : FVec Ideal S8x2048 .f32 :=
  have v26 : FVec Ideal S8x2048 .f32 := dynamicRotate 0 4#32 none B rotates_S8x2048_d0
  select (cmpi .slt (iota .tc S8x2048 32 [0] iota_S8x2048_d0_w32) (broadcast S8x2048 4#32)) (dynamicRotate 1 2044#32 none v26 rotates_S8x2048_d1)
    (dynamicRotate 1 4#32 none v26 rotates_S8x2048_d1)

theorem swapped_at (B : FVec Ideal S8x2048 .f32) (i : Fin 8) (l : Fin 2048) (h : l.val % 8 = i.val) :
    swapped B (ix2 i l) = B (ix2 ⟨(i.val + 4) % 8, by omega⟩ ⟨l.val / 8 * 8 + (i.val + 4) % 8, by omega⟩) := by
  pointwise [swapped]
  rw [pick_half i]
  by_cases c : i.val < 4
  · rw [if_pos c]
    exact congrArg B (congrArg₂ ix2 (Fin.ext (by simp only; omega)) (Fin.ext (by simp only; omega)))
  · rw [if_neg c]
    exact congrArg B (congrArg₂ ix2 (Fin.ext (by simp only; omega)) (Fin.ext (by simp only; omega)))

/-- The scores: a row's at its own head's lanes, minus infinity at the others. -/
def scores (A : FVec Ideal S8x2048 .f32) : FVec Ideal S8x2048 .f32 :=
  select (cmpi .eq (andi (iota .tc S8x2048 32 [1] iota_S8x2048_d1_w32) (broadcast S8x2048 7#32)) (iota .tc S8x2048 32 [0] iota_S8x2048_d0_w32))
    (addf (owned A) (swapped (owned A))) (broadcast S8x2048 (Scalar.ofBits (F := Ideal) .f32 0xFF800000#32))

theorem scores_at (A : FVec Ideal S8x2048 .f32) (i : Fin 8) (l : Fin 2048) :
    scores A (ix2 i l) = if l.val % 8 = i.val then A (ix2 i l) + A (ix2 ⟨(i.val + 4) % 8, by omega⟩ ⟨l.val / 8 * 8 + (i.val + 4) % 8, by omega⟩)
      else Ideal.ofBits .f32 0xFF800000#32 := by
  have e : scores A (ix2 i l) = if l.val % 8 = i.val then owned A (ix2 i l) + swapped (owned A) (ix2 i l) else Ideal.ofBits .f32 0xFF800000#32 := by
    pointwise [scores]
    rw [pick_own' l i]
  rw [e]
  by_cases h : l.val % 8 = i.val
  · rw [if_pos h, if_pos h, swapped_at _ i l h, owned_at, owned_at, if_pos h, if_pos (by simp only; omega)]
  · rw [if_neg h, if_neg h]

/-- The exponentials of the scores below their row's largest. -/
def exps (S : FVec Ideal S8x2048 .f32) : FVec Ideal S8x2048 .f32 :=
  exp (subf S (broadcastTo S8x2048 (shapeCast S8x1 (multiReduction .maximumf [1] S8 S 0xFF800000#32 reduces_S8x2048_S8 (.inl rfl) rfl) shapeCasts_S8_S8x1) broadcasts_S8x1_S8x2048))

theorem exps_at (S : FVec Ideal S8x2048 .f32) (i : Fin 8) (l : Fin 2048) :
    exps S (ix2 i l) = Ideal.exp (S (ix2 i l) - Finset.univ.fold max (Ideal.ofBits .f32 0xFF800000#32) fun k => S (ix2 i k)) := by
  pointwise [exps]

theorem pay3_eq (q : FVec Ideal S1x1x1024 .f32) (kv : FVec Ideal S1x256x2x8x128 .f32) : k0_pay3 (F := Ideal) q kv = exps (scores (prods q kv)) := rfl

theorem pay4_at (q : FVec Ideal S1x1x1024 .f32) (kv : FVec Ideal S1x256x2x8x128 .f32) (i : Fin 8) :
    k0_pay4 (F := Ideal) q kv (ix1 i) = ∑ l, k0_pay3 (F := Ideal) q kv (ix2 i l) := by
  pointwise [k0_pay4]

/-- The softmax weights. -/
def weights (E : FVec Ideal S8x2048 .f32) (Z : FVec Ideal S8 .f32) : FVec Ideal S8x2048 .f32 :=
  divf E (broadcastTo S8x2048 (shapeCast S8x1 Z shapeCasts_S8_S8x1) broadcasts_S8x1_S8x2048)

theorem weights_at (E : FVec Ideal S8x2048 .f32) (Z : FVec Ideal S8 .f32) (i : Fin 8) (l : Fin 2048) :
    weights E Z (ix2 i l) = Ideal.div (E (ix2 i l)) (Z (ix1 i)) := by
  pointwise [weights]

/-- The weights against the half values. -/
def mixes (x : FVec Ideal S256x2x8x128 .f32) (P : FVec Ideal S8x2048 .f32) : FVec Ideal S8x128 .f32 :=
  matmul dot_S8x2048_S2048x128_S8x128_1_0_0_1_n_n none (truncf .bf16 P bitsLt_bf16_f32)
    (truncf .bf16 (shapeCast S2048x128 (shapeCast S256x8x128 (extractStridedSlice S256x1x8x128 ![0, 1, 0, 0] x slices_S256x2x8x128_o0_1_0_0_S256x1x8x128)
      shapeCasts_S256x1x8x128_S256x8x128) shapeCasts_S256x8x128_S2048x128) bitsLt_bf16_f32) (constant S8x128 .f32 0x00000000#32)

theorem mixes_at (x : FVec Ideal S256x2x8x128 .f32) (P : FVec Ideal S8x2048 .f32) (i : Fin 8) (d : Fin 128) :
    mixes x P (ix2 i d) = ∑ l : Fin 2048, P (ix2 i l) * x (ix4 ⟨l.val / 8, by omega⟩ 1 ⟨l.val % 8, by omega⟩ d) := by
  pointwise [mixes]

/-- The eight half results side by side, the two halves of each head together. -/
def placed (O : FVec Ideal S8x128 .f32) : FVec Ideal S1x1x1024 .f32 :=
  shapeCast S1x1x1024 (concatenate S1x1024 1 [⟨S1x128, extractStridedSlice S1x128 ![0, 0] O slices_S8x128_o0_0_S1x128⟩,
    ⟨S1x128, extractStridedSlice S1x128 ![4, 0] O slices_S8x128_o4_0_S1x128⟩, ⟨S1x128, extractStridedSlice S1x128 ![1, 0] O slices_S8x128_o1_0_S1x128⟩,
    ⟨S1x128, extractStridedSlice S1x128 ![5, 0] O slices_S8x128_o5_0_S1x128⟩, ⟨S1x128, extractStridedSlice S1x128 ![2, 0] O slices_S8x128_o2_0_S1x128⟩,
    ⟨S1x128, extractStridedSlice S1x128 ![6, 0] O slices_S8x128_o6_0_S1x128⟩, ⟨S1x128, extractStridedSlice S1x128 ![3, 0] O slices_S8x128_o3_0_S1x128⟩,
    ⟨S1x128, extractStridedSlice S1x128 ![7, 0] O slices_S8x128_o7_0_S1x128⟩]
    concatenates_S1x128_S1x128_S1x128_S1x128_S1x128_S1x128_S1x128_S1x128_S1x1024_d1) shapeCasts_S1x1024_S1x1x1024

set_option maxHeartbeats 1000000 in
theorem placed_at (O : FVec Ideal S8x128 .f32) (a : Fin 8) (d : Fin 128) :
    placed O (ix3 0 0 ⟨a.val * 128 + d.val, by omega⟩) = O (ix2 ⟨a.val % 2 * 4 + a.val / 2, by omega⟩ d) := by
  have hd := d.isLt
  have key : ∀ x y : Fin 128, x.val = y.val → ∀ r : Fin 8, O (ix2 r x) = O (ix2 r y) := fun x y h r => by rw [Fin.ext h]
  fin_cases a <;> pointwise [placed] <;> repeat rw [dif_neg (by omega)]
  all_goals first
    | (rw [dif_pos (by omega)]; exact key _ _ (by simp only; omega) _)
    | exact key _ _ (by simp only; omega) _

theorem pay1_eq (x : FVec Ideal S256x2x8x128 .f32) (E : FVec Ideal S8x2048 .f32) (Z : FVec Ideal S8 .f32) :
    k0_pay1 (F := Ideal) x E Z = placed (mixes x (weights E Z)) := rfl

end Cert.XattnSampleIdeal.Result

end
-- ==== Proof.XattnSampleTerm.lean ====
/- The sample's attention over memory: what one entry of the plain reference's result is, and the softmax over a row of 2048
   lanes of which every eighth holds a score. -/
module

public import proofs.«01_k».proof.Proof.Gen.XattnSampleRefIdeal.Run
public import proofs.«01_k».proof.Proof.Gen.Pre_finite_keys
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnSampleRefIdeal.Term

open Cert.XattnSampleRefIdeal Cert.XattnSampleRefIdeal.Gen

/-- The largest score. -/
def peak (s : Fin 256 → EReal) : EReal := Finset.univ.fold max (Ideal.ofBits .f32 0xFF800000#32) s

/-- The sum of the exponentials of the scores below their largest. -/
def total (s : Fin 256 → EReal) : EReal := ∑ i, Ideal.exp (s i - peak s)

/-- The values mixed by the softmax of the scores. -/
def mixture (s v : Fin 256 → EReal) : EReal := ∑ j, Ideal.div (Ideal.exp (s j - peak s)) (total s) * v j

theorem mixture_congr {s s' v v' : Fin 256 → EReal} (hs : ∀ j, s j = s' j) (hv : ∀ j, v j = v' j) : mixture s v = mixture s' v' := by
  rw [funext hs, funext hv]

theorem low_eq : Ideal.ofBits .f32 0xFF800000#32 = ⊥ := by simp [Ideal.ofBits, Ideal.ieee]

theorem peak_max (s : Fin 256 → EReal) : max (Ideal.ofBits .f32 0xFF800000#32) (peak s) = peak s := by
  rw [low_eq]; exact max_eq_right bot_le

variable (Q : FVec Ideal S128x1x1024 .f32) (KV : FVec Ideal S128x256x2x4x256 .f32) (S E P : FVec Ideal S128x4x1x256 .f32)

/-- The scores. -/
def refS : FVec Ideal S128x4x1x256 .f32 :=
  Host.dotGeneral (F := Ideal) (φ₁ := .f32) (φ₂ := .f32) dot_S128x1x4x256_S128x256x4x256_S128x4x1x256_3_3_1_1_02_02 none (shapeCast _ Q shapeCasts_S128x1x1024_S128x1x4x256) (shapeCast _ (extractStridedSlice S128x256x1x4x256 ![0, 0, 0, 0, 0] KV slices_S128x256x2x4x256_S128x256x1x4x256_0_0_0_0_0) shapeCasts_S128x256x1x4x256_S128x256x4x256)

/-- Every head's largest score. -/
def refM : FVec Ideal S128x4x1 .f32 :=
  Host.reduce FloatOps.maximumf S (constant S_ .f32 0xFF800000#32) reducesTo_S128x4x1x256_S128x4x1_d3 h_S_

/-- The exponentials of the scores below their largest. -/
def refE (M : FVec Ideal S128x4x1 .f32) : FVec Ideal S128x4x1x256 .f32 :=
  Host.exp (subf S (broadcastInDim S128x4x1x256 ![0, 1, 2, 3] bcast_S128x4x1x1_S128x4x1x256_0_1_2_3 (broadcastInDim S128x4x1x1 ![0, 1, 2] bcast_S128x4x1_S128x4x1x1_0_1_2 (maximumf (broadcastInDim S128x4x1 ![] bcast_S_S128x4x1 (constant S_ .f32 0xFF800000#32)) M))))

/-- The softmax weights. -/
def refP : FVec Ideal S128x4x1x256 .f32 :=
  Host.divf E (broadcastInDim S128x4x1x256 ![0, 1, 2, 3] bcast_S128x4x1x1_S128x4x1x256_0_1_2_3 (broadcastInDim S128x4x1x1 ![0, 1, 2] bcast_S128x4x1_S128x4x1x1_0_1_2 (Host.reduceAdd E (constant S_ .f32 0x00000000#32) reducesTo_S128x4x1x256_S128x4x1_d3 h_S_)))

/-- The heads side by side. -/
def refO : FVec Ideal S128x1x1024 .f32 :=
  shapeCast _ (transpose S128x1x4x256 [0, 3, 1, 2] (Host.dotGeneral (F := Ideal) (φ₁ := .f32) (φ₂ := .f32) dot_S128x256x4x256_S128x4x1x256_S128x4x256x1_1_3_3_2_02_01 none (shapeCast _ (extractStridedSlice S128x256x1x4x256 ![0, 0, 1, 0, 0] KV slices_S128x256x2x4x256_S128x256x1x4x256_0_0_1_0_0) shapeCasts_S128x256x1x4x256_S128x256x4x256) P) transposes_S128x4x256x1_S128x1x4x256_0_3_1_2) shapeCasts_S128x1x4x256_S128x1x1024

/-- The reference's whole term. -/
def REF : FVec Ideal S128x1x1024 .f32 := refO KV (refP (refE (refS Q KV) (refM (refS Q KV))))

theorem refS_at (b : Fin 128) (n : Fin 4) (j : Fin 256) :
    refS Q KV (ix4 b n 0 j) = ∑ e : Fin 256, Q (ix3 b 0 ⟨n.val * 256 + e.val, by omega⟩) * KV (ix5 b j 0 n e) := by
  pointwise [refS]

theorem refM_at (b : Fin 128) (n : Fin 4) : refM S (ix3 b n 0) = peak fun i => S (ix4 b n 0 i) := by
  unfold refM peak
  simp only [pointwise]

theorem refE_at (M : FVec Ideal S128x4x1 .f32) (b : Fin 128) (n : Fin 4) (j : Fin 256) :
    refE S M (ix4 b n 0 j) = Ideal.exp (S (ix4 b n 0 j) - max (Ideal.ofBits .f32 0xFF800000#32) (M (ix3 b n 0))) := by
  pointwise [refE]

theorem refP_at (b : Fin 128) (n : Fin 4) (j : Fin 256) :
    refP E (ix4 b n 0 j) = Ideal.div (E (ix4 b n 0 j)) (∑ i, E (ix4 b n 0 i)) := by
  pointwise [refP]

theorem refO_at (b : Fin 128) (n : Fin 4) (d : Fin 256) :
    refO KV P (ix3 b 0 ⟨n.val * 256 + d.val, by omega⟩) = ∑ j : Fin 256, KV (ix5 b j 1 n d) * P (ix4 b n 0 j) := by
  pointwise [refO]

theorem ref_at (b : Fin 128) (n : Fin 4) (d : Fin 256) :
    REF Q KV (ix3 b 0 ⟨n.val * 256 + d.val, by omega⟩)
    = mixture (fun j => ∑ e : Fin 256, Q (ix3 b 0 ⟨n.val * 256 + e.val, by omega⟩) * KV (ix5 b j 0 n e)) (fun j => KV (ix5 b j 1 n d)) := by
  rw [REF, refO_at]
  refine Finset.sum_congr rfl fun j _ => ?_
  simp only [refP_at, refE_at, refM_at, peak_max, refS_at, total]
  exact mul_comm _ _

/-- The lane of a token's score in a row of lanes. -/
def lane (j : Fin 256) (i : Fin 8) : Fin 2048 := ⟨j.val * 8 + i.val, by omega⟩

theorem lane_inj (i : Fin 8) : Function.Injective fun j => lane j i := fun a b h => by
  have e : a.val * 8 + i.val = b.val * 8 + i.val := congrArg Fin.val h
  exact Fin.ext (by omega)

theorem lane_of (l : Fin 2048) (i : Fin 8) (h : l.val % 8 = i.val) : lane ⟨l.val / 8, by omega⟩ i = l :=
  Fin.ext (by show l.val / 8 * 8 + i.val = l.val; omega)

theorem sum_own (i : Fin 8) (f : Fin 2048 → EReal) (h : ∀ l : Fin 2048, l.val % 8 ≠ i.val → f l = 0) : ∑ l, f l = ∑ j, f (lane j i) := by
  have e : ∑ j, f (lane j i) = ∑ l ∈ Finset.univ.map ⟨fun j => lane j i, lane_inj i⟩, f l := by rw [Finset.sum_map]; rfl
  rw [e]
  symm
  refine Finset.sum_subset (Finset.subset_univ _) fun l _ hl => h l fun hi => hl ?_
  exact Finset.mem_map.2 ⟨⟨l.val / 8, by omega⟩, Finset.mem_univ _, lane_of l i hi⟩

theorem fold_own (i : Fin 8) (f : Fin 2048 → EReal) (h : ∀ l : Fin 2048, l.val % 8 ≠ i.val → f l = ⊥) :
    Finset.univ.fold max (Ideal.ofBits .f32 0xFF800000#32) f = peak fun j => f (lane j i) := by
  rw [peak, low_eq]
  refine le_antisymm ((Finset.fold_max_le _).2 ⟨bot_le, fun l _ => ?_⟩) ((Finset.fold_max_le _).2 ⟨bot_le, fun j _ => ?_⟩)
  · by_cases hi : l.val % 8 = i.val
    · exact (Finset.le_fold_max _).2 (Or.inr ⟨⟨l.val / 8, by omega⟩, Finset.mem_univ _, by rw [lane_of l i hi]⟩)
    · rw [h l hi]; exact bot_le
  · exact (Finset.le_fold_max _).2 (Or.inr ⟨lane j i, Finset.mem_univ _, le_rfl⟩)

theorem exp_nonneg (x : EReal) : 0 ≤ Ideal.exp x := by
  induction x with
  | bot => exact le_rfl
  | top => exact le_top
  | coe r => exact EReal.coe_nonneg.2 (Real.exp_pos r).le

/-- Real scores' exponentials do not sum to zero. -/
theorem total_ne (s : Fin 256 → EReal) (h : ∀ j, s j ≠ ⊥ ∧ s j ≠ ⊤) : total s ≠ 0 := by
  have hb : peak s ≠ ⊤ := by
    rw [← lt_top_iff_ne_top, peak, low_eq]
    exact (Finset.fold_max_lt _).2 ⟨bot_lt_top, fun j _ => lt_top_iff_ne_top.2 (h j).2⟩
  have hl : peak s ≠ ⊥ := by
    rw [← bot_lt_iff_ne_bot, peak, low_eq]
    exact (Finset.lt_fold_max _).2 (Or.inr ⟨0, Finset.mem_univ _, bot_lt_iff_ne_bot.2 (h 0).1⟩)
  have pos : 0 < Ideal.exp (s 0 - peak s) := by
    lift s 0 to ℝ using ⟨(h 0).2, (h 0).1⟩ with a
    lift peak s to ℝ using ⟨hb, hl⟩ with p
    exact EReal.coe_pos.2 (Real.exp_pos _)
  exact (lt_of_lt_of_le pos (Finset.single_le_sum (f := fun i => Ideal.exp (s i - peak s)) (fun i _ => exp_nonneg _) (Finset.mem_univ 0))).ne'

/-- The softmax over a row of lanes of which those of the other heads hold minus infinity. -/
theorem lanes_mixture (i : Fin 8) (S V : Fin 2048 → EReal) (h : ∀ l : Fin 2048, l.val % 8 ≠ i.val → S l = ⊥)
    (hf : ∀ j, S (lane j i) ≠ ⊥ ∧ S (lane j i) ≠ ⊤) :
    ∑ l, Ideal.div (Ideal.exp (S l - Finset.univ.fold max (Ideal.ofBits .f32 0xFF800000#32) S))
        (∑ k, Ideal.exp (S k - Finset.univ.fold max (Ideal.ofBits .f32 0xFF800000#32) S)) * V l
    = mixture (fun j => S (lane j i)) (fun j => V (lane j i)) := by
  rw [fold_own i S h]
  have off : ∀ l : Fin 2048, l.val % 8 ≠ i.val → Ideal.exp (S l - peak fun j => S (lane j i)) = 0 := fun l hl => by
    rw [h l hl, EReal.bot_sub]; rfl
  have hz : (∑ k, Ideal.exp (S k - peak fun j => S (lane j i))) = total fun j => S (lane j i) := sum_own i _ off
  rw [hz]
  refine sum_own i _ fun l hl => ?_
  rw [off l hl, Ideal.div, if_neg (total_ne _ hf), zero_mul, zero_mul]

theorem both {p q : Bool} (h : IntOp.andi (BitVec.ofBool p) (BitVec.ofBool q) = 1#1) : p = true ∧ q = true := by
  revert h; cases p <;> cases q <;> decide

theorem real_of (x : Ideal .f32) (h : decide (FloatOps.absf (F := Ideal) (φ := .f32) x < Ideal.ofBits .f32 0x7F800000#32) = true) : x ≠ ⊥ ∧ x ≠ ⊤ := by
  have e : Ideal.ofBits .f32 0x7F800000#32 = ⊤ := by simp [Ideal.ofBits, Ideal.ieee]
  have l := of_decide_eq_true h
  rw [e] at l
  refine ⟨fun hx => ?_, fun hx => ?_⟩
  · subst hx; exact absurd l (by show ¬ max (⊥ : EReal) (-⊥) < ⊤; simp)
  · subst hx; exact absurd l (by show ¬ max (⊤ : EReal) (-⊤) < ⊤; simp)

/-- What the precondition says: the queries and the keys are real numbers. -/
theorem finite_of (b : Fin 128) (j : Fin 256) (n : Fin 4) (e : Fin 256) (h : Cert.Pre_finite_keys.fn (F := Ideal) Q KV = fun _ => 1#1) :
    (Q (ix3 b 0 ⟨n.val * 256 + e.val, by omega⟩) ≠ ⊥ ∧ Q (ix3 b 0 ⟨n.val * 256 + e.val, by omega⟩) ≠ ⊤) ∧ (KV (ix5 b j 0 n e) ≠ ⊥ ∧ KV (ix5 b j 0 n e) ≠ ⊤) := by
  have k : Cert.Pre_finite_keys.fn (F := Ideal) Q KV (ix4 b j n e)
      = IntOp.andi (BitVec.ofBool (decide (FloatOps.absf (F := Ideal) (φ := .f32) (Q (ix3 b 0 ⟨n.val * 256 + e.val, by omega⟩)) < Ideal.ofBits .f32 0x7F800000#32)))
          (BitVec.ofBool (decide (FloatOps.absf (F := Ideal) (φ := .f32) (KV (ix5 b j 0 n e)) < Ideal.ofBits .f32 0x7F800000#32))) := by
    pointwise [Cert.Pre_finite_keys.fn]
  have r := both (k.symm.trans (congrFun h (ix4 b j n e)))
  exact ⟨real_of _ r.1, real_of _ r.2⟩

/-- A sum of products of real numbers is a real number. -/
theorem dot_real {n : ℕ} (q k : Fin n → EReal) (hq : ∀ e, q e ≠ ⊥ ∧ q e ≠ ⊤) (hk : ∀ e, k e ≠ ⊥ ∧ k e ≠ ⊤) :
    ∑ e, q e * k e ≠ ⊥ ∧ ∑ e, q e * k e ≠ ⊤ := by
  have h : ∀ e, ∃ r : ℝ, q e * k e = r := fun e => by
    lift q e to ℝ using ⟨(hq e).2, (hq e).1⟩ with a
    lift k e to ℝ using ⟨(hk e).2, (hk e).1⟩ with c
    exact ⟨a * c, (EReal.coe_mul a c).symm⟩
  choose r hr using h
  have s : ∑ e, q e * k e = ((∑ e, r e : ℝ) : EReal) := by
    rw [Finset.sum_congr rfl fun e _ => hr e]
    exact (map_sum (⟨⟨fun x : ℝ => (x : EReal), rfl⟩, fun a c => EReal.coe_add a c⟩ : ℝ →+ EReal) r Finset.univ).symm
  rw [s]
  exact ⟨EReal.coe_ne_bot _, EReal.coe_ne_top _⟩

end Cert.XattnSampleRefIdeal.Term

end
-- ==== Proof.XattnSampleValue.lean ====
/- The sample's attention over memory: what the kernel leaves in its result array is the plain reference's composed term, where
   the queries and the keys are real numbers. -/
module

public import proofs.«01_k».proof.Proof.XattnSampleRows
public import proofs.«01_k».proof.Proof.XattnSampleTerm

@[expose] public section

set_option maxRecDepth 16384

noncomputable section

open Idealize.ShloMosaic Idealize.ShloMosaic.TcCoe Idealize.SL.Sem
open Idealize.ShloMosaic.Pipeline (Dat)

namespace Cert.XattnSampleIdeal.Result

open Cert.XattnSampleIdeal Cert.XattnSampleIdeal.Gen
open Cert.XattnSampleRefIdeal.Term

/-- The sum over a head's 256 columns, as the sums over its two halves, either one first. -/
theorem halves (g : Fin 256 → EReal) (a : Fin 2) :
    (∑ d : Fin 128, g ⟨a.val * 128 + d.val, by omega⟩) + ∑ d : Fin 128, g ⟨(1 - a.val) * 128 + d.val, by omega⟩ = ∑ e, g e := by
  have s : ∑ e, g e = (∑ d : Fin 128, g ⟨d.val, by omega⟩) + ∑ d : Fin 128, g ⟨128 + d.val, by omega⟩ := Fin.sum_univ_add (a := 128) (b := 128) g
  match a with
  | 0 =>
    rw [s]
    exact congrArg₂ (· + ·) (Finset.sum_congr rfl fun d _ => congrArg g (Fin.ext (by show 0 * 128 + d.val = d.val; omega)))
      (Finset.sum_congr rfl fun d _ => congrArg g (Fin.ext (by show (1 - 0) * 128 + d.val = 128 + d.val; omega)))
  | 1 =>
    rw [s, add_comm]
    exact congrArg₂ (· + ·) (Finset.sum_congr rfl fun d _ => congrArg g (Fin.ext (by show (1 - 1) * 128 + d.val = d.val; omega)))
      (Finset.sum_congr rfl fun d _ => congrArg g (Fin.ext (by show 1 * 128 + d.val = 128 + d.val; omega)))

section Row

variable (q : FVec Ideal S1x1x1024 .f32) (kv : FVec Ideal S1x256x2x8x128 .f32) (Q : FVec Ideal S128x1x1024 .f32) (KV : FVec Ideal S128x256x2x4x256 .f32)
  (b : Fin 128) (hq : ∀ k, q (ix3 0 0 k) = Q (ix3 b 0 k))
  (hkv : ∀ (j : Fin 256) (p : Fin 2) (a : Fin 2) (n : Fin 4) (d : Fin 128),
    kv (ix5 0 j p ⟨a.val * 4 + n.val, by omega⟩ d) = KV (ix5 b j p n ⟨a.val * 128 + d.val, by omega⟩))
  (hp : Cert.Pre_finite_keys.fn (F := Ideal) Q KV = fun _ => 1#1)

/-- The row of a head's half. -/
def rowOf (a : Fin 2) (n : Fin 4) : Fin 8 := ⟨a.val * 4 + n.val, by omega⟩

/-- One head's scores. -/
def sc (n : Fin 4) (j : Fin 256) : EReal := ∑ e : Fin 256, Q (ix3 b 0 ⟨n.val * 256 + e.val, by omega⟩) * KV (ix5 b j 0 n e)

include hq hkv in
theorem half_at (a : Fin 2) (n : Fin 4) (i : Fin 8) (hi : i = rowOf a n) (j : Fin 256) (l : Fin 2048) (hl : l = lane j i) :
    prods q kv (ix2 i l) = ∑ d : Fin 128, Q (ix3 b 0 ⟨n.val * 256 + (a.val * 128 + d.val), by omega⟩) * KV (ix5 b j 0 n ⟨a.val * 128 + d.val, by omega⟩) := by
  subst hi; subst hl
  rw [prods_at]
  refine Finset.sum_congr rfl fun d _ => ?_
  rw [rowsQ_at, hq, ← hkv]
  have ha := a.isLt
  have hn := n.isLt
  have hj := j.isLt
  refine congrArg₂ (· * ·) (congrArg Q (congrArg (ix3 b 0) (Fin.ext ?_))) (congrArg kv ?_)
  · show (a.val * 4 + n.val) % 4 * 256 + (a.val * 4 + n.val) / 4 * 128 + d.val = n.val * 256 + (a.val * 128 + d.val)
    omega
  · have e1 : (⟨(lane j (rowOf a n)).val / 8, by omega⟩ : Fin 256) = j := Fin.ext (by show (j.val * 8 + (a.val * 4 + n.val)) / 8 = j.val; omega)
    have e2 : (⟨(lane j (rowOf a n)).val % 8, by omega⟩ : Fin 8) = ⟨a.val * 4 + n.val, by omega⟩ :=
      Fin.ext (by show (j.val * 8 + (a.val * 4 + n.val)) % 8 = a.val * 4 + n.val; omega)
    rw [e1, e2]

include hq hkv in
theorem score_at (a : Fin 2) (n : Fin 4) (j : Fin 256) :
    scores (prods q kv) (ix2 (rowOf a n) (lane j (rowOf a n))) = sc Q KV b n j := by
  have ha := a.isLt
  have hn := n.isLt
  have hj := j.isLt
  rw [scores_at, if_pos (by show (j.val * 8 + (a.val * 4 + n.val)) % 8 = a.val * 4 + n.val; omega),
    half_at q kv Q KV b hq hkv a n _ rfl j _ rfl,
    half_at q kv Q KV b hq hkv ⟨1 - a.val, by omega⟩ n _ (Fin.ext (by show (a.val * 4 + n.val + 4) % 8 = (1 - a.val) * 4 + n.val; omega)) j _
      (Fin.ext (by show (j.val * 8 + (a.val * 4 + n.val)) / 8 * 8 + (a.val * 4 + n.val + 4) % 8 = j.val * 8 + (a.val * 4 + n.val + 4) % 8; omega))]
  exact halves (fun e => Q (ix3 b 0 ⟨n.val * 256 + e.val, by omega⟩) * KV (ix5 b j 0 n e)) a

include hp in
theorem sc_real (n : Fin 4) (j : Fin 256) : sc Q KV b n j ≠ ⊥ ∧ sc Q KV b n j ≠ ⊤ :=
  dot_real _ _ (fun e => (finite_of Q KV b j n e hp).1) (fun e => (finite_of Q KV b j n e hp).2)

include hq hkv hp in
/-- One entry of what a point stores is the reference's there. -/
theorem entry_eq (a : Fin 2) (n : Fin 4) (d : Fin 128) :
    k0_pay1 (F := Ideal) (k0_pay2 kv) (k0_pay3 q kv) (k0_pay4 q kv) (ix3 0 0 ⟨n.val * 256 + (a.val * 128 + d.val), by omega⟩)
      = REF Q KV (ix3 b 0 ⟨n.val * 256 + (a.val * 128 + d.val), by omega⟩) := by
  have ha := a.isLt
  have hn := n.isLt
  have hd := d.isLt
  have hc : (⟨n.val * 256 + (a.val * 128 + d.val), by omega⟩ : Fin 1024) = ⟨(⟨n.val * 2 + a.val, by omega⟩ : Fin 8).val * 128 + d.val, by simp only; omega⟩ :=
    Fin.ext (by simp only; omega)
  have hr : (⟨(⟨n.val * 2 + a.val, by omega⟩ : Fin 8).val % 2 * 4 + (⟨n.val * 2 + a.val, by omega⟩ : Fin 8).val / 2, by simp only; omega⟩ : Fin 8) = rowOf a n :=
    Fin.ext (by show (n.val * 2 + a.val) % 2 * 4 + (n.val * 2 + a.val) / 2 = a.val * 4 + n.val; omega)
  have left : k0_pay1 (F := Ideal) (k0_pay2 kv) (k0_pay3 q kv) (k0_pay4 q kv) (ix3 0 0 ⟨n.val * 256 + (a.val * 128 + d.val), by omega⟩)
      = mixes (k0_pay2 kv) (weights (k0_pay3 q kv) (k0_pay4 q kv)) (ix2 (rowOf a n) d) := by
    rw [hc, pay1_eq, placed_at, hr]
  rw [left, mixes_at]
  refine Eq.trans ?_ (ref_at Q KV b n ⟨a.val * 128 + d.val, by omega⟩).symm
  simp only [weights_at, pay4_at, pay3_eq, exps_at]
  have off : ∀ l : Fin 2048, l.val % 8 ≠ (rowOf a n).val → scores (prods q kv) (ix2 (rowOf a n) l) = ⊥ := fun l hl => by
    rw [scores_at, if_neg hl, low_eq]
  have fin : ∀ j, scores (prods q kv) (ix2 (rowOf a n) (lane j (rowOf a n))) ≠ ⊥ ∧ scores (prods q kv) (ix2 (rowOf a n) (lane j (rowOf a n))) ≠ ⊤ := fun j => by
    rw [score_at q kv Q KV b hq hkv a n j]; exact sc_real Q KV b hp n j
  refine (lanes_mixture (rowOf a n) (fun l => scores (prods q kv) (ix2 (rowOf a n) l)) _ off fin).trans ?_
  refine mixture_congr (fun j => score_at q kv Q KV b hq hkv a n j) fun j => ?_
  rw [← hkv j 1 a n d]
  have hj := j.isLt
  have e1 : (⟨(lane j (rowOf a n)).val / 8, by omega⟩ : Fin 256) = j := Fin.ext (by show (j.val * 8 + (a.val * 4 + n.val)) / 8 = j.val; omega)
  have e2 : (⟨(lane j (rowOf a n)).val % 8, by omega⟩ : Fin 8) = ⟨a.val * 4 + n.val, by omega⟩ :=
    Fin.ext (by show (j.val * 8 + (a.val * 4 + n.val)) % 8 = a.val * 4 + n.val; omega)
  rw [e1, e2]
  pointwise [k0_pay2]

include hq hkv hp in
theorem entry_at (l : Fin 1024) :
    k0_pay1 (F := Ideal) (k0_pay2 kv) (k0_pay3 q kv) (k0_pay4 q kv) (ix3 0 0 l) = REF Q KV (ix3 b 0 l) := by
  have e : l = ⟨(⟨l.val / 256, by omega⟩ : Fin 4).val * 256 + ((⟨l.val % 256 / 128, by omega⟩ : Fin 2).val * 128 + (⟨l.val % 128, by omega⟩ : Fin 128).val), by simp only; omega⟩ :=
    Fin.ext (by simp only; omega)
  rw [e]
  exact entry_eq q kv Q KV b hq hkv hp _ _ _

end Row

variable (m : (ℓ : Loc nD τ sig) → Buf (Elt Ideal) ℓ)

abbrev aQ (c : Dev nD) : FVec Ideal S128x1x1024 .f32 := m ((c : Thread nD τ).loc main_arg0)
abbrev aKV (c : Dev nD) : FVec Ideal S128x256x2x4x256 .f32 := m ((c : Thread nD τ).loc main_arg1)

/-- A point's blocks are those of its sequence. -/
theorem idx : ∀ t : Fin cfg0.N, win0_0.index t = ![t.val, 0, 0] ∧ win0_1.index t = ![t.val, 0, 0, 0, 0] ∧ win0_2.index t = ![t.val, 0, 0] :=
  (by decide +kernel : ∀ t : Fin grid0.N, _)

theorem read0 (c : Dev nD) (t : Fin cfg0.N) (k : Fin 1024) :
    (show FVec Ideal S1x1x1024 .f32 from iblk m c 0 t) (ix3 0 0 k) = aQ m c (ix3 ⟨t.val, t.isLt⟩ 0 k) := by
  blk_ext! [iblk, V, idx t]

theorem read1 (c : Dev nD) (t : Fin cfg0.N) (j : Fin 256) (p : Fin 2) (a : Fin 2) (n : Fin 4) (d : Fin 128) :
    (show FVec Ideal S1x256x2x8x128 .f32 from iblk m c 1 t) (ix5 0 j p ⟨a.val * 4 + n.val, by omega⟩ d)
      = aKV m c (ix5 ⟨t.val, t.isLt⟩ j p n ⟨a.val * 128 + d.val, by omega⟩) := by
  blk_ext! [iblk, V, idx t]

/-- What a point stores at an index is the reference's result there. -/
theorem point (c : Dev nD) (hp : Cert.Pre_finite_keys.fn (F := Ideal) (aQ m c) (aKV m c) = fun _ => 1#1) (t : Fin cfg0.N) (l : Fin 1024) :
    k0_pay1 (F := Ideal) (k0_pay2 (iblk m c 1 t)) (k0_pay3 (iblk m c 0 t) (iblk m c 1 t)) (k0_pay4 (iblk m c 0 t) (iblk m c 1 t)) (ix3 0 0 l)
      = REF (aQ m c) (aKV m c) (ix3 ⟨t.val, t.isLt⟩ 0 l) :=
  entry_at (iblk m c 0 t) (iblk m c 1 t) (aQ m c) (aKV m c) ⟨t.val, t.isLt⟩ (read0 m c t) (read1 m c t) hp l

/-- The result array after the run. -/
theorem final (c : Dev nD) (hp : Cert.Pre_finite_keys.fn (F := Ideal) (aQ m c) (aKV m c) = fun _ => 1#1) :
    (dats m 0 c).arrAt 2 (cfgs 0).N = REF (aQ m c) (aKV m c) := by
  refine (dats m 0 c).arrAt_eq_of_covers 2 _ (by decide +kernel) fun t _ y => ?_
  blk_simp
  rw [after0_2]; frame_out
  have h0 : y 0 = (0 : Fin 1) := Subsingleton.elim (α := Fin 1) _ _
  have h1 : y 1 = (0 : Fin 1) := Subsingleton.elim (α := Fin 1) _ _
  have hy : y = (ix3 0 0 (y 2) : S1x1x1024.Idx) := (eq_ix3 y).trans (congrArg₂ (fun (u v : Fin 1) => (ix3 u v (y 2) : S1x1x1024.Idx)) h0 h1)
  have he : (((cfg0.win 2).blk t).view.emb y) = (ix3 ⟨t.val, t.isLt⟩ 0 (y 2) : S128x1x1024.Idx) := by blk_ext [idx t]
  exact (congrArg _ hy).trans ((point m c hp t (y 2)).trans (congrArg _ he.symm))

end Cert.XattnSampleIdeal.Result

end
-- ==== Proof.XattnSampleClaims.lean ====
/- The claims on the sample's attention over memory. -/
module

public import proofs.«01_k».proof.Defs
public import proofs.«01_k».proof.Proof.Gen.XattnSample.Frame
public import proofs.«01_k».proof.Proof.XattnSampleValue
public import Idealize.ShloMosaic.Adequacy
public import Idealize.ShloMosaic.Init

@[expose] public section

noncomputable section

namespace Cert.XattnSampleClaims

open Idealize.ShloMosaic Idealize.SL.Sem

theorem frame : Cert.quiescent_XattnSample := fun m g _ => Cert.XattnSample.Gen.frame m g

theorem frame_ideal : Cert.quiescent_XattnSampleIdeal := fun m g _ => Cert.XattnSampleIdeal.Gen.frame m g

theorem frame_ideal_pre : Cert.quiescent_XattnSampleIdeal_pre_finite_keys := fun m g _ => Cert.XattnSampleIdeal.Gen.frame m g

theorem frame_ref : Cert.quiescent_XattnSampleRefIdeal := fun m g _ =>
  (θ_run Cert.XattnSampleRefIdeal.defs _ _).mono (fun r h => ⟨fun c => (h c).2, sem_eq_zero_of_no_sems (by decide) r.2⟩) (Cert.XattnSampleRefIdeal.Value.run (F := Ideal) m g)

theorem frame_ref_pre : Cert.quiescent_XattnSampleRefIdeal_pre_finite_keys := fun m g _ => frame_ref m g trivial

set_option maxHeartbeats 2000000 in
theorem algebraic : Cert.algebraic_XattnSampleIdeal_XattnSampleRefIdeal_pre_finite_keys := by
  pair_intro
  · run_from Cert.XattnSampleIdeal.Gen.run_main m g
  · run_from Cert.XattnSampleRefIdeal.Value.run m' g'
    exact (Cert.XattnSampleIdeal.Result.final m c (hpre c)).symm

end Cert.XattnSampleClaims

end
-- ==== Proof.lean ====
module

public import proofs.«01_k».proof.Defs
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MemProj
public import proofs.«01_k».proof.Proof.Gen.MemProj.Skeleton
public import proofs.«01_k».proof.Proof.Gen.MemProj.Launch
public import proofs.«01_k».proof.Proof.Gen.MemProj.Points
public import proofs.«01_k».proof.Proof.Gen.MemProj.Frame
public import proofs.«01_k».proof.Proof.Gen.MemProjIdeal
public import proofs.«01_k».proof.Proof.Gen.MemProjIdeal.Skeleton
public import proofs.«01_k».proof.Proof.Gen.MemProjIdeal.Launch
public import proofs.«01_k».proof.Proof.Gen.MemProjIdeal.Points
public import proofs.«01_k».proof.Proof.Gen.MemProjIdeal.Frame
public import proofs.«01_k».proof.Proof.Gen.MemProjRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MixSample
public import proofs.«01_k».proof.Proof.Gen.MixSample.Skeleton
public import proofs.«01_k».proof.Proof.Gen.MixSample.Launch
public import proofs.«01_k».proof.Proof.Gen.MixSample.Points
public import proofs.«01_k».proof.Proof.Gen.MixSample.Frame
public import proofs.«01_k».proof.Proof.Gen.MixSampleIdeal
public import proofs.«01_k».proof.Proof.Gen.MixSampleIdeal.Skeleton
public import proofs.«01_k».proof.Proof.Gen.MixSampleIdeal.Launch
public import proofs.«01_k».proof.Proof.Gen.MixSampleIdeal.Points
public import proofs.«01_k».proof.Proof.Gen.MixSampleIdeal.Frame
public import proofs.«01_k».proof.Proof.Gen.MixSampleRefIdeal
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.OutSample
public import proofs.«01_k».proof.Proof.Gen.OutSample.Skeleton
public import proofs.«01_k».proof.Proof.Gen.OutSample.Launch
public import proofs.«01_k».proof.Proof.Gen.OutSample.Points
public import proofs.«01_k».proof.Proof.Gen.OutSample.Frame
public import proofs.«01_k».proof.Proof.Gen.OutSampleIdeal
public import proofs.«01_k».proof.Proof.Gen.OutSampleIdeal.Skeleton
public import proofs.«01_k».proof.Proof.Gen.OutSampleIdeal.Launch
public import proofs.«01_k».proof.Proof.Gen.OutSampleIdeal.Points
public import proofs.«01_k».proof.Proof.Gen.OutSampleIdeal.Frame
public import proofs.«01_k».proof.Proof.Gen.OutSampleRefIdeal
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.XattnSample
public import proofs.«01_k».proof.Proof.Gen.XattnSample.Skeleton
public import proofs.«01_k».proof.Proof.Gen.XattnSample.Launch
public import proofs.«01_k».proof.Proof.Gen.XattnSample.Points
public import proofs.«01_k».proof.Proof.Gen.XattnSample.Frame
public import proofs.«01_k».proof.Proof.Gen.XattnSampleIdeal
public import proofs.«01_k».proof.Proof.Gen.XattnSampleIdeal.Skeleton
public import proofs.«01_k».proof.Proof.Gen.XattnSampleIdeal.Launch
public import proofs.«01_k».proof.Proof.Gen.XattnSampleIdeal.Points
public import proofs.«01_k».proof.Proof.Gen.XattnSampleIdeal.Frame
public import proofs.«01_k».proof.Proof.Gen.XattnSampleRefIdeal
public import proofs.«01_k».proof.Proof.Gen.XattnIdeal.Value
public import proofs.«01_k».proof.Proof.Gen.XattnRefIdeal.Run
public import proofs.«01_k».proof.Proof.Gen.MixInIdeal.Value
public import proofs.«01_k».proof.Proof.Gen.MixInRefIdeal.Run
public import proofs.«01_k».proof.Proof.Gen.MemProjIdeal.Value
public import proofs.«01_k».proof.Proof.Gen.MemProjRefIdeal.Run
public import proofs.«01_k».proof.Proof.Gen.FfnRefIdeal.Run
public import proofs.«01_k».proof.Proof.Gen.FfnRefIdeal.Read
public import proofs.«01_k».proof.Proof.Gen.MixSampleRefIdeal.Run
public import proofs.«01_k».proof.Proof.Gen.MixSampleRefIdeal.Read
public import proofs.«01_k».proof.Proof.Gen.FfnSampleRefIdeal.Run
public import proofs.«01_k».proof.Proof.Gen.FfnSampleRefIdeal.Read
public import proofs.«01_k».proof.Proof.Gen.OutSampleRefIdeal.Run
public import proofs.«01_k».proof.Proof.Gen.OutSampleRefIdeal.Read
public import proofs.«01_k».proof.Proof.Gen.ProjSampleRefIdeal.Run
public import proofs.«01_k».proof.Proof.Gen.ProjSampleRefIdeal.Read
public import proofs.«01_k».proof.Proof.Gen.XattnSampleRefIdeal.Run
public import proofs.«01_k».proof.Proof.Gen.XattnSampleRefIdeal.Read
public import proofs.«01_k».proof.Proof.XattnClaims
public import proofs.«01_k».proof.Proof.MixInClaims
public import proofs.«01_k».proof.Proof.MemProjClaims
public import proofs.«01_k».proof.Proof.FfnClaims
public import proofs.«01_k».proof.Proof.MixSampleClaims
public import proofs.«01_k».proof.Proof.FfnSampleClaims
public import proofs.«01_k».proof.Proof.OutSampleClaims
public import proofs.«01_k».proof.Proof.ProjSampleClaims
public import proofs.«01_k».proof.Proof.XattnSampleClaims
public import proofs.«01_k».proof.Proof.Gen.Pre_finite_keys
public import Idealize.ShloMosaic.Adequacy
public import Idealize.ShloMosaic.Init

@[expose] public section

noncomputable section

namespace Cert.Proof

open Idealize.ShloMosaic Idealize.SL.Sem Cert.Xattn

theorem claim : Cert.Claim := ⟨Cert.Xattn.Gen.facts, Cert.XattnIdeal.Gen.facts, Cert.XattnRefIdeal.Gen.facts,
  Cert.MixIn.Gen.facts, Cert.MixInIdeal.Gen.facts, Cert.MixInRefIdeal.Gen.facts,
  Cert.MemProj.Gen.facts, Cert.MemProjIdeal.Gen.facts, Cert.MemProjRefIdeal.Gen.facts,
  Cert.Ffn.Gen.facts, Cert.FfnIdeal.Gen.facts, Cert.FfnRefIdeal.Gen.facts,
  Cert.MixSample.Gen.facts, Cert.MixSampleIdeal.Gen.facts, Cert.MixSampleRefIdeal.Gen.facts,
  Cert.FfnSample.Gen.facts, Cert.FfnSampleIdeal.Gen.facts, Cert.FfnSampleRefIdeal.Gen.facts,
  Cert.OutSample.Gen.facts, Cert.OutSampleIdeal.Gen.facts, Cert.OutSampleRefIdeal.Gen.facts,
  Cert.ProjSample.Gen.facts, Cert.ProjSampleIdeal.Gen.facts, Cert.ProjSampleRefIdeal.Gen.facts,
  Cert.XattnSample.Gen.facts, Cert.XattnSampleIdeal.Gen.facts, Cert.XattnSampleRefIdeal.Gen.facts,
  Cert.Pre_finite_keys.Gen.facts,
  Cert.XattnClaims.frame, Cert.XattnClaims.frame_ideal, Cert.XattnClaims.frame_ref,
  Cert.MixInClaims.frame, Cert.MixInClaims.frame_ideal, Cert.MixInClaims.frame_ref,
  Cert.MemProjClaims.frame, Cert.MemProjClaims.frame_ideal, Cert.MemProjClaims.frame_ref,
  Cert.FfnClaims.frame, Cert.FfnClaims.frame_ideal, Cert.FfnClaims.frame_ref,
  Cert.MixSampleClaims.frame, Cert.MixSampleClaims.frame_ideal, Cert.MixSampleClaims.frame_ref,
  Cert.FfnSampleClaims.frame, Cert.FfnSampleClaims.frame_ideal, Cert.FfnSampleClaims.frame_ref,
  Cert.OutSampleClaims.frame, Cert.OutSampleClaims.frame_ideal, Cert.OutSampleClaims.frame_ref,
  Cert.ProjSampleClaims.frame, Cert.ProjSampleClaims.frame_ideal, Cert.ProjSampleClaims.frame_ref,
  Cert.XattnSampleClaims.frame, Cert.XattnSampleClaims.frame_ideal, Cert.XattnSampleClaims.frame_ideal_pre, Cert.XattnSampleClaims.frame_ref, Cert.XattnSampleClaims.frame_ref_pre,
  trivial, Cert.XattnClaims.algebraic, trivial, Cert.MixInClaims.algebraic, trivial, Cert.MemProjClaims.algebraic, trivial, Cert.FfnClaims.algebraic, trivial, Cert.MixSampleClaims.algebraic, trivial, Cert.FfnSampleClaims.algebraic, trivial, Cert.OutSampleClaims.algebraic, trivial, Cert.ProjSampleClaims.algebraic, trivial, Cert.XattnSampleClaims.algebraic⟩

end Cert.Proof

end
